-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v40) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_v33) = v1 c
          ∧ r.2.mem ((c.tc : Thread Cert.Reference18Ideal.nD Cert.Reference18Ideal.τ).loc Cert.Reference18Ideal.main_v34) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v28) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S8704x2048 : Shape := ⟨2, ![8704, 2048]⟩
abbrev S8704x1024 : Shape := ⟨2, ![8704, 1024]⟩
abbrev S2048x1024 : Shape := ⟨2, ![2048, 1024]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S2048x1024, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .f32⟩
  | .local _ .vmem, ⟨5, _⟩ => ⟨S1024x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelIdeal.lean ====
abbrev S8704x2048 : Shape := ⟨2, ![8704, 2048]⟩
abbrev S8704x1024 : Shape := ⟨2, ![8704, 1024]⟩
abbrev S2048x1024 : Shape := ⟨2, ![2048, 1024]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S2048x1024, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .f32⟩
  | .local _ .vmem, ⟨5, _⟩ => ⟨S1024x1024, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S8704x2048 : Shape := ⟨2, ![8704, 2048]⟩
abbrev S8704x1024 : Shape := ⟨2, ![8704, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x1024, .bf16⟩
  | .hbm, ⟨2, _⟩ => ⟨S8704x2048, .f32⟩
  | .hbm, ⟨3, _⟩ => ⟨S8704x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S8704x2048, .f32⟩
  | .hbm, ⟨8, _⟩ => ⟨S2048x1024, .f32⟩
  | .hbm, ⟨9, _⟩ => ⟨S1024x2048, .f32⟩
  | .hbm, ⟨10, _⟩ => ⟨S2048x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel2.lean ====
abbrev S8704x1024 : Shape := ⟨2, ![8704, 1024]⟩
abbrev S1024x1024 : Shape := ⟨2, ![1024, 1024]⟩
abbrev S4352x1024 : Shape := ⟨2, ![4352, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .f32⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .f32⟩
  | .hbm, ⟨3, _⟩ => ⟨S8704x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S8704x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2x4352x1024 : Shape := ⟨3, ![2, 4352, 1024]⟩
abbrev S2x4352x2048 : Shape := ⟨3, ![2, 4352, 2048]⟩
abbrev S2x4352x128 : Shape := ⟨3, ![2, 4352, 128]⟩
abbrev S9280x1024 : Shape := ⟨2, ![9280, 1024]⟩
abbrev S64x1024 : Shape := ⟨2, ![64, 1024]⟩
abbrev S_ : Shape := ⟨0, ![]⟩
abbrev S128x1024 : Shape := ⟨2, ![128, 1024]⟩
abbrev S1x1088x1024 : Shape := ⟨3, ![1, 1088, 1024]⟩
abbrev S1x1088x128 : Shape := ⟨3, ![1, 1088, 128]⟩
abbrev S1024x1024 : Shape := ⟨2, ![1024, 1024]⟩
abbrev S1088x1024 : Shape := ⟨2, ![1088, 1024]⟩
abbrev S1088x128 : Shape := ⟨2, ![1088, 128]⟩

abbrev nBuf : Space → Nat
  | .hbm => 13
  | .vmem => 20
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x4352x2048, .bf16⟩
  | .hbm, ⟨3, _⟩ => ⟨S2x4352x2048, .bf16⟩
  | .hbm, ⟨4, _⟩ => ⟨S2x4352x2048, .bf16⟩
  | .hbm, ⟨5, _⟩ => ⟨S2x4352x1024, .bf16⟩
  | .hbm, ⟨6, _⟩ => ⟨S2x4352x128, .bf16⟩
  | .hbm, ⟨7, _⟩ => ⟨S9280x1024, .bf16⟩
  | .hbm, ⟨8, _⟩ => ⟨S64x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S2x4352x1024, .bf16⟩
  | .local _ .vmem, ⟨0, _⟩ => ⟨S1x1088x1024, .bf16⟩
  | .local _ .vmem, ⟨1, _⟩ => ⟨S1x1088x1024, .bf16⟩
  | .local _ .vmem, ⟨2, _⟩ => ⟨S1x1088x1024, .bf16⟩
  | .local _ .vmem, ⟨3, _⟩ => ⟨S1x1088x1024, .bf16⟩
  | .local _ .vmem, ⟨4, _⟩ => ⟨S1x1088x1024, .bf16⟩
  | .local _ .vmem, ⟨5, _⟩ => ⟨S1x1088x1024, .bf16⟩
  | .local _ .vmem, ⟨6, _⟩ => ⟨S1x1088x1024, .bf16⟩
  | .local _ .vmem, ⟨7, _⟩ => ⟨S1x1088x1024, .bf16⟩
  | .local _ .vmem, ⟨8, _⟩ => ⟨S1x1088x1024, .bf16⟩
  | .local _ .vmem, ⟨9, _⟩ => ⟨S1x1088x1024, .bf16⟩
  | .local _ .vmem, ⟨10, _⟩ => ⟨S1x1088x1024, .bf16⟩
  | .local _ .vmem, ⟨11, _⟩ => ⟨S1x1088x1024, .bf16⟩
  | .local _ .vmem, ⟨12, _⟩ => ⟨S1x1088x128, .bf16⟩
  | .local _ .vmem, ⟨13, _⟩ => ⟨S1x1088x128, .bf16⟩
  | .local _ .vmem, ⟨14, _⟩ => ⟨S1024x1024, .bf16⟩
  | .local _ .vmem, ⟨15, _⟩ => ⟨S1024x1024, .bf16⟩
  | .local _ .vmem, ⟨16, _⟩ => ⟨S128x1024, .bf16⟩
  | .local _ .vmem, ⟨17, _⟩ => ⟨S1x1088x1024, .bf16⟩
  | .local _ .vmem, ⟨18, _⟩ => ⟨S1x1088x1024, .bf16⟩
  | .local _ .vmem, ⟨19, _⟩ => ⟨S1088x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 4, 9], ![false, false, false]⟩

def k0_cond8 (i : grid0.Coords) : BitVec 1 :=
  let arg2 : BitVec 32 := BitVec.ofNat 32 (i 2).val
  let c8_i32_13 : BitVec 32 := 8#32
  let v33 : BitVec 1 := Scalar.cmpi .eq arg2 c8_i32_13
  let v34 : BitVec 32 := Scalar.extui v33
  let c0_i32_14 : BitVec 32 := 0#32
  let v35 : BitVec 1 := Scalar.cmpi .ne v34 c0_i32_14
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, arg1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1088x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1088x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1088x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference3Ideal.lean ====
abbrev S2x4352x1024 : Shape := ⟨3, ![2, 4352, 1024]⟩
abbrev S2x4352x2048 : Shape := ⟨3, ![2, 4352, 2048]⟩
abbrev S2x4352x128 : Shape := ⟨3, ![2, 4352, 128]⟩
abbrev S9280x1024 : Shape := ⟨2, ![9280, 1024]⟩
abbrev S2x4352x64 : Shape := ⟨3, ![2, 4352, 64]⟩
abbrev S2x4352x9280 : Shape := ⟨3, ![2, 4352, 9280]⟩
abbrev S_ : Shape := ⟨0, ![]⟩
abbrev S1024x9280 : Shape := ⟨2, ![1024, 9280]⟩

abbrev nBuf : Space → Nat
  | .hbm => 24
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x1024, .bf16⟩
  | .hbm, ⟨2, _⟩ => ⟨S2x4352x2048, .bf16⟩
  | .hbm, ⟨3, _⟩ => ⟨S2x4352x2048, .bf16⟩
  | .hbm, ⟨4, _⟩ => ⟨S2x4352x2048, .bf16⟩
  | .hbm, ⟨5, _⟩ => ⟨S2x4352x1024, .bf16⟩
  | .hbm, ⟨6, _⟩ => ⟨S2x4352x128, .bf16⟩
  | .hbm, ⟨7, _⟩ => ⟨S9280x1024, .bf16⟩
  | .hbm, ⟨8, _⟩ => ⟨S2x4352x64, .bf16⟩
  | .hbm, ⟨9, _⟩ => ⟨S2x4352x1024, .f32⟩
  | .hbm, ⟨10, _⟩ => ⟨S2x4352x1024, .f32⟩
  | .hbm, ⟨11, _⟩ => ⟨S2x4352x2048, .f32⟩
  | .hbm, ⟨12, _⟩ => ⟨S2x4352x2048, .f32⟩
  | .hbm, ⟨13, _⟩ => ⟨S2x4352x2048, .f32⟩
  | .hbm, ⟨14, _⟩ => ⟨S2x4352x1024, .f32⟩
  | .hbm, ⟨15, _⟩ => ⟨S2x4352x64, .f32⟩
  | .hbm, ⟨16, _⟩ => ⟨S2x4352x9280, .f32⟩
  | .hbm, ⟨17, _⟩ => ⟨S9280x1024, .f32⟩
  | .hbm, ⟨18, _⟩ => ⟨S_, .f32⟩
  | .hbm, ⟨19, _⟩ => ⟨S2x4352x1024, .f32⟩
  | .hbm, ⟨20, _⟩ => ⟨S1024x9280, .f32⟩
  | .hbm, ⟨21, _⟩ => ⟨S2x4352x9280, .f32⟩
  | .hbm, ⟨22, _⟩ => ⟨S2x4352x1024, .f32⟩
  | .hbm, ⟨23, _⟩ => ⟨S2x4352x1024, .bf16⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S8704x1024 : Shape := ⟨2, ![8704, 1024]⟩
abbrev S9280x1024 : Shape := ⟨2, ![9280, 1024]⟩
abbrev S8704x9216 : Shape := ⟨2, ![8704, 9216]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S9280x1024, .bf16⟩
  | .hbm, ⟨2, _⟩ => ⟨S8704x9216, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | .local _ .vmem, ⟨6, _⟩ => ⟨S2176x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8704x1024 : Shape := ⟨2, ![8704, 1024]⟩
abbrev S9280x1024 : Shape := ⟨2, ![9280, 1024]⟩
abbrev S1024x9280 : Shape := ⟨2, ![1024, 9280]⟩
abbrev S8704x9280 : Shape := ⟨2, ![8704, 9280]⟩
abbrev S8704x9216 : Shape := ⟨2, ![8704, 9216]⟩

abbrev nBuf : Space → Nat
  | .hbm => 8
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S9280x1024, .bf16⟩
  | .hbm, ⟨2, _⟩ => ⟨S8704x1024, .f32⟩
  | .hbm, ⟨3, _⟩ => ⟨S9280x1024, .f32⟩
  | .hbm, ⟨4, _⟩ => ⟨S1024x9280, .f32⟩
  | .hbm, ⟨5, _⟩ => ⟨S8704x9280, .f32⟩
  | .hbm, ⟨6, _⟩ => ⟨S8704x9216, .f32⟩
  | .hbm, ⟨7, _⟩ => ⟨S8704x9216, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel9Ideal.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4x1728x1024 : Shape := ⟨3, ![4, 1728, 1024]⟩
abbrev S1728x1024 : Shape := ⟨2, ![1728, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1728x1024, .bf16⟩
  | .hbm, ⟨1, _⟩ => ⟨S1728x1024, .f32⟩
  | .hbm, ⟨2, _⟩ => ⟨S1728x1024, .f32⟩
  | .hbm, ⟨3, _⟩ => ⟨S1728x1024, .f32⟩
  | .hbm, ⟨4, _⟩ => ⟨S1728x1024, .f32⟩
  | .hbm, ⟨5, _⟩ => ⟨S1728x1024, .f32⟩
  | .hbm, ⟨6, _⟩ => ⟨S1728x1024, .f32⟩
  | .hbm, ⟨7, _⟩ => ⟨S1728x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x1728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
abbrev S4x1728x1024 : Shape := ⟨3, ![4, 1728, 1024]⟩
abbrev S1728x1024 : Shape := ⟨2, ![1728, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1728x1024, .bf16⟩
  | .hbm, ⟨1, _⟩ => ⟨S1728x1024, .f32⟩
  | .hbm, ⟨2, _⟩ => ⟨S1728x1024, .f32⟩
  | .hbm, ⟨3, _⟩ => ⟨S1728x1024, .f32⟩
  | .hbm, ⟨4, _⟩ => ⟨S1728x1024, .f32⟩
  | .hbm, ⟨5, _⟩ => ⟨S1728x1024, .f32⟩
  | .hbm, ⟨6, _⟩ => ⟨S1728x1024, .f32⟩
  | .hbm, ⟨7, _⟩ => ⟨S1728x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x1728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4x1728x1024 : Shape := ⟨3, ![4, 1728, 1024]⟩
abbrev S1728x1024 : Shape := ⟨2, ![1728, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1728x1024, .bf16⟩
  | .hbm, ⟨1, _⟩ => ⟨S1728x1024, .f32⟩
  | .hbm, ⟨2, _⟩ => ⟨S1728x1024, .f32⟩
  | .hbm, ⟨3, _⟩ => ⟨S1728x1024, .f32⟩
  | .hbm, ⟨4, _⟩ => ⟨S4x1728x1024, .f32⟩
  | .hbm, ⟨5, _⟩ => ⟨S_, .f32⟩
  | .hbm, ⟨6, _⟩ => ⟨S1728x1024, .f32⟩
  | .hbm, ⟨7, _⟩ => ⟨S_, .f32⟩
  | .hbm, ⟨8, _⟩ => ⟨S1728x1024, .f32⟩
  | .hbm, ⟨9, _⟩ => ⟨S1728x1024, .f32⟩
  | .hbm, ⟨10, _⟩ => ⟨S_, .f32⟩
  | .hbm, ⟨11, _⟩ => ⟨S1728x1024, .f32⟩
  | .hbm, ⟨12, _⟩ => ⟨S1728x1024, .f32⟩
  | .hbm, ⟨13, _⟩ => ⟨S1728x1024, .f32⟩
  | .hbm, ⟨14, _⟩ => ⟨S_, .f32⟩
  | .hbm, ⟨15, _⟩ => ⟨S1728x1024, .f32⟩
  | .hbm, ⟨16, _⟩ => ⟨S1728x1024, .f32⟩
  | .hbm, ⟨17, _⟩ => ⟨S1728x1024, .f32⟩
  | .hbm, ⟨18, _⟩ => ⟨S_, .f32⟩
  | .hbm, ⟨19, _⟩ => ⟨S1728x1024, .f32⟩
  | .hbm, ⟨20, _⟩ => ⟨S1728x1024, .f32⟩
  | .hbm, ⟨21, _⟩ => ⟨S1728x1024, .f32⟩
  | .hbm, ⟨22, _⟩ => ⟨S_, .f32⟩
  | .hbm, ⟨23, _⟩ => ⟨S1728x1024, .f32⟩
  | .hbm, ⟨24, _⟩ => ⟨S1728x1024, .f32⟩
  | .hbm, ⟨25, _⟩ => ⟨S_, .f32⟩
  | .hbm, ⟨26, _⟩ => ⟨S1728x1024, .f32⟩
  | .hbm, ⟨27, _⟩ => ⟨S1728x1024, .f32⟩
  | .hbm, ⟨28, _⟩ => ⟨S1728x1024, .f32⟩
  | .hbm, ⟨29, _⟩ => ⟨S_, .f32⟩
  | .hbm, ⟨30, _⟩ => ⟨S1728x1024, .f32⟩
  | .hbm, ⟨31, _⟩ => ⟨S1728x1024, .f32⟩
  | .hbm, ⟨32, _⟩ => ⟨S1728x1024, .f32⟩
  | .hbm, ⟨33, _⟩ => ⟨S_, .f32⟩
  | .hbm, ⟨34, _⟩ => ⟨S1728x1024, .f32⟩
  | .hbm, ⟨35, _⟩ => ⟨S1728x1024, .f32⟩
  | .hbm, ⟨36, _⟩ => ⟨S1728x1024, .f32⟩
  | .hbm, ⟨37, _⟩ => ⟨S_, .f32⟩
  | .hbm, ⟨38, _⟩ => ⟨S1728x1024, .f32⟩
  | .hbm, ⟨39, _⟩ => ⟨S1728x1024, .f32⟩
  | _, _ => ⟨S4x1728x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x384x1024 : Shape := ⟨3, ![4, 384, 1024]⟩
abbrev S384x1024 : Shape := ⟨2, ![384, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
abbrev S4x384x1024 : Shape := ⟨3, ![4, 384, 1024]⟩
abbrev S384x1024 : Shape := ⟨2, ![384, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x64x1024, .bf16⟩
  | .local _ .vmem, ⟨1, _⟩ => ⟨S4x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4x384x1024 : Shape := ⟨3, ![4, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S4x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S8704x1024 : Shape := ⟨2, ![8704, 1024]⟩
abbrev S128x1024 : Shape := ⟨2, ![128, 1024]⟩
abbrev S8704x128 : Shape := ⟨2, ![8704, 128]⟩
abbrev S1088x1024 : Shape := ⟨2, ![1088, 1024]⟩
abbrev S1088x128 : Shape := ⟨2, ![1088, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S128x1024, .bf16⟩
  | .hbm, ⟨2, _⟩ => ⟨S8704x128, .f32⟩
  | .local _ .vmem, ⟨0, _⟩ => ⟨S1088x1024, .bf16⟩
  | .local _ .vmem, ⟨1, _⟩ => ⟨S1088x1024, .bf16⟩
  | .local _ .vmem, ⟨2, _⟩ => ⟨S128x1024, .bf16⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8704x1024 : Shape := ⟨2, ![8704, 1024]⟩
abbrev S128x1024 : Shape := ⟨2, ![128, 1024]⟩
abbrev S1024x128 : Shape := ⟨2, ![1024, 128]⟩
abbrev S8704x128 : Shape := ⟨2, ![8704, 128]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S128x1024, .bf16⟩
  | .hbm, ⟨2, _⟩ => ⟨S8704x1024, .f32⟩
  | .hbm, ⟨3, _⟩ => ⟨S128x1024, .f32⟩
  | .hbm, ⟨4, _⟩ => ⟨S1024x128, .f32⟩
  | .hbm, ⟨5, _⟩ => ⟨S8704x128, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8704x128 : Shape := ⟨2, ![8704, 128]⟩
abbrev S8704x1024 : Shape := ⟨2, ![8704, 1024]⟩
abbrev S128x1024 : Shape := ⟨2, ![128, 1024]⟩
abbrev S1088x128 : Shape := ⟨2, ![1088, 128]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x128, .bf16⟩
  | .hbm, ⟨1, _⟩ => ⟨S8704x1024, .bf16⟩
  | .hbm, ⟨2, _⟩ => ⟨S128x1024, .f32⟩
  | .local _ .vmem, ⟨0, _⟩ => ⟨S1088x128, .bf16⟩
  | .local _ .vmem, ⟨1, _⟩ => ⟨S1088x128, .bf16⟩
  | .local _ .vmem, ⟨2, _⟩ => ⟨S1088x1024, .bf16⟩
  | .local _ .vmem, ⟨3, _⟩ => ⟨S1088x1024, .bf16⟩
  | .local _ .vmem, ⟨4, _⟩ => ⟨S128x1024, .f32⟩
  | _, _ => ⟨S8704x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8704x128 : Shape := ⟨2, ![8704, 128]⟩
abbrev S8704x1024 : Shape := ⟨2, ![8704, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S8704x128, .bf16⟩
  | .hbm, ⟨1, _⟩ => ⟨S8704x1024, .bf16⟩
  | .hbm, ⟨2, _⟩ => ⟨S8704x128, .f32⟩
  | .hbm, ⟨3, _⟩ => ⟨S8704x1024, .f32⟩
  | .hbm, ⟨4, _⟩ => ⟨S_, .f32⟩
  | .hbm, ⟨5, _⟩ => ⟨S128x1024, .f32⟩
  | .hbm, ⟨6, _⟩ => ⟨S1024x128, .f32⟩
  | .hbm, ⟨7, _⟩ => ⟨S8704x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S8704x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S2x4352x9216 : Shape := ⟨3, ![2, 4352, 9216]⟩
abbrev S2x4096x1024 : Shape := ⟨3, ![2, 4096, 1024]⟩
abbrev S1x2048 : Shape := ⟨2, ![1, 2048]⟩
abbrev S1x512x2048 : Shape := ⟨3, ![1, 512, 2048]⟩
abbrev S1x512x1024 : Shape := ⟨3, ![1, 512, 1024]⟩
abbrev S512x2048 : Shape := ⟨2, ![512, 2048]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2x4352x9216, .bf16⟩
  | .hbm, ⟨1, _⟩ => ⟨S2x4096x1024, .bf16⟩
  | .hbm, ⟨2, _⟩ => ⟨S2x4096x1024, .bf16⟩
  | .hbm, ⟨3, _⟩ => ⟨S1x2048, .f32⟩
  | .hbm, ⟨4, _⟩ => ⟨S2x4096x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x2048, .f32⟩
  | .local _ .vmem, ⟨7, _⟩ => ⟨S1x512x1024, .bf16⟩
  | .local _ .vmem, ⟨8, _⟩ => ⟨S1x512x1024, .bf16⟩
  | _, _ => ⟨S2x4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S2x4352x9216 : Shape := ⟨3, ![2, 4352, 9216]⟩
abbrev S2x4096x1024 : Shape := ⟨3, ![2, 4096, 1024]⟩
abbrev S1x2048 : Shape := ⟨2, ![1, 2048]⟩
abbrev S2x4096x2048 : Shape := ⟨3, ![2, 4096, 2048]⟩
abbrev S1x1x2048 : Shape := ⟨3, ![1, 1, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2x4352x9216, .bf16⟩
  | .hbm, ⟨1, _⟩ => ⟨S2x4096x1024, .bf16⟩
  | .hbm, ⟨2, _⟩ => ⟨S2x4096x1024, .bf16⟩
  | .hbm, ⟨3, _⟩ => ⟨S1x2048, .f32⟩
  | .hbm, ⟨4, _⟩ => ⟨S2x4096x2048, .bf16⟩
  | .hbm, ⟨5, _⟩ => ⟨S2x4096x2048, .f32⟩
  | .hbm, ⟨6, _⟩ => ⟨S2x4096x1024, .f32⟩
  | .hbm, ⟨7, _⟩ => ⟨S2x4096x1024, .f32⟩
  | .hbm, ⟨8, _⟩ => ⟨S1x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096x2048, .f32⟩
  | .hbm, ⟨18, _⟩ => ⟨S2x4096x2048, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .bf16⟩
  | _, _ => ⟨S2x4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel17.lean ====
abbrev S2x4352x1024 : Shape := ⟨3, ![2, 4352, 1024]⟩
abbrev S2x4096x1024 : Shape := ⟨3, ![2, 4096, 1024]⟩
abbrev S2x256x1024 : Shape := ⟨3, ![2, 256, 1024]⟩
abbrev S2x2x8x1024 : Shape := ⟨4, ![2, 2, 8, 1024]⟩
abbrev S1x256x1024 : Shape := ⟨3, ![1, 256, 1024]⟩
abbrev S1x1x8x1024 : Shape := ⟨4, ![1, 1, 8, 1024]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x4352x1024, .bf16⟩
  | .hbm, ⟨1, _⟩ => ⟨S2x4096x1024, .f32⟩
  | .hbm, ⟨2, _⟩ => ⟨S2x256x1024, .f32⟩
  | .hbm, ⟨3, _⟩ => ⟨S2x2x8x1024, .f32⟩
  | .hbm, ⟨4, _⟩ => ⟨S2x4096x1024, .bf16⟩
  | .hbm, ⟨5, _⟩ => ⟨S2x4096x1024, .f32⟩
  | .hbm, ⟨6, _⟩ => ⟨S2x2x8x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x1x8x1024, .f32⟩
  | .local _ .vmem, ⟨13, _⟩ => ⟨S1x1x8x1024, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32_29 : BitVec 32 := 16#32
  let v41 : BitVec 1 := Scalar.cmpi .slt arg1 c16_i32_29
  let v42 : BitVec 32 := Scalar.extui v41
  let c0_i32_30 : BitVec 32 := 0#32
  let v43 : BitVec 1 := Scalar.cmpi .ne v42 c0_i32_30
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x4352x1024 : Shape := ⟨3, ![2, 4352, 1024]⟩
abbrev S2x4096x1024 : Shape := ⟨3, ![2, 4096, 1024]⟩
abbrev S2x256x1024 : Shape := ⟨3, ![2, 256, 1024]⟩
abbrev S2x2x8x1024 : Shape := ⟨4, ![2, 2, 8, 1024]⟩
abbrev S2x1x1x1024 : Shape := ⟨4, ![2, 1, 1, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4096x1024, .f32⟩
  | .hbm, ⟨2, _⟩ => ⟨S2x256x1024, .f32⟩
  | .hbm, ⟨3, _⟩ => ⟨S2x2x8x1024, .f32⟩
  | .hbm, ⟨4, _⟩ => ⟨S2x4096x1024, .bf16⟩
  | .hbm, ⟨5, _⟩ => ⟨S2x4096x1024, .bf16⟩
  | .hbm, ⟨6, _⟩ => ⟨S2x4096x1024, .f32⟩
  | .hbm, ⟨7, _⟩ => ⟨S2x4096x1024, .f32⟩
  | .hbm, ⟨8, _⟩ => ⟨S2x1x1x1024, .f32⟩
  | .hbm, ⟨9, _⟩ => ⟨S2x1x1024, .f32⟩
  | .hbm, ⟨10, _⟩ => ⟨S2x1x1x1024, .f32⟩
  | .hbm, ⟨11, _⟩ => ⟨S2x1x1024, .f32⟩
  | .hbm, ⟨12, _⟩ => ⟨S2x4096x1024, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S_, .f32⟩
  | .hbm, ⟨46, _⟩ => ⟨S2x4096, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel18.lean ====
abbrev S2x4096x1024 : Shape := ⟨3, ![2, 4096, 1024]⟩
abbrev S2x4352x9216 : Shape := ⟨3, ![2, 4352, 9216]⟩
abbrev S1x2048 : Shape := ⟨2, ![1, 2048]⟩
abbrev S2x4352x2048 : Shape := ⟨3, ![2, 4352, 2048]⟩
abbrev S2x8x2048 : Shape := ⟨3, ![2, 8, 2048]⟩
abbrev S1x256x1024 : Shape := ⟨3, ![1, 256, 1024]⟩
abbrev S1x256x2048 : Shape := ⟨3, ![1, 256, 2048]⟩
abbrev S1x8x2048 : Shape := ⟨3, ![1, 8, 2048]⟩
abbrev S256x2048 : Shape := ⟨2, ![256, 2048]⟩
abbrev S256x1024 : Shape := ⟨2, ![256, 1024]⟩
abbrev S1x1x2048 : Shape := ⟨3, ![1, 1, 2048]⟩
abbrev S2048 : Shape := ⟨1, ![2048]⟩

abbrev nBuf : Space → Nat
  | .hbm => 9
  | .vmem => 17
  | .smem => 0
  | _ => 0

abbrev bufTy : (tb : Table) → Fin (tcTables nBuf tb) → BufTy
  | .hbm, ⟨0, _⟩ => ⟨S2x4096x1024, .bf16⟩
  | .hbm, ⟨1, _⟩ => ⟨S2x4352x9216, .bf16⟩
  | .hbm, ⟨2, _⟩ => ⟨S2x4096x1024, .bf16⟩
  | .hbm, ⟨3, _⟩ => ⟨S2x4096x1024, .bf16⟩
  | .hbm, ⟨4, _⟩ => ⟨S1x2048, .f32⟩
  | .hbm, ⟨5, _⟩ => ⟨S2x4096x1024, .bf16⟩
  | .hbm, ⟨6, _⟩ => ⟨S2x4096x1024, .bf16⟩
  | .hbm, ⟨7, _⟩ => ⟨S2x4352x2048, .bf16⟩
  | .hbm, ⟨8, _⟩ => ⟨S2x8x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x8x2048, .f32⟩
  | .local _ .vmem, ⟨16, _⟩ => ⟨S1x8x2048, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 17], ![false, false]⟩

def k0_cond3 (i : grid0.Coords) : BitVec 1 :=
  let arg1 : BitVec 32 := BitVec.ofNat 32 (i 1).val
  let c16_i32_2 : BitVec 32 := 16#32
  let v6 : BitVec 1 := Scalar.cmpi .slt arg1 c16_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c16_i32 : BitVec 32 := 16#32
  let v3 : BitVec 1 := Scalar.cmpi .sge arg1 c16_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c2_i32 : BitVec 32 := 2#32
  let c0_i32 : BitVec 32 := 0#32
  ![arg0.toNat, v0.toNat, c2_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference18Ideal.lean ====
abbrev S2x4096x1024 : Shape := ⟨3, ![2, 4096, 1024]⟩
abbrev S2x4352x9216 : Shape := ⟨3, ![2, 4352, 9216]⟩
abbrev S1x2048 : Shape := ⟨2, ![1, 2048]⟩
abbrev S2x4352x2048 : Shape := ⟨3, ![2, 4352, 2048]⟩
abbrev S2x4096x2048 : Shape := ⟨3, ![2, 4096, 2048]⟩
abbrev S1x1x2048 : Shape := ⟨3, ![1, 1, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4352x9216, .bf16⟩
  | .hbm, ⟨2, _⟩ => ⟨S2x4096x1024, .bf16⟩
  | .hbm, ⟨3, _⟩ => ⟨S2x4096x1024, .bf16⟩
  | .hbm, ⟨4, _⟩ => ⟨S1x2048, .f32⟩
  | .hbm, ⟨5, _⟩ => ⟨S2x4352x2048, .bf16⟩
  | .hbm, ⟨6, _⟩ => ⟨S2x4096x1024, .f32⟩
  | .hbm, ⟨7, _⟩ => ⟨S2x4352x2048, .f32⟩
  | .hbm, ⟨8, _⟩ => ⟨S2x4096x1024, .f32⟩
  | .hbm, ⟨9, _⟩ => ⟨S2x4096x1024, .f32⟩
  | .hbm, ⟨10, _⟩ => ⟨S2x4096x2048, .f32⟩
  | .hbm, ⟨11, _⟩ => ⟨S1x1x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x4096x2048, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x4352x2048, .f32⟩
  | .hbm, ⟨43, _⟩ => ⟨S2x4096x1024, .bf16⟩
  | .hbm, ⟨44, _⟩ => ⟨S2x4096x1024, .bf16⟩
  | .hbm, ⟨45, _⟩ => ⟨S2x4352x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel19.lean ====
abbrev S2x4352x2048 : Shape := ⟨3, ![2, 4352, 2048]⟩
abbrev S2x4352x3072 : Shape := ⟨3, ![2, 4352, 3072]⟩
abbrev S2x4352x9216 : Shape := ⟨3, ![2, 4352, 9216]⟩
abbrev S1x2048 : Shape := ⟨2, ![1, 2048]⟩
abbrev S2x4096x2048 : Shape := ⟨3, ![2, 4096, 2048]⟩
abbrev S1x512x2048 : Shape := ⟨3, ![1, 512, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x4352x2048, .f32⟩
  | .hbm, ⟨1, _⟩ => ⟨S2x4352x2048, .f32⟩
  | .hbm, ⟨2, _⟩ => ⟨S2x4352x3072, .bf16⟩
  | .hbm, ⟨3, _⟩ => ⟨S2x4352x9216, .bf16⟩
  | .hbm, ⟨4, _⟩ => ⟨S1x2048, .f32⟩
  | .hbm, ⟨5, _⟩ => ⟨S1x2048, .f32⟩
  | .hbm, ⟨6, _⟩ => ⟨S2x4096x2048, .bf16⟩
  | .hbm, ⟨7, _⟩ => ⟨S2x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048, .f32⟩
  | .local _ .vmem, ⟨9, _⟩ => ⟨S1x2048, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | _, _ => ⟨S2x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S2x4352x2048 : Shape := ⟨3, ![2, 4352, 2048]⟩
abbrev S2x4352x3072 : Shape := ⟨3, ![2, 4352, 3072]⟩
abbrev S2x4352x9216 : Shape := ⟨3, ![2, 4352, 9216]⟩
abbrev S1x2048 : Shape := ⟨2, ![1, 2048]⟩
abbrev S2x4096x2048 : Shape := ⟨3, ![2, 4096, 2048]⟩
abbrev S1x1x2048 : Shape := ⟨3, ![1, 1, 2048]⟩
abbrev S_ : Shape := ⟨0, ![]⟩
abbrev S2x4096x4x512 : Shape := ⟨4, ![2, 4096, 4, 512]⟩
abbrev S2x4096x4 : Shape := ⟨3, ![2, 4096, 4]⟩
abbrev S2x4096x4x1 : Shape := ⟨4, ![2, 4096, 4, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x4352x2048, .f32⟩
  | .hbm, ⟨1, _⟩ => ⟨S2x4352x2048, .f32⟩
  | .hbm, ⟨2, _⟩ => ⟨S2x4352x3072, .bf16⟩
  | .hbm, ⟨3, _⟩ => ⟨S2x4352x9216, .bf16⟩
  | .hbm, ⟨4, _⟩ => ⟨S1x2048, .f32⟩
  | .hbm, ⟨5, _⟩ => ⟨S1x2048, .f32⟩
  | .hbm, ⟨6, _⟩ => ⟨S2x4096x2048, .bf16⟩
  | .hbm, ⟨7, _⟩ => ⟨S2x4096x2048, .bf16⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S1x1x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x4x512, .f32⟩
  | .hbm, ⟨28, _⟩ => ⟨S2x4096x4x512, .f32⟩
  | .hbm, ⟨29, _⟩ => ⟨S_, .f32⟩
  | .hbm, ⟨30, _⟩ => ⟨S2x4096x4, .f32⟩
  | .hbm, ⟨31, _⟩ => ⟨S2x4096x4x1, .f32⟩
  | .hbm, ⟨32, _⟩ => ⟨S_, .f32⟩
  | .hbm, ⟨33, _⟩ => ⟨S2x4096x4x1, .f32⟩
  | .hbm, ⟨34, _⟩ => ⟨S2x4096x4x1, .f32⟩
  | .hbm, ⟨35, _⟩ => ⟨S_, .f32⟩
  | .hbm, ⟨36, _⟩ => ⟨S2x4096x4x1, .f32⟩
  | .hbm, ⟨37, _⟩ => ⟨S2x4096x4x1, .f32⟩
  | .hbm, ⟨38, _⟩ => ⟨S2x4096x4x1, .f32⟩
  | .hbm, ⟨39, _⟩ => ⟨S2x4096x4x512, .f32⟩
  | .hbm, ⟨40, _⟩ => ⟨S2x4096x4x512, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S2x4096x2048, .bf16⟩
  | .hbm, ⟨46, _⟩ => ⟨S2x4096x2048, .bf16⟩
  | _, _ => ⟨S2x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel20.lean ====
abbrev S2x4096x1024 : Shape := ⟨3, ![2, 4096, 1024]⟩
abbrev S2x256x1024 : Shape := ⟨3, ![2, 256, 1024]⟩
abbrev S2x2x8x1024 : Shape := ⟨4, ![2, 2, 8, 1024]⟩
abbrev S2x4352x1024 : Shape := ⟨3, ![2, 4352, 1024]⟩
abbrev S1x256x1024 : Shape := ⟨3, ![1, 256, 1024]⟩
abbrev S1x1x8x1024 : Shape := ⟨4, ![1, 1, 8, 1024]⟩
abbrev S8x1024 : Shape := ⟨2, ![8, 1024]⟩
abbrev S1x1024 : Shape := ⟨2, ![1, 1024]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x256x1024, .f32⟩
  | .hbm, ⟨2, _⟩ => ⟨S2x2x8x1024, .f32⟩
  | .hbm, ⟨3, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x256x1024, .bf16⟩
  | .local _ .vmem, ⟨7, _⟩ => ⟨S1x256x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c16_i32 : BitVec 32 := 16#32
  let v4 : BitVec 1 := Scalar.cmpi .slt arg1 c16_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c16_i32_3 : BitVec 32 := 16#32
  let v7 : BitVec 1 := Scalar.cmpi .sge arg1 c16_i32_3
  let v8 : BitVec 32 := Scalar.extui v7
  let c0_i32_4 : BitVec 32 := 0#32
  let v9 : BitVec 1 := Scalar.cmpi .ne v8 c0_i32_4
  v9

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S2x4096x1024 : Shape := ⟨3, ![2, 4096, 1024]⟩
abbrev S2x256x1024 : Shape := ⟨3, ![2, 256, 1024]⟩
abbrev S2x2x8x1024 : Shape := ⟨4, ![2, 2, 8, 1024]⟩
abbrev S2x1x8x1024 : Shape := ⟨4, ![2, 1, 8, 1024]⟩
abbrev S2x8x1024 : Shape := ⟨3, ![2, 8, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x256 : Shape := ⟨2, ![2, 256]⟩
abbrev S2x256x1 : Shape := ⟨3, ![2, 256, 1]⟩
abbrev S2x4352x1024 : Shape := ⟨3, ![2, 4352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x256x1024, .f32⟩
  | .hbm, ⟨2, _⟩ => ⟨S2x2x8x1024, .f32⟩
  | .hbm, ⟨3, _⟩ => ⟨S2x1x8x1024, .f32⟩
  | .hbm, ⟨4, _⟩ => ⟨S2x8x1024, .f32⟩
  | .hbm, ⟨5, _⟩ => ⟨S2x1x8x1024, .f32⟩
  | .hbm, ⟨6, _⟩ => ⟨S2x8x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S2x1x1024, .f32⟩
  | .hbm, ⟨21, _⟩ => ⟨S2x4096x1024, .f32⟩
  | .hbm, ⟨22, _⟩ => ⟨S2x4096x1024, .f32⟩
  | .hbm, ⟨23, _⟩ => ⟨S2x1x1024, .f32⟩
  | .hbm, ⟨24, _⟩ => ⟨S2x4096x1024, .f32⟩
  | .hbm, ⟨25, _⟩ => ⟨S2x4096x1024, .f32⟩
  | .hbm, ⟨26, _⟩ => ⟨S2x256x1024, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x1024, .f32⟩
  | .hbm, ⟨38, _⟩ => ⟨S2x256x1024, .f32⟩
  | .hbm, ⟨39, _⟩ => ⟨S2x1x1024, .f32⟩
  | .hbm, ⟨40, _⟩ => ⟨S2x256x1024, .f32⟩
  | .hbm, ⟨41, _⟩ => ⟨S2x256x1024, .f32⟩
  | .hbm, ⟨42, _⟩ => ⟨S2x1x1024, .f32⟩
  | .hbm, ⟨43, _⟩ => ⟨S2x256x1024, .f32⟩
  | .hbm, ⟨44, _⟩ => ⟨S2x256x1024, .f32⟩
  | .hbm, ⟨45, _⟩ => ⟨S2x4352x1024, .f32⟩
  | .hbm, ⟨46, _⟩ => ⟨S2x4352x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel21.lean ====
abbrev S16x1024 : Shape := ⟨2, ![16, 1024]⟩
abbrev S3072x1024 : Shape := ⟨2, ![3072, 1024]⟩
abbrev S1x3072 : Shape := ⟨2, ![1, 3072]⟩
abbrev S16x3072 : Shape := ⟨2, ![16, 3072]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S3072x1024, .bf16⟩
  | .hbm, ⟨2, _⟩ => ⟨S1x3072, .f32⟩
  | .hbm, ⟨3, _⟩ => ⟨S16x3072, .f32⟩
  | .local _ .vmem, ⟨0, _⟩ => ⟨S16x1024, .f32⟩
  | .local _ .vmem, ⟨1, _⟩ => ⟨S3072x1024, .bf16⟩
  | .local _ .vmem, ⟨2, _⟩ => ⟨S1x3072, .f32⟩
  | .local _ .vmem, ⟨3, _⟩ => ⟨S16x3072, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference21Ideal.lean ====
abbrev S16x1024 : Shape := ⟨2, ![16, 1024]⟩
abbrev S3072x1024 : Shape := ⟨2, ![3072, 1024]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S3072x1024, .bf16⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S3072x1024, .f32⟩
  | .hbm, ⟨13, _⟩ => ⟨S1024x3072, .f32⟩
  | .hbm, ⟨14, _⟩ => ⟨S16x3072, .f32⟩
  | .hbm, ⟨15, _⟩ => ⟨S16x3072, .f32⟩
  | .hbm, ⟨16, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Products.lean ====
/-
  The products of two matrices that the step's kernels and their references compute, as sums over the contracted
  coordinate: `nn a b = a b`, `nt a b = a bᵀ`, `tn a b = aᵀ b`. A matrix unit's product into a zero accumulator and the
  host's product are both these sums, and a sum over rows in two halves is the sum over all the rows.
-/
module

public import Idealize.ShloMosaic.Lib.ValueIdx
public import Idealize.ShloMosaic.PureOps.Ideal.Laws

@[expose] public section

noncomputable section

namespace Cert.Products

open Idealize.ShloMosaic Idealize.ShloMosaic.ValueIdx

/-- The shape of a matrix of `m` rows and `n` columns. -/
abbrev Mat (m n : ℕ) : Shape := ⟨2, ![m, n]⟩

variable {M N K : ℕ}

/-- `a b`. -/
def nn (a : (Mat M K).Idx → EReal) (b : (Mat K N).Idx → EReal) (i : (Mat M N).Idx) : EReal :=
  ∑ k : Fin K, a (ix2 (n0 := M) (n1 := K) (i 0) k) * b (ix2 (n0 := K) (n1 := N) k (i 1))

/-- `a bᵀ`. -/
def nt (a : (Mat M K).Idx → EReal) (b : (Mat N K).Idx → EReal) (i : (Mat M N).Idx) : EReal :=
  ∑ k : Fin K, a (ix2 (n0 := M) (n1 := K) (i 0) k) * b (ix2 (n0 := N) (n1 := K) (i 1) k)

/-- `aᵀ b`. -/
def tn (a : (Mat K M).Idx → EReal) (b : (Mat K N).Idx → EReal) (i : (Mat M N).Idx) : EReal :=
  ∑ k : Fin K, a (ix2 (n0 := K) (n1 := M) k (i 0)) * b (ix2 (n0 := K) (n1 := N) k (i 1))

/-! ## Which products a set of dimension numbers means -/

/-- Rows of the left times columns of the right. -/
def dimsNN (M N K : ℕ) : DotDims (Mat M K) (Mat K N) (Mat M N) := DotDims.plain M K N
/-- Rows of the left times rows of the right. -/
def dimsNT (M N K : ℕ) : DotDims (Mat M K) (Mat N K) (Mat M N) := DotDims.transposedRhs M K N
/-- Columns of the left times columns of the right. -/
def dimsTN (M N K : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A sum over the contraction index of one axis, as a sum over its coordinate. -/
theorem sum_contr {sl sr so : Shape} (d : DotDims sl sr so) (n : ℕ) (hr : d.contr.rank = 1)
    (hs : d.contr.size ⟨0, by omega⟩ = n) (x : sl.Idx → EReal) (y : sr.Idx → EReal) (j : so.Idx)
    (L : Fin n → sl.Idx) (R : Fin n → sr.Idx)
    (hL : ∀ q k, (q ⟨0, by omega⟩ : ℕ) = k.val → d.lhsIdx j q = L k)
    (hR : ∀ q k, (q ⟨0, by omega⟩ : ℕ) = k.val → d.rhsIdx j q = R k) :
    ∑ q : d.contr.Idx, x (d.lhsIdx j q) * y (d.rhsIdx j q) = ∑ k : Fin n, x (L k) * y (R k) := by
  rw [← Equiv.sum_comp (contrEquiv1 d n hr hs).symm]
  refine Finset.sum_congr rfl fun k _ => ?_
  have h := contrEquiv1_symm_val d n hr hs k
  rw [hL _ k h, hR _ k h]

theorem sum_nn (a : (Mat M K).Idx → EReal) (b : (Mat K N).Idx → EReal) (j : (Mat M N).Idx) :
    ∑ q : (dimsNN M N K).contr.Idx, a ((dimsNN M N K).lhsIdx j q) * b ((dimsNN M N K).rhsIdx j q) = nn a b j := by
  refine sum_contr _ K rfl rfl a b j _ _ (fun q k h => ?_) (fun q k h => ?_)
  · funext x; apply Fin.ext
    match x with
    | ⟨0, _⟩ => rfl
    | ⟨1, _⟩ => exact ((dimsNN M N K).lhsIdx_val_of_single rfl j q).trans h
  · funext x; apply Fin.ext
    match x with
    | ⟨0, _⟩ => exact ((dimsNN M N K).rhsIdx_val_of_single rfl j q).trans h
    | ⟨1, _⟩ => rfl

theorem sum_nt (a : (Mat M K).Idx → EReal) (b : (Mat N K).Idx → EReal) (j : (Mat M N).Idx) :
    ∑ q : (dimsNT M N K).contr.Idx, a ((dimsNT M N K).lhsIdx j q) * b ((dimsNT M N K).rhsIdx j q) = nt a b j := by
  refine sum_contr _ K rfl rfl a b j _ _ (fun q k h => ?_) (fun q k h => ?_)
  · funext x; apply Fin.ext
    match x with
    | ⟨0, _⟩ => rfl
    | ⟨1, _⟩ => exact ((dimsNT M N K).lhsIdx_val_of_single rfl j q).trans h
  · funext x; apply Fin.ext
    match x with
    | ⟨0, _⟩ => rfl
    | ⟨1, _⟩ => exact ((dimsNT M N K).rhsIdx_val_of_single rfl j q).trans h

theorem sum_tn (a : (Mat K M).Idx → EReal) (b : (Mat K N).Idx → EReal) (j : (Mat M N).Idx) :
    ∑ q : (dimsTN M N K).contr.Idx, a ((dimsTN M N K).lhsIdx j q) * b ((dimsTN M N K).rhsIdx j q) = tn a b j := by
  refine sum_contr _ K rfl rfl a b j _ _ (fun q k h => ?_) (fun q k h => ?_)
  · funext x; apply Fin.ext
    match x with
    | ⟨0, _⟩ => exact ((dimsTN M N K).lhsIdx_val_of_single rfl j q).trans h
    | ⟨1, _⟩ => rfl
  · funext x; apply Fin.ext
    match x with
    | ⟨0, _⟩ => exact ((dimsTN M N K).rhsIdx_val_of_single rfl j q).trans h
    | ⟨1, _⟩ => rfl

/-! ## The matrix unit's product into a zero accumulator -/

variable {φ₁ φ₂ : FTy}

theorem matmul_nn (d : DotDims (Mat M K) (Mat K N) (Mat M N)) (hd : d = dimsNN M N K) (prec : Option ContractPrecision)
    (a : FVec Ideal (Mat M K) φ₁) (b : FVec Ideal (Mat K N) φ₂) (j : (Mat M N).Idx) :
    FloatOps.matmul d prec a b (constant (Mat M N) .f32 0x00000000#32) j = nn a b j := by
  subst hd
  rw [Ideal.matmul_constant_zero_apply]
  exact sum_nn a b j

theorem matmul_nt (d : DotDims (Mat M K) (Mat N K) (Mat M N)) (hd : d = dimsNT M N K) (prec : Option ContractPrecision)
    (a : FVec Ideal (Mat M K) φ₁) (b : FVec Ideal (Mat N K) φ₂) (j : (Mat M N).Idx) :
    FloatOps.matmul d prec a b (constant (Mat M N) .f32 0x00000000#32) j = nt a b j := by
  subst hd
  rw [Ideal.matmul_constant_zero_apply]
  exact sum_nt a b j

theorem matmul_tn (d : DotDims (Mat K M) (Mat K N) (Mat M N)) (hd : d = dimsTN M N K) (prec : Option ContractPrecision)
    (a : FVec Ideal (Mat K M) φ₁) (b : FVec Ideal (Mat K N) φ₂) (j : (Mat M N).Idx) :
    FloatOps.matmul d prec a b (constant (Mat M N) .f32 0x00000000#32) j = tn a b j := by
  subst hd
  rw [Ideal.matmul_constant_zero_apply]
  exact sum_tn a b j

/-! ## A sum in two halves -/

/-- The rows of `a bᵀ` etc. contracted in two halves. -/
theorem sum_halves (H : ℕ) (f : Fin (H + H) → EReal) :
    ∑ k, f k = (∑ k : Fin H, f ⟨k.val, by omega⟩) + ∑ k : Fin H, f ⟨H + k.val, by omega⟩ :=
  Fin.sum_univ_add f

end Cert.Products

end
-- ==== Proof.KernelProduct.lean ====
/-
  What the kernel of program "Kernel" computes over the extended reals: the whole of `aᵀ b`, for `a` of 8704 rows and
  2048 columns and `b` of 8704 rows and 1024 columns. A block of 1024 columns of `a` is visited at two points running:
  the first stores the product over the upper 4352 rows, the second adds the product over the lower 4352.
-/
module

public import proofs.«01_k».proof.Proof.Products
public import proofs.«01_k».proof.Proof.Gen.KernelIdeal.Value
public import Idealize.ShloMosaic.Lib.Pipeline.ValueKit.Geometry

@[expose] public section

noncomputable section

namespace Cert.KernelIdeal.Product

open Cert.KernelIdeal Cert.KernelIdeal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

/-- The first point of a block stores the product of the two blocks it reads. -/
theorem out_first (c : Dev nD) (i : grid0.Coords) (a3 : Memref sig .tc .vmem S4352x1024 .bf16) (h3 : a3.IsWhole)
    (a4 : Memref sig .tc .vmem S4352x1024 .bf16) (h4 : a4.IsWhole) (a5 : Memref sig .tc .vmem S1024x1024 .f32)
    (h5 : a5.IsWhole) (hc0 : cond0_0 i) (hc1 : ¬cond0_1 i) (x0 x1 : Vec Ideal S4352x1024 .bf16) :
    out0_A_2 (F := Ideal) c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S4352x1024) hz]

/-- The second adds its own product to what is there. -/
theorem out_second (c : Dev nD) (i : grid0.Coords) (a3 : Memref sig .tc .vmem S4352x1024 .bf16) (h3 : a3.IsWhole)
    (a4 : Memref sig .tc .vmem S4352x1024 .bf16) (h4 : a4.IsWhole) (a5 : Memref sig .tc .vmem S1024x1024 .f32)
    (h5 : a5.IsWhole) (hc0 : ¬cond0_0 i) (hc1 : cond0_1 i) (x0 x1 : Vec Ideal S4352x1024 .bf16)
    (xo : Vec Ideal S1024x1024 .f32) :
    out0_B_2 (F := Ideal) c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S4352x1024) hz,
    View.ld_unit_zero (S := S1024x1024) hz]

theorem pay1_apply (x0 x1 : Vec Ideal S4352x1024 .bf16) (j : S1024x1024.Idx) :
    k0_pay1 (F := Ideal) x0 x1 j = tn (K := 4352) (M := 1024) (N := 1024) x0 x1 j := by
  unfold k0_pay1
  exact matmul_tn _ rfl none x0 x1 j

theorem pay2_apply (x0 x1 : Vec Ideal S4352x1024 .bf16) (xo : Vec Ideal S1024x1024 .f32) (j : S1024x1024.Idx) :
    k0_pay2 (F := Ideal) x0 x1 xo j = xo j + tn (K := 4352) (M := 1024) (N := 1024) x0 x1 j := by
  unfold k0_pay2
  rw [shapeCast_self]
  show xo j + k0_pay1 (F := Ideal) x0 x1 j = _
  rw [pay1_apply]

/-- The left matrix. -/
abbrev lhs (c : Dev nD) : (Mat 8704 2048).Idx → EReal := m ((c : Thread nD τ).loc main_arg0)
/-- The right matrix. -/
abbrev rhs (c : Dev nD) : (Mat 8704 1024).Idx → EReal := m ((c : Thread nD τ).loc main_arg1)

/-- Which blocks a point reads and writes. -/
theorem index_at : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) := by
  decide +kernel

theorem lhs_block (c : Dev nD) (t : Fin cfg0.N) (r : Fin 4352) (p : Fin 1024) (i : S8704x2048.Idx)
    (hi0 : (i 0).val = 4352 * (t.val % 2) + r.val) (hi1 : (i 1).val = 1024 * (t.val / 2) + p.val) :
    (iblk m c 0 t : Vec Ideal S4352x1024 .bf16) (ix2 (n0 := 4352) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 4352 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 4352) (p : Fin 1024) (i : S8704x1024.Idx)
    (hi0 : (i 0).val = 4352 * (t.val % 2) + r.val) (hi1 : (i 1).val = p.val) :
    (iblk m c 1 t : Vec Ideal S4352x1024 .bf16) (ix2 (n0 := 4352) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 4352 + 1 * r.val = (i 0).val; rw [(index_at t).2.1.1, hi0]; omega
  | ⟨1, _⟩ => show win0_1.index t 1 * 1024 + 1 * p.val = (i 1).val; rw [(index_at t).2.1.2, hi1]; omega

/-- What a block's second point leaves, at an index: the product over all the rows. -/
theorem outs_second (c : Dev nD) (t : Fin cfg0.N) (h1 : t.val % 2 = 1) (j : S1024x1024.Idx) (i : S2048x1024.Idx)
    (hi0 : (i 0).val = 1024 * (t.val / 2) + (j 0).val) (hi1 : (i 1).val = (j 1).val) :
    outsAt0 m c t.val t.isLt j = tn (lhs m c) (rhs m c) i := by
  have hlt := t.isLt
  have h0 : ¬t.val % 2 = 0 := by omega
  let s : Fin cfg0.N := ⟨t.val - 1, Nat.lt_of_le_of_lt (Nat.sub_le _ _) t.isLt⟩
  have s0 : s.val % 2 = 0 := by show (t.val - 1) % 2 = 0; omega
  have s1 : ¬s.val % 2 = 1 := by omega
  have sd : s.val / 2 = t.val / 2 := by show (t.val - 1) / 2 = _; omega
  rw [outsAt0_B m c t h0 h1, out_second, pay2_apply]
  have hs : outsAt0 m c (t.val - 1) (Nat.lt_of_le_of_lt (Nat.sub_le _ _) t.isLt) = _ := outsAt0_A m c s s0 s1
  rw [hs, out_first, pay1_apply]
  have e : tn (lhs m c) (rhs m c) i = _ := sum_halves 4352 _
  rw [e]
  refine congrArg₂ (· + ·) (Finset.sum_congr rfl fun k _ => congrArg₂ (· * ·) ?_ ?_)
    (Finset.sum_congr rfl fun k _ => congrArg₂ (· * ·) ?_ ?_)
  · exact lhs_block m c s k (j 0) _ (by rw [s0]; exact (Nat.zero_add _).symm) (by rw [sd]; exact hi0)
  · exact rhs_block m c s k (j 1) _ (by rw [s0]; exact (Nat.zero_add _).symm) hi1
  · exact lhs_block m c t k (j 0) _ (by rw [h1]) hi0
  · exact rhs_block m c t k (j 1) _ (by rw [h1]) hi1

/-- The result array is the whole product: each second point writes its block back, and those blocks cover the array. -/
theorem final (c : Dev nD) : (dats m 0 c).arrAt 2 cfg0.N = tn (lhs m c) (rhs m c) := by
  refine (dats m 0 c).arrAt_eq_of_covers 2 _ (by decide +kernel) fun t hf y => ?_
  have h1 : t.val % 2 = 1 := (flush0_2 t).mp hf
  blk_simp
  rw [after0_2]
  refine outs_second m c t h1 y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Product

end
-- ==== Proof.ReferenceProduct.lean ====
/-
  The reference of program "Reference" computes `aᵀ b`, as the derivative of `b wᵀ` in `w`, and the kernel of "Kernel" the same array.
-/
module

public import proofs.«01_k».proof.Proof.KernelProduct
public import proofs.«01_k».proof.Proof.Gen.ReferenceIdeal.Run
public import proofs.«01_k».proof.Proof.Gen.ReferenceIdeal.Read
public import proofs.«01_k».proof.Defs
public import Idealize.ShloMosaic.Lib.Quiescent

@[expose] public section

noncomputable section

namespace Cert.ReferenceIdeal.Product

open Cert.ReferenceIdeal Cert.ReferenceIdeal.Read Idealize.ShloMosaic Idealize.ShloMosaic.TcCoe Idealize.SL.Sem
open Idealize.ShloMosaic.ValueIdx Cert.Products

/-- The reference's last stage is the product. -/
theorem stage_eq (x0 : (⟨S8704x2048, .bf16⟩ : BufTy).Contents (Elt Ideal)) (x1 : (⟨S8704x1024, .bf16⟩ : BufTy).Contents (Elt Ideal)) :
    val_main_v7 (F := Ideal) x0 x1 = tn (M := 2048) (N := 1024) (K := 8704) x0 x1 := by
  funext i
  rw [val_main_v7_apply, val_main_v6_apply, val_main_v5_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
          = tn (M := 2048) (N := 1024) (K := 8704) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (stage_eq _ _), (h c).2⟩) (Value.run m ρ)

/-- The frame: the arguments stay, and there is no semaphore. -/
theorem frame : Cert.quiescent_ReferenceIdeal := fun m ρ _ =>
  (θ_run defs _ _).mono (fun r h => ⟨fun c => (h c).2, Idealize.ShloMosaic.sem_eq_zero_of_no_sems (by decide) r.2⟩) (run m ρ)

end Cert.ReferenceIdeal.Product

namespace Cert.Proof

open Idealize.ShloMosaic Idealize.ShloMosaic.TcCoe Idealize.SL.Sem

/-- Kernel and reference leave the same result. -/
theorem algebraic : Cert.algebraic_KernelIdeal_ReferenceIdeal := by
  intro m g m' g' _ hm
  refine ⟨fun c => Cert.Products.tn (Cert.KernelIdeal.Product.lhs m c) (Cert.KernelIdeal.Product.rhs m c), Cert.KernelIdeal.Product.run m g, ?_⟩
  refine (θ_run _ _ _).mono (fun _ h c => ⟨?_, (h c).2⟩) (Cert.ReferenceIdeal.Product.run m' g')
  obtain ⟨e0, e1⟩ := hm c
  refine (h c).1.trans ?_
  rw [e0, e1]

end Cert.Proof

end
-- ==== Proof.Kernel2Product.lean ====
/-
  What the kernel of program "Kernel2" computes over the extended reals: the whole of `aᵀ b`, for `a` of 8704 rows and
  1024 columns and `b` of 8704 rows and 1024 columns. A block of 1024 columns of `a` is visited at two points running:
  the first stores the product over the upper 4352 rows, the second adds the product over the lower 4352.
-/
module

public import proofs.«01_k».proof.Proof.Products
public import proofs.«01_k».proof.Proof.Gen.Kernel2Ideal.Value
public import Idealize.ShloMosaic.Lib.Pipeline.ValueKit.Geometry

@[expose] public section

noncomputable section

namespace Cert.Kernel2Ideal.Product

open Cert.Kernel2Ideal Cert.Kernel2Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

/-- The first point of a block stores the product of the two blocks it reads. -/
theorem out_first (c : Dev nD) (i : grid0.Coords) (a3 : Memref sig .tc .vmem S4352x1024 .bf16) (h3 : a3.IsWhole)
    (a4 : Memref sig .tc .vmem S4352x1024 .bf16) (h4 : a4.IsWhole) (a5 : Memref sig .tc .vmem S1024x1024 .f32)
    (h5 : a5.IsWhole) (hc0 : cond0_0 i) (hc1 : ¬cond0_1 i) (x0 x1 : Vec Ideal S4352x1024 .bf16) :
    out0_A_2 (F := Ideal) c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S4352x1024) hz]

/-- The second adds its own product to what is there. -/
theorem out_second (c : Dev nD) (i : grid0.Coords) (a3 : Memref sig .tc .vmem S4352x1024 .bf16) (h3 : a3.IsWhole)
    (a4 : Memref sig .tc .vmem S4352x1024 .bf16) (h4 : a4.IsWhole) (a5 : Memref sig .tc .vmem S1024x1024 .f32)
    (h5 : a5.IsWhole) (hc0 : ¬cond0_0 i) (hc1 : cond0_1 i) (x0 x1 : Vec Ideal S4352x1024 .bf16)
    (xo : Vec Ideal S1024x1024 .f32) :
    out0_B_2 (F := Ideal) c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S4352x1024) hz,
    View.ld_unit_zero (S := S1024x1024) hz]

theorem pay1_apply (x0 x1 : Vec Ideal S4352x1024 .bf16) (j : S1024x1024.Idx) :
    k0_pay1 (F := Ideal) x0 x1 j = tn (K := 4352) (M := 1024) (N := 1024) x0 x1 j := by
  unfold k0_pay1
  exact matmul_tn _ rfl none x0 x1 j

theorem pay2_apply (x0 x1 : Vec Ideal S4352x1024 .bf16) (xo : Vec Ideal S1024x1024 .f32) (j : S1024x1024.Idx) :
    k0_pay2 (F := Ideal) x0 x1 xo j = xo j + tn (K := 4352) (M := 1024) (N := 1024) x0 x1 j := by
  unfold k0_pay2
  rw [shapeCast_self]
  show xo j + k0_pay1 (F := Ideal) x0 x1 j = _
  rw [pay1_apply]

/-- The left matrix. -/
abbrev lhs (c : Dev nD) : (Mat 8704 1024).Idx → EReal := m ((c : Thread nD τ).loc main_arg0)
/-- The right matrix. -/
abbrev rhs (c : Dev nD) : (Mat 8704 1024).Idx → EReal := m ((c : Thread nD τ).loc main_arg1)

/-- Which blocks a point reads and writes. -/
theorem index_at : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) := by
  decide +kernel

theorem lhs_block (c : Dev nD) (t : Fin cfg0.N) (r : Fin 4352) (p : Fin 1024) (i : S8704x1024.Idx)
    (hi0 : (i 0).val = 4352 * (t.val % 2) + r.val) (hi1 : (i 1).val = 1024 * (t.val / 2) + p.val) :
    (iblk m c 0 t : Vec Ideal S4352x1024 .bf16) (ix2 (n0 := 4352) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 4352 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 4352) (p : Fin 1024) (i : S8704x1024.Idx)
    (hi0 : (i 0).val = 4352 * (t.val % 2) + r.val) (hi1 : (i 1).val = p.val) :
    (iblk m c 1 t : Vec Ideal S4352x1024 .bf16) (ix2 (n0 := 4352) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 4352 + 1 * r.val = (i 0).val; rw [(index_at t).2.1.1, hi0]; omega
  | ⟨1, _⟩ => show win0_1.index t 1 * 1024 + 1 * p.val = (i 1).val; rw [(index_at t).2.1.2, hi1]; omega

/-- What a block's second point leaves, at an index: the product over all the rows. -/
theorem outs_second (c : Dev nD) (t : Fin cfg0.N) (h1 : t.val % 2 = 1) (j : S1024x1024.Idx) (i : S1024x1024.Idx)
    (hi0 : (i 0).val = 1024 * (t.val / 2) + (j 0).val) (hi1 : (i 1).val = (j 1).val) :
    outsAt0 m c t.val t.isLt j = tn (lhs m c) (rhs m c) i := by
  have hlt := t.isLt
  have h0 : ¬t.val % 2 = 0 := by omega
  let s : Fin cfg0.N := ⟨t.val - 1, Nat.lt_of_le_of_lt (Nat.sub_le _ _) t.isLt⟩
  have s0 : s.val % 2 = 0 := by show (t.val - 1) % 2 = 0; omega
  have s1 : ¬s.val % 2 = 1 := by omega
  have sd : s.val / 2 = t.val / 2 := by show (t.val - 1) / 2 = _; omega
  rw [outsAt0_B m c t h0 h1, out_second, pay2_apply]
  have hs : outsAt0 m c (t.val - 1) (Nat.lt_of_le_of_lt (Nat.sub_le _ _) t.isLt) = _ := outsAt0_A m c s s0 s1
  rw [hs, out_first, pay1_apply]
  have e : tn (lhs m c) (rhs m c) i = _ := sum_halves 4352 _
  rw [e]
  refine congrArg₂ (· + ·) (Finset.sum_congr rfl fun k _ => congrArg₂ (· * ·) ?_ ?_)
    (Finset.sum_congr rfl fun k _ => congrArg₂ (· * ·) ?_ ?_)
  · exact lhs_block m c s k (j 0) _ (by rw [s0]; exact (Nat.zero_add _).symm) (by rw [sd]; exact hi0)
  · exact rhs_block m c s k (j 1) _ (by rw [s0]; exact (Nat.zero_add _).symm) hi1
  · exact lhs_block m c t k (j 0) _ (by rw [h1]) hi0
  · exact rhs_block m c t k (j 1) _ (by rw [h1]) hi1

/-- The result array is the whole product: each second point writes its block back, and those blocks cover the array. -/
theorem final (c : Dev nD) : (dats m 0 c).arrAt 2 cfg0.N = tn (lhs m c) (rhs m c) := by
  refine (dats m 0 c).arrAt_eq_of_covers 2 _ (by decide +kernel) fun t hf y => ?_
  have h1 : t.val % 2 = 1 := (flush0_2 t).mp hf
  blk_simp
  rw [after0_2]
  refine outs_second m c t h1 y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.Product

end
-- ==== Proof.Reference2Product.lean ====
/-
  The reference of program "Reference2" computes `aᵀ b`, as the derivative of `b wᵀ` in `w`, and the kernel of "Kernel2" the same array.
-/
module

public import proofs.«01_k».proof.Proof.Kernel2Product
public import proofs.«01_k».proof.Proof.Gen.Reference2Ideal.Run
public import proofs.«01_k».proof.Proof.Gen.Reference2Ideal.Read
public import proofs.«01_k».proof.Defs
public import Idealize.ShloMosaic.Lib.Quiescent

@[expose] public section

noncomputable section

namespace Cert.Reference2Ideal.Product

open Cert.Reference2Ideal Cert.Reference2Ideal.Read Idealize.ShloMosaic Idealize.ShloMosaic.TcCoe Idealize.SL.Sem
open Idealize.ShloMosaic.ValueIdx Cert.Products

/-- The reference's last stage is the product. -/
theorem stage_eq (x0 : (⟨S8704x1024, .bf16⟩ : BufTy).Contents (Elt Ideal)) (x1 : (⟨S8704x1024, .bf16⟩ : BufTy).Contents (Elt Ideal)) :
    val_main_v7 (F := Ideal) x0 x1 = tn (M := 1024) (N := 1024) (K := 8704) x0 x1 := by
  funext i
  rw [val_main_v7_apply, val_main_v6_apply, val_main_v5_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
          = tn (M := 1024) (N := 1024) (K := 8704) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (stage_eq _ _), (h c).2⟩) (Value.run m ρ)

/-- The frame: the arguments stay, and there is no semaphore. -/
theorem frame : Cert.quiescent_Reference2Ideal := fun m ρ _ =>
  (θ_run defs _ _).mono (fun r h => ⟨fun c => (h c).2, Idealize.ShloMosaic.sem_eq_zero_of_no_sems (by decide) r.2⟩) (run m ρ)

end Cert.Reference2Ideal.Product

namespace Cert.Proof

open Idealize.ShloMosaic Idealize.ShloMosaic.TcCoe Idealize.SL.Sem

/-- Kernel and reference leave the same result. -/
theorem algebraic2 : Cert.algebraic_Kernel2Ideal_Reference2Ideal := by
  intro m g m' g' _ hm
  refine ⟨fun c => Cert.Products.tn (Cert.Kernel2Ideal.Product.lhs m c) (Cert.Kernel2Ideal.Product.rhs m c), Cert.Kernel2Ideal.Product.run m g, ?_⟩
  refine (θ_run _ _ _).mono (fun _ h c => ⟨?_, (h c).2⟩) (Cert.Reference2Ideal.Product.run m' g')
  obtain ⟨e0, e1⟩ := hm c
  refine (h c).1.trans ?_
  rw [e0, e1]

end Cert.Proof

end
-- ==== Proof.Kernel3Points.lean ====
/-
  What the kernel of program "Kernel3" computes over the extended reals: the gradient of the modulated input, the product of
  the rows of the gradient of the projection (its pieces side by side) and `w_in`. The points of a block of 1088 rows add one
  slab of 1024 columns each to a running sum, which the first of them starts from the 64 columns of `dt` (padded to 128, with
  zero rows of `w_in` under the padding).
-/
module

public import proofs.«01_k».proof.Proof.Products
public import proofs.«01_k».proof.Proof.Gen.Kernel3Ideal.Value
public import Idealize.ShloMosaic.Lib.Pipeline.ValueKit.Geometry
public import Idealize.ShloMosaic.Lib.Pipeline.ValueKit.Acc
public import Idealize.ShloMosaic.Lib.KernelVsHost

@[expose] public section

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

/-! ## What a point computes of its blocks -/

theorem hz : (![0, 0] : Fin 2 → Nat) = fun _ => 0 := funext fun a => by fin_cases a <;> rfl
theorem hz3 : (![0, 0, 0] : Fin 3 → Nat) = fun _ => 0 := funext fun a => by fin_cases a <;> rfl

/-- A block of one example's rows, as a matrix. -/
def rows {a b : ℕ} (x : (⟨3, ![1, a, b]⟩ : Shape).Idx → EReal) : (Mat a b).Idx → EReal := fun i =>
  x (ix3 (n0 := 1) (n1 := a) (n2 := b) 0 (i 0) (i 1))

theorem dropUnit_rows {a b : ℕ} (x : (⟨3, ![1, a, b]⟩ : Shape).Idx → EReal)
    (h : (⟨3, ![1, a, b]⟩ : Shape).ShapeCasts (Mat a b)) : shapeCast (Mat a b) x h = rows x := by
  funext j
  refine (shapeCast_dropUnit_apply ![a, b] x h j).trans (congrArg x (funext fun k => ?_))
  match k with
  | ⟨0, _⟩ => rfl
  | ⟨1, _⟩ => rfl
  | ⟨2, _⟩ => rfl

theorem pay3_apply (x : Vec Ideal S1x1088x128 .bf16) (y : Vec Ideal S128x1024 .bf16) (j : S1088x1024.Idx) :
    k0_pay3 (F := Ideal) x y j = nn (M := 1088) (N := 1024) (K := 128) (rows x) y j := by
  unfold k0_pay3
  simp only [shapeCast_self]
  refine (matmul_nn _ rfl none _ _ j).trans ?_
  exact congrArg (fun z => nn (M := 1088) (N := 1024) (K := 128) z y j) (dropUnit_rows x _)

theorem pay4_apply (acc : Vec Ideal S1088x1024 .f32) (x : Vec Ideal S1x1088x1024 .bf16) (y : Vec Ideal S1024x1024 .bf16)
    (j : S1088x1024.Idx) :
    k0_pay4 (F := Ideal) acc x y j = acc j + nn (M := 1088) (N := 1024) (K := 1024) (rows x) y j := by
  unfold k0_pay4
  simp only [shapeCast_self]
  refine congrArg (acc j + ·) ((matmul_nn _ rfl none _ _ j).trans ?_)
  exact congrArg (fun z => nn (M := 1088) (N := 1024) (K := 1024) z y j) (dropUnit_rows x _)

theorem pay5_apply (acc : Vec Ideal S1088x1024 .f32) (x : Vec Ideal S1x1088x1024 .bf16) (y : Vec Ideal S1024x1024 .bf16)
    (j : S1088x1024.Idx) :
    k0_pay5 (F := Ideal) acc x y j = acc j + nn (M := 1088) (N := 1024) (K := 1024) (rows x) y j := by
  unfold k0_pay5
  simp only [shapeCast_self]
  refine congrArg (acc j + ·) ((matmul_nn _ rfl none _ _ j).trans ?_)
  exact congrArg (fun z => nn (M := 1088) (N := 1024) (K := 1024) z y j) (dropUnit_rows x _)

theorem pay6_apply (acc : Vec Ideal S1088x1024 .f32) (x : Vec Ideal S1x1088x1024 .bf16) (y : Vec Ideal S1024x1024 .bf16)
    (j : S1088x1024.Idx) :
    k0_pay6 (F := Ideal) acc x y j = acc j + nn (M := 1088) (N := 1024) (K := 1024) (rows x) y j := by
  unfold k0_pay6
  simp only [shapeCast_self]
  refine congrArg (acc j + ·) ((matmul_nn _ rfl none _ _ j).trans ?_)
  exact congrArg (fun z => nn (M := 1088) (N := 1024) (K := 1024) z y j) (dropUnit_rows x _)

theorem pay7_apply (acc : Vec Ideal S1088x1024 .f32) (x : Vec Ideal S1x1088x1024 .bf16) (y : Vec Ideal S1024x1024 .bf16)
    (j : S1088x1024.Idx) :
    k0_pay7 (F := Ideal) acc x y j = acc j + nn (M := 1088) (N := 1024) (K := 1024) (rows x) y j := by
  unfold k0_pay7
  simp only [shapeCast_self]
  refine congrArg (acc j + ·) ((matmul_nn _ rfl none _ _ j).trans ?_)
  exact congrArg (fun z => nn (M := 1088) (N := 1024) (K := 1024) z y j) (dropUnit_rows x _)

theorem pay8_apply (acc : Vec Ideal S1088x1024 .f32) (x : Vec Ideal S1x1088x1024 .bf16) (y : Vec Ideal S1024x1024 .bf16)
    (j : S1088x1024.Idx) :
    k0_pay8 (F := Ideal) acc x y j = acc j + nn (M := 1088) (N := 1024) (K := 1024) (rows x) y j := by
  unfold k0_pay8
  simp only [shapeCast_self]
  refine congrArg (acc j + ·) ((matmul_nn _ rfl none _ _ j).trans ?_)
  exact congrArg (fun z => nn (M := 1088) (N := 1024) (K := 1024) z y j) (dropUnit_rows x _)

theorem pay1_apply (acc : Vec Ideal S1088x1024 .f32) (x : Vec Ideal S1x1088x1024 .bf16) (y : Vec Ideal S1024x1024 .bf16)
    (j : S1088x1024.Idx) :
    k0_pay1 (F := Ideal) acc x y j = acc j + nn (M := 1088) (N := 1024) (K := 1024) (rows x) y j := by
  unfold k0_pay1
  simp only [shapeCast_self]
  refine congrArg (acc j + ·) ((matmul_nn _ rfl none _ _ j).trans ?_)
  exact congrArg (fun z => nn (M := 1088) (N := 1024) (K := 1024) z y j) (dropUnit_rows x _)

theorem pay2_apply (acc : Vec Ideal S1088x1024 .f32) (j : S1x1088x1024.Idx) :
    k0_pay2 (F := Ideal) acc j = acc (ix2 (n0 := 1088) (n1 := 1024) (j 1) (j 2)) := by
  unfold k0_pay2
  refine (shapeCast_addUnit_apply ![1088, 1024] _ _ j).trans ?_
  show acc _ = acc _
  refine congrArg acc (funext fun k => ?_)
  match k with
  | ⟨0, _⟩ => rfl
  | ⟨1, _⟩ => rfl

theorem sum_A (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 x1 x2 x3 x4 x5 : Vec Ideal S1x1088x1024 .bf16) (x6 : Vec Ideal S1x1088x128 .bf16) (x7 : Vec Ideal S1024x1024 .bf16) (x8 : Vec Ideal S128x1024 .bf16) (j : S1088x1024.Idx) :
    sout0_A_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 j
      = nn (M := 1088) (N := 1024) (K := 128) (rows x6) x8 j + nn (M := 1088) (N := 1024) (K := 1024) (rows x0) x7 j := by
  unfold sout0_A_0
  rw [View.read_writes_eq_canon _ _ _ (scover0_A_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8)]
  unfold kernelRun0_A
  dsimp only
  sl_unfold_words
  rw [View.canon_cons_unit_zero hz, View.readCov_unit_zero (S := S1088x1024) _ hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay4_apply]
  rw [pay3_apply]

theorem sum_B (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1088x1024.Idx) :
    sout0_B_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s j + nn (M := 1088) (N := 1024) (K := 1024) (rows x1) x7 j := by
  unfold sout0_B_0
  rw [View.read_writes_eq_canon _ _ _ (scover0_B_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay5_apply]

theorem sum_C (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1088x1024.Idx) :
    sout0_C_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s j + nn (M := 1088) (N := 1024) (K := 1024) (rows x2) x7 j := by
  unfold sout0_C_0
  rw [View.read_writes_eq_canon _ _ _ (scover0_C_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_C
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay6_apply]

theorem sum_D (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1088x1024.Idx) :
    sout0_D_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s j + nn (M := 1088) (N := 1024) (K := 1024) (rows x3) x7 j := by
  unfold sout0_D_0
  rw [View.read_writes_eq_canon _ _ _ (scover0_D_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_D
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay7_apply]

theorem sum_E (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1088x1024.Idx) :
    sout0_E_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s j + nn (M := 1088) (N := 1024) (K := 1024) (rows x4) x7 j := by
  unfold sout0_E_0
  rw [View.read_writes_eq_canon _ _ _ (scover0_E_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_E
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay8_apply]

theorem sum_F (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1088x1024.Idx) :
    sout0_F_0 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s j + nn (M := 1088) (N := 1024) (K := 1024) (rows x5) x7 j := by
  unfold sout0_F_0
  rw [View.read_writes_eq_canon _ _ _ (scover0_F_0 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_F
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay1_apply]

theorem out_F (c : Dev nD) (i : grid0.Coords) (a0 : Memref sig .tc .vmem S1x1088x1024 .bf16) (h0 : a0.IsWhole) (a1 : Memref sig .tc .vmem S1x1088x1024 .bf16) (h1 : a1.IsWhole) (a2 : Memref sig .tc .vmem S1x1088x1024 .bf16) (h2 : a2.IsWhole) (a3 : Memref sig .tc .vmem S1x1088x1024 .bf16) (h3 : a3.IsWhole) (a4 : Memref sig .tc .vmem S1x1088x1024 .bf16) (h4 : a4.IsWhole) (a5 : Memref sig .tc .vmem S1x1088x1024 .bf16) (h5 : a5.IsWhole) (a6 : Memref sig .tc .vmem S1x1088x128 .bf16) (h6 : a6.IsWhole) (a7 : Memref sig .tc .vmem S1024x1024 .bf16) (h7 : a7.IsWhole) (a8 : Memref sig .tc .vmem S128x1024 .bf16) (h8 : a8.IsWhole) (a9 : Memref sig .tc .vmem S1x1088x1024 .bf16) (h9 : a9.IsWhole) (a10 : Memref sig .tc .vmem S1088x1024 .f32) (h10 : a10.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : cond0_7 i)
    (x0 x1 x2 x3 x4 x5 : Vec Ideal S1x1088x1024 .bf16) (x6 : Vec Ideal S1x1088x128 .bf16) (x7 : Vec Ideal S1024x1024 .bf16) (x8 : Vec Ideal S128x1024 .bf16) (s : Vec Ideal S1088x1024 .f32) (j : S1x1088x1024.Idx) :
    out0_F_9 (F := Ideal) c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s j
      = s (ix2 (n0 := 1088) (n1 := 1024) (j 1) (j 2)) + nn (M := 1088) (N := 1024) (K := 1024) (rows x5) x7 (ix2 (n0 := 1088) (n1 := 1024) (j 1) (j 2)) := by
  unfold out0_F_9
  rw [View.read_writes_eq_canon _ _ _ (cover0_F_9 c i a0 h0 a1 h1 a2 h2 a3 h3 a4 h4 a5 h5 a6 h6 a7 h7 a8 h8 a9 h9 a10 h10 hc0 hc1 hc2 hc3 hc4 hc5 hc6 hc7 x0 x1 x2 x3 x4 x5 x6 x7 x8 s)]
  unfold kernelRun0_F
  dsimp only
  sl_unfold_words
  rw [View.canon_unit_zero hz3, View.readCov_unit_zero (S := S1088x1024) _ hz]
  simp only [View.readAt_eq_ld, h0.read_unread, h1.read_unread, h2.read_unread, h3.read_unread, h4.read_unread, h5.read_unread, h6.read_unread, h7.read_unread, h8.read_unread, h9.read_unread, h10.read_unread, View.ld_unit_zero (S := S1088x1024) hz, View.ld_unit_zero (S := S1024x1024) hz, View.ld_unit_zero (S := S128x1024) hz, View.ld_unit_zero (S := S1x1088x1024) hz3, View.ld_unit_zero (S := S1x1088x128) hz3]
  rw [pay2_apply, pay1_apply]

end Cert.Kernel3Ideal.Product

end
-- ==== Proof.Kernel3Product.lean ====
/-
  The whole array that the kernel of program "Kernel3" leaves: row by row, the sum over the 64 columns of `dt` and the nine
  slabs of 1024 columns of the gradient of the projection, each column times its row of `w_in`.
-/
module

public import proofs.«01_k».proof.Proof.Kernel3Points

@[expose] public section

noncomputable section

namespace Cert.Kernel3Ideal.Product

open Cert.Kernel3Ideal Cert.Kernel3Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

/-! ## The arguments -/

/-- An array of two examples' rows. -/
abbrev Cube (n : ℕ) : Shape := ⟨3, ![2, 4352, n]⟩
abbrev dv (c : Dev nD) : (Cube 1024).Idx → EReal := m ((c : Thread nD τ).loc main_arg0)
abbrev dzp (c : Dev nD) : (Cube 1024).Idx → EReal := m ((c : Thread nD τ).loc main_arg1)
abbrev dzs (c : Dev nD) : (Cube 2048).Idx → EReal := m ((c : Thread nD τ).loc main_arg2)
abbrev dgp (c : Dev nD) : (Cube 2048).Idx → EReal := m ((c : Thread nD τ).loc main_arg3)
abbrev dxs (c : Dev nD) : (Cube 2048).Idx → EReal := m ((c : Thread nD τ).loc main_arg4)
abbrev dbc (c : Dev nD) : (Cube 1024).Idx → EReal := m ((c : Thread nD τ).loc main_arg5)
abbrev ddt (c : Dev nD) : (Cube 128).Idx → EReal := m ((c : Thread nD τ).loc main_arg6)
abbrev w (c : Dev nD) : (Mat 9280 1024).Idx → EReal := m ((c : Thread nD τ).loc main_arg7)

/-- Entry `k` of slab `b` of a row of the gradient of the projection. -/
def slab (c : Dev nD) (b : ℕ) (e : Fin 2) (R : Fin 4352) (k : Fin 1024) : EReal :=
  match b with
  | 0 => dv m c (ix3 e R k)
  | 1 => dzp m c (ix3 e R k)
  | 2 => dzs m c (ix3 e R ⟨k.val, by omega⟩)
  | 3 => dzs m c (ix3 e R ⟨1024 + k.val, by omega⟩)
  | 4 => dgp m c (ix3 e R ⟨k.val, by omega⟩)
  | 5 => dgp m c (ix3 e R ⟨1024 + k.val, by omega⟩)
  | 6 => dxs m c (ix3 e R ⟨k.val, by omega⟩)
  | 7 => dxs m c (ix3 e R ⟨1024 + k.val, by omega⟩)
  | _ => dbc m c (ix3 e R k)

/-- Row `n` of `w_in`. -/
def wRow (c : Dev nD) (n : ℕ) (q : Fin 1024) : EReal :=
  if h : n < 9280 then w m c (ix2 ⟨n, h⟩ q) else 0

/-- What the columns of `dt` add. -/
def dtPart (c : Dev nD) (e : Fin 2) (R : Fin 4352) (q : Fin 1024) : EReal :=
  ∑ k : Fin 64, ddt m c (ix3 e R ⟨k.val, by omega⟩) * wRow m c (9216 + k.val) q

/-- What a slab adds. -/
def slabPart (c : Dev nD) (b : ℕ) (e : Fin 2) (R : Fin 4352) (q : Fin 1024) : EReal :=
  ∑ k : Fin 1024, slab m c b e R k * wRow m c (1024 * b + k.val) q

/-- The whole row. -/
def dhx (c : Dev nD) : (Cube 1024).Idx → EReal := fun i =>
  dtPart m c (i 0) (i 1) (i 2) + ∑ b ∈ Finset.range 9, slabPart m c b (i 0) (i 1) (i 2)

/-! ## The blocks a point reads -/

/-- Which blocks a point reads and writes. -/
theorem index_at : ∀ t : Fin cfg0.N,
    (win0_0.index t 0 = t.val / 36 ∧ win0_0.index t 1 = t.val / 9 % 4 ∧ win0_0.index t 2 = min (t.val % 9 - 0) 0)
    ∧ (win0_1.index t 0 = t.val / 36 ∧ win0_1.index t 1 = t.val / 9 % 4 ∧ win0_1.index t 2 = min (t.val % 9 - 1) 0)
    ∧ (win0_2.index t 0 = t.val / 36 ∧ win0_2.index t 1 = t.val / 9 % 4 ∧ win0_2.index t 2 = min (t.val % 9 - 2) 1)
    ∧ (win0_3.index t 0 = t.val / 36 ∧ win0_3.index t 1 = t.val / 9 % 4 ∧ win0_3.index t 2 = min (t.val % 9 - 4) 1)
    ∧ (win0_4.index t 0 = t.val / 36 ∧ win0_4.index t 1 = t.val / 9 % 4 ∧ win0_4.index t 2 = min (t.val % 9 - 6) 1)
    ∧ (win0_5.index t 0 = t.val / 36 ∧ win0_5.index t 1 = t.val / 9 % 4 ∧ win0_5.index t 2 = min (t.val % 9 - 8) 0)
    ∧ (win0_6.index t 0 = t.val / 36 ∧ win0_6.index t 1 = t.val / 9 % 4 ∧ win0_6.index t 2 = 0)
    ∧ (win0_7.index t 0 = t.val % 9 ∧ win0_7.index t 1 = 0)
    ∧ (win0_8.index t 0 = 0 ∧ win0_8.index t 1 = 0)
    ∧ (win0_9.index t 0 = t.val / 36 ∧ win0_9.index t 1 = t.val / 9 % 4 ∧ win0_9.index t 2 = 0) := by
  decide +kernel

theorem block_0 (c : Dev nD) (t : Fin cfg0.N) (r : Fin 1088) (k : Fin 1024) (i : (Cube 1024).Idx)
    (h0 : (i 0).val = t.val / 36) (h1 : (i 1).val = 1088 * (t.val / 9 % 4) + r.val) (h2 : (i 2).val = 1024 * (min (t.val % 9 - 0) 0) + k.val) :
    rows (a := 1088) (b := 1024) (iblk m c 0 t : Vec Ideal S1x1088x1024 .bf16) (ix2 r k) = dv m c i := by
  have e := (index_at t).1
  unfold rows iblk
  rw [View.read_apply]
  show V m c main_arg0 _ = m (c.tc.loc main_arg0) _
  rw [V_main_arg0]
  congr 1
  funext a
  apply Fin.ext
  match a with
  | ⟨0, _⟩ => show win0_0.index t 0 * 1 + 1 * 0 = (i 0).val; rw [e.1, h0]; omega
  | ⟨1, _⟩ => show win0_0.index t 1 * 1088 + 1 * r.val = (i 1).val; rw [e.2.1, h1]; omega
  | ⟨2, _⟩ => show win0_0.index t 2 * 1024 + 1 * k.val = (i 2).val; rw [e.2.2, h2]; omega

theorem block_1 (c : Dev nD) (t : Fin cfg0.N) (r : Fin 1088) (k : Fin 1024) (i : (Cube 1024).Idx)
    (h0 : (i 0).val = t.val / 36) (h1 : (i 1).val = 1088 * (t.val / 9 % 4) + r.val) (h2 : (i 2).val = 1024 * (min (t.val % 9 - 1) 0) + k.val) :
    rows (a := 1088) (b := 1024) (iblk m c 1 t : Vec Ideal S1x1088x1024 .bf16) (ix2 r k) = dzp m c i := by
  have e := (index_at t).2.1
  unfold rows iblk
  rw [View.read_apply]
  show V m c main_arg1 _ = m (c.tc.loc main_arg1) _
  rw [V_main_arg1]
  congr 1
  funext a
  apply Fin.ext
  match a with
  | ⟨0, _⟩ => show win0_1.index t 0 * 1 + 1 * 0 = (i 0).val; rw [e.1, h0]; omega
  | ⟨1, _⟩ => show win0_1.index t 1 * 1088 + 1 * r.val = (i 1).val; rw [e.2.1, h1]; omega
  | ⟨2, _⟩ => show win0_1.index t 2 * 1024 + 1 * k.val = (i 2).val; rw [e.2.2, h2]; omega

theorem block_2 (c : Dev nD) (t : Fin cfg0.N) (r : Fin 1088) (k : Fin 1024) (i : (Cube 2048).Idx)
    (h0 : (i 0).val = t.val / 36) (h1 : (i 1).val = 1088 * (t.val / 9 % 4) + r.val) (h2 : (i 2).val = 1024 * (min (t.val % 9 - 2) 1) + k.val) :
    rows (a := 1088) (b := 1024) (iblk m c 2 t : Vec Ideal S1x1088x1024 .bf16) (ix2 r k) = dzs m c i := by
  have e := (index_at t).2.2.1
  unfold rows iblk
  rw [View.read_apply]
  show V m c main_arg2 _ = m (c.tc.loc main_arg2) _
  rw [V_main_arg2]
  congr 1
  funext a
  apply Fin.ext
  match a with
  | ⟨0, _⟩ => show win0_2.index t 0 * 1 + 1 * 0 = (i 0).val; rw [e.1, h0]; omega
  | ⟨1, _⟩ => show win0_2.index t 1 * 1088 + 1 * r.val = (i 1).val; rw [e.2.1, h1]; omega
  | ⟨2, _⟩ => show win0_2.index t 2 * 1024 + 1 * k.val = (i 2).val; rw [e.2.2, h2]; omega

theorem block_3 (c : Dev nD) (t : Fin cfg0.N) (r : Fin 1088) (k : Fin 1024) (i : (Cube 2048).Idx)
    (h0 : (i 0).val = t.val / 36) (h1 : (i 1).val = 1088 * (t.val / 9 % 4) + r.val) (h2 : (i 2).val = 1024 * (min (t.val % 9 - 4) 1) + k.val) :
    rows (a := 1088) (b := 1024) (iblk m c 3 t : Vec Ideal S1x1088x1024 .bf16) (ix2 r k) = dgp m c i := by
  have e := (index_at t).2.2.2.1
  unfold rows iblk
  rw [View.read_apply]
  show V m c main_arg3 _ = m (c.tc.loc main_arg3) _
  rw [V_main_arg3]
  congr 1
  funext a
  apply Fin.ext
  match a with
  | ⟨0, _⟩ => show win0_3.index t 0 * 1 + 1 * 0 = (i 0).val; rw [e.1, h0]; omega
  | ⟨1, _⟩ => show win0_3.index t 1 * 1088 + 1 * r.val = (i 1).val; rw [e.2.1, h1]; omega
  | ⟨2, _⟩ => show win0_3.index t 2 * 1024 + 1 * k.val = (i 2).val; rw [e.2.2, h2]; omega

theorem block_4 (c : Dev nD) (t : Fin cfg0.N) (r : Fin 1088) (k : Fin 1024) (i : (Cube 2048).Idx)
    (h0 : (i 0).val = t.val / 36) (h1 : (i 1).val = 1088 * (t.val / 9 % 4) + r.val) (h2 : (i 2).val = 1024 * (min (t.val % 9 - 6) 1) + k.val) :
    rows (a := 1088) (b := 1024) (iblk m c 4 t : Vec Ideal S1x1088x1024 .bf16) (ix2 r k) = dxs m c i := by
  have e := (index_at t).2.2.2.2.1
  unfold rows iblk
  rw [View.read_apply]
  show V m c main_arg4 _ = m (c.tc.loc main_arg4) _
  rw [V_main_arg4]
  congr 1
  funext a
  apply Fin.ext
  match a with
  | ⟨0, _⟩ => show win0_4.index t 0 * 1 + 1 * 0 = (i 0).val; rw [e.1, h0]; omega
  | ⟨1, _⟩ => show win0_4.index t 1 * 1088 + 1 * r.val = (i 1).val; rw [e.2.1, h1]; omega
  | ⟨2, _⟩ => show win0_4.index t 2 * 1024 + 1 * k.val = (i 2).val; rw [e.2.2, h2]; omega

theorem block_5 (c : Dev nD) (t : Fin cfg0.N) (r : Fin 1088) (k : Fin 1024) (i : (Cube 1024).Idx)
    (h0 : (i 0).val = t.val / 36) (h1 : (i 1).val = 1088 * (t.val / 9 % 4) + r.val) (h2 : (i 2).val = 1024 * (min (t.val % 9 - 8) 0) + k.val) :
    rows (a := 1088) (b := 1024) (iblk m c 5 t : Vec Ideal S1x1088x1024 .bf16) (ix2 r k) = dbc m c i := by
  have e := (index_at t).2.2.2.2.2.1
  unfold rows iblk
  rw [View.read_apply]
  show V m c main_arg5 _ = m (c.tc.loc main_arg5) _
  rw [V_main_arg5]
  congr 1
  funext a
  apply Fin.ext
  match a with
  | ⟨0, _⟩ => show win0_5.index t 0 * 1 + 1 * 0 = (i 0).val; rw [e.1, h0]; omega
  | ⟨1, _⟩ => show win0_5.index t 1 * 1088 + 1 * r.val = (i 1).val; rw [e.2.1, h1]; omega
  | ⟨2, _⟩ => show win0_5.index t 2 * 1024 + 1 * k.val = (i 2).val; rw [e.2.2, h2]; omega

theorem block_6 (c : Dev nD) (t : Fin cfg0.N) (r : Fin 1088) (k : Fin 128) (i : (Cube 128).Idx)
    (h0 : (i 0).val = t.val / 36) (h1 : (i 1).val = 1088 * (t.val / 9 % 4) + r.val) (h2 : (i 2).val = k.val) :
    rows (a := 1088) (b := 128) (iblk m c 6 t : Vec Ideal S1x1088x128 .bf16) (ix2 r k) = ddt m c i := by
  have e := (index_at t).2.2.2.2.2.2.1
  unfold rows iblk
  rw [View.read_apply]
  show V m c main_arg6 _ = m (c.tc.loc main_arg6) _
  rw [V_main_arg6]
  congr 1
  funext a
  apply Fin.ext
  match a with
  | ⟨0, _⟩ => show win0_6.index t 0 * 1 + 1 * 0 = (i 0).val; rw [e.1, h0]; omega
  | ⟨1, _⟩ => show win0_6.index t 1 * 1088 + 1 * r.val = (i 1).val; rw [e.2.1, h1]; omega
  | ⟨2, _⟩ => show win0_6.index t 2 * 128 + 1 * k.val = (i 2).val; rw [e.2.2, h2]; omega

theorem block_7 (c : Dev nD) (t : Fin cfg0.N) (k : Fin 1024) (q : Fin 1024) :
    (X0_7 m c t : Vec Ideal S1024x1024 .bf16) (ix2 (n0 := 1024) (n1 := 1024) k q) = wRow m c (1024 * (t.val % 9) + k.val) q := by
  have e := (index_at t).2.2.2.2.2.2.2.1
  have hk := k.isLt
  have hr : 1024 * (t.val % 9) + k.val < 9280 := by omega
  unfold wRow
  rw [dif_pos hr]
  unfold X0_7 Pipeline.Window.fill
  rw [dif_pos (moved0_7 t _)]
  unfold iblk
  rw [View.read_apply]
  show V m c main_arg7 _ = m (c.tc.loc main_arg7) _
  rw [V_main_arg7]
  congr 1
  funext a
  apply Fin.ext
  match a with
  | ⟨0, _⟩ => show win0_7.index t 0 * 1024 + 1 * k.val = 1024 * (t.val % 9) + k.val; rw [e.1]; omega
  | ⟨1, _⟩ => show win0_7.index t 1 * 1024 + 1 * q.val = q.val; rw [e.2]; omega

/-- The padded rows under `dt`, as the host leaves them. -/
theorem padded (c : Dev nD) : V m c main_v1 = pad S128x1024 ![0, 0] ![64, 0] ![0, 0]
    (extractStridedSlice S64x1024 ![9216, 0] (w m c) slices_S9280x1024_S64x1024_9216_0)
    (sitofp (F := Ideal) .bf16 (constantI S_ 32 0#32)) pads_S64x1024_S128x1024_0640_000 h_S_ := by
  unfold V
  simp only [hostOps0, hostOps0_1, List.flatten_cons, List.flatten_nil, List.append_nil, List.cons_append, List.nil_append]
  after_results
  rfl

theorem block_8 (c : Dev nD) (t : Fin cfg0.N) (k : Fin 128) (q : Fin 1024) :
    (iblk m c 8 t : Vec Ideal S128x1024 .bf16) (ix2 (n0 := 128) (n1 := 1024) k q)
      = if k.val < 64 then wRow m c (9216 + k.val) q else 0 := by
  have e := (index_at t).2.2.2.2.2.2.2.2.1
  unfold iblk
  rw [View.read_apply]
  have hi : (((cfg0.win 8).blk t).view.emb (ix2 (n0 := 128) (n1 := 1024) k q) : S128x1024.Idx) = ix2 (n0 := 128) (n1 := 1024) k q := by
    funext a
    apply Fin.ext
    match a with
    | ⟨0, _⟩ => show win0_8.index t 0 * 128 + 1 * k.val = k.val; rw [e.1]; omega
    | ⟨1, _⟩ => show win0_8.index t 1 * 1024 + 1 * q.val = q.val; rw [e.2]; omega
  show V m c main_v1 (((cfg0.win 8).blk t).view.emb (ix2 (n0 := 128) (n1 := 1024) k q)) = _
  rw [padded, hi]
  split
  · rename_i h
    rw [pad_apply_of_inside _ _ _ _ _ _ _ _ (ix2 (n0 := 64) (n1 := 1024) ⟨k.val, h⟩ q) (fun a => by
      match a with
      | ⟨0, _⟩ => show k.val = 0 + k.val * (0 + 1); omega
      | ⟨1, _⟩ => show q.val = 0 + q.val * (0 + 1); omega)]
    unfold wRow
    rw [dif_pos (by omega)]
    show w m c _ = w m c _
    congr 1
    funext a
    apply Fin.ext
    match a with
    | ⟨0, _⟩ => rfl
    | ⟨1, _⟩ => show 0 + q.val = q.val; omega
  · rename_i h
    rw [pad_apply_of_not_inside _ _ _ _ _ _ _ _ 0 (fun hh => h (by
      have h3 : (k.val - 0) / (0 + 1) < 64 := hh.2.2
      omega))]
    show ((((0#32 : BitVec 32).toInt : ℝ)) : EReal) = 0
    simp

/-! ## The running sum -/

theorem half_sum (f : Fin 128 → EReal) (h : ∀ k : Fin 128, ¬k.val < 64 → f k = 0) :
    ∑ k, f k = ∑ k : Fin 64, f ⟨k.val, by omega⟩ := by
  rw [show (∑ k, f k) = ∑ k : Fin (64 + 64), f k from rfl, Fin.sum_univ_add,
    Finset.sum_eq_zero (f := fun i : Fin 64 => f (Fin.natAdd 64 i)) (fun k _ => h _ (by simp [Fin.natAdd])), add_zero]
  rfl

theorem dt_block (c : Dev nD) (t : Fin cfg0.N) (e : Fin 2) (R : Fin 4352) (j : S1088x1024.Idx) (h0 : e.val = t.val / 36)
    (h1 : R.val = 1088 * (t.val / 9 % 4) + (j 0).val) :
    nn (M := 1088) (N := 1024) (K := 128) (rows (iblk m c 6 t : Vec Ideal S1x1088x128 .bf16)) (iblk m c 8 t) j
      = dtPart m c e R (j 1) := by
  unfold nn dtPart
  rw [half_sum]
  · refine Finset.sum_congr rfl fun k _ => congrArg₂ (· * ·) ?_ ?_
    · exact block_6 m c t (j 0) ⟨k.val, by omega⟩ (ix3 e R ⟨k.val, by omega⟩) h0 h1 rfl
    · exact (block_8 m c t ⟨k.val, by omega⟩ (j 1)).trans (if_pos k.isLt)
  · intro k hk
    have hz := (block_8 m c t k (j 1)).trans (if_neg hk)
    exact (congrArg (_ * ·) hz).trans (mul_zero _)

theorem slab_block_0 (c : Dev nD) (t : Fin cfg0.N) (hs : t.val % 9 = 0) (e : Fin 2) (R : Fin 4352) (j : S1088x1024.Idx)
    (h0 : e.val = t.val / 36) (h1 : R.val = 1088 * (t.val / 9 % 4) + (j 0).val) :
    nn (M := 1088) (N := 1024) (K := 1024) (rows (iblk m c 0 t : Vec Ideal S1x1088x1024 .bf16)) (X0_7 m c t) j
      = slabPart m c 0 e R (j 1) := by
  unfold nn slabPart
  refine Finset.sum_congr rfl fun k _ => congrArg₂ (· * ·) ?_ ?_
  · refine block_0 m c t (j 0) k (ix3 e R k) h0 h1 ?_
    rw [hs]
    show k.val = _
    omega
  · refine (block_7 m c t k (j 1)).trans ?_
    rw [hs]

theorem slab_block_1 (c : Dev nD) (t : Fin cfg0.N) (hs : t.val % 9 = 1) (e : Fin 2) (R : Fin 4352) (j : S1088x1024.Idx)
    (h0 : e.val = t.val / 36) (h1 : R.val = 1088 * (t.val / 9 % 4) + (j 0).val) :
    nn (M := 1088) (N := 1024) (K := 1024) (rows (iblk m c 1 t : Vec Ideal S1x1088x1024 .bf16)) (X0_7 m c t) j
      = slabPart m c 1 e R (j 1) := by
  unfold nn slabPart
  refine Finset.sum_congr rfl fun k _ => congrArg₂ (· * ·) ?_ ?_
  · refine block_1 m c t (j 0) k (ix3 e R k) h0 h1 ?_
    rw [hs]
    show k.val = _
    omega
  · refine (block_7 m c t k (j 1)).trans ?_
    rw [hs]

theorem slab_block_2 (c : Dev nD) (t : Fin cfg0.N) (hs : t.val % 9 = 2) (e : Fin 2) (R : Fin 4352) (j : S1088x1024.Idx)
    (h0 : e.val = t.val / 36) (h1 : R.val = 1088 * (t.val / 9 % 4) + (j 0).val) :
    nn (M := 1088) (N := 1024) (K := 1024) (rows (iblk m c 2 t : Vec Ideal S1x1088x1024 .bf16)) (X0_7 m c t) j
      = slabPart m c 2 e R (j 1) := by
  unfold nn slabPart
  refine Finset.sum_congr rfl fun k _ => congrArg₂ (· * ·) ?_ ?_
  · refine block_2 m c t (j 0) k (ix3 e R ⟨k.val, by omega⟩) h0 h1 ?_
    rw [hs]
    show k.val = _
    omega
  · refine (block_7 m c t k (j 1)).trans ?_
    rw [hs]

theorem slab_block_3 (c : Dev nD) (t : Fin cfg0.N) (hs : t.val % 9 = 3) (e : Fin 2) (R : Fin 4352) (j : S1088x1024.Idx)
    (h0 : e.val = t.val / 36) (h1 : R.val = 1088 * (t.val / 9 % 4) + (j 0).val) :
    nn (M := 1088) (N := 1024) (K := 1024) (rows (iblk m c 2 t : Vec Ideal S1x1088x1024 .bf16)) (X0_7 m c t) j
      = slabPart m c 3 e R (j 1) := by
  unfold nn slabPart
  refine Finset.sum_congr rfl fun k _ => congrArg₂ (· * ·) ?_ ?_
  · refine block_2 m c t (j 0) k (ix3 e R ⟨1024 + k.val, by omega⟩) h0 h1 ?_
    rw [hs]
    show 1024 + k.val = _
    omega
  · refine (block_7 m c t k (j 1)).trans ?_
    rw [hs]

theorem slab_block_4 (c : Dev nD) (t : Fin cfg0.N) (hs : t.val % 9 = 4) (e : Fin 2) (R : Fin 4352) (j : S1088x1024.Idx)
    (h0 : e.val = t.val / 36) (h1 : R.val = 1088 * (t.val / 9 % 4) + (j 0).val) :
    nn (M := 1088) (N := 1024) (K := 1024) (rows (iblk m c 3 t : Vec Ideal S1x1088x1024 .bf16)) (X0_7 m c t) j
      = slabPart m c 4 e R (j 1) := by
  unfold nn slabPart
  refine Finset.sum_congr rfl fun k _ => congrArg₂ (· * ·) ?_ ?_
  · refine block_3 m c t (j 0) k (ix3 e R ⟨k.val, by omega⟩) h0 h1 ?_
    rw [hs]
    show k.val = _
    omega
  · refine (block_7 m c t k (j 1)).trans ?_
    rw [hs]

theorem slab_block_5 (c : Dev nD) (t : Fin cfg0.N) (hs : t.val % 9 = 5) (e : Fin 2) (R : Fin 4352) (j : S1088x1024.Idx)
    (h0 : e.val = t.val / 36) (h1 : R.val = 1088 * (t.val / 9 % 4) + (j 0).val) :
    nn (M := 1088) (N := 1024) (K := 1024) (rows (iblk m c 3 t : Vec Ideal S1x1088x1024 .bf16)) (X0_7 m c t) j
      = slabPart m c 5 e R (j 1) := by
  unfold nn slabPart
  refine Finset.sum_congr rfl fun k _ => congrArg₂ (· * ·) ?_ ?_
  · refine block_3 m c t (j 0) k (ix3 e R ⟨1024 + k.val, by omega⟩) h0 h1 ?_
    rw [hs]
    show 1024 + k.val = _
    omega
  · refine (block_7 m c t k (j 1)).trans ?_
    rw [hs]

theorem slab_block_6 (c : Dev nD) (t : Fin cfg0.N) (hs : t.val % 9 = 6) (e : Fin 2) (R : Fin 4352) (j : S1088x1024.Idx)
    (h0 : e.val = t.val / 36) (h1 : R.val = 1088 * (t.val / 9 % 4) + (j 0).val) :
    nn (M := 1088) (N := 1024) (K := 1024) (rows (iblk m c 4 t : Vec Ideal S1x1088x1024 .bf16)) (X0_7 m c t) j
      = slabPart m c 6 e R (j 1) := by
  unfold nn slabPart
  refine Finset.sum_congr rfl fun k _ => congrArg₂ (· * ·) ?_ ?_
  · refine block_4 m c t (j 0) k (ix3 e R ⟨k.val, by omega⟩) h0 h1 ?_
    rw [hs]
    show k.val = _
    omega
  · refine (block_7 m c t k (j 1)).trans ?_
    rw [hs]

theorem slab_block_7 (c : Dev nD) (t : Fin cfg0.N) (hs : t.val % 9 = 7) (e : Fin 2) (R : Fin 4352) (j : S1088x1024.Idx)
    (h0 : e.val = t.val / 36) (h1 : R.val = 1088 * (t.val / 9 % 4) + (j 0).val) :
    nn (M := 1088) (N := 1024) (K := 1024) (rows (iblk m c 4 t : Vec Ideal S1x1088x1024 .bf16)) (X0_7 m c t) j
      = slabPart m c 7 e R (j 1) := by
  unfold nn slabPart
  refine Finset.sum_congr rfl fun k _ => congrArg₂ (· * ·) ?_ ?_
  · refine block_4 m c t (j 0) k (ix3 e R ⟨1024 + k.val, by omega⟩) h0 h1 ?_
    rw [hs]
    show 1024 + k.val = _
    omega
  · refine (block_7 m c t k (j 1)).trans ?_
    rw [hs]

theorem slab_block_8 (c : Dev nD) (t : Fin cfg0.N) (hs : t.val % 9 = 8) (e : Fin 2) (R : Fin 4352) (j : S1088x1024.Idx)
    (h0 : e.val = t.val / 36) (h1 : R.val = 1088 * (t.val / 9 % 4) + (j 0).val) :
    nn (M := 1088) (N := 1024) (K := 1024) (rows (iblk m c 5 t : Vec Ideal S1x1088x1024 .bf16)) (X0_7 m c t) j
      = slabPart m c 8 e R (j 1) := by
  unfold nn slabPart
  refine Finset.sum_congr rfl fun k _ => congrArg₂ (· * ·) ?_ ?_
  · refine block_5 m c t (j 0) k (ix3 e R k) h0 h1 ?_
    rw [hs]
    show k.val = _
    omega
  · refine (block_7 m c t k (j 1)).trans ?_
    rw [hs]

/-- The point before. -/
abbrev prev (t : Fin cfg0.N) : Fin cfg0.N := ⟨t.val - 1, lt_of_le_of_lt (Nat.sub_le _ _) t.isLt⟩

theorem scratch_0 (c : Dev nD) (t : Fin cfg0.N) (hs : t.val % 9 = 0) (e : Fin 2) (R : Fin 4352) (j : S1088x1024.Idx)
    (h0 : e.val = t.val / 36) (h1 : R.val = 1088 * (t.val / 9 % 4) + (j 0).val) :
    (outsAt0 m c t.val t.isLt).2 j = dtPart m c e R (j 1) + slabPart m c 0 e R (j 1) := by
  rw [outsAt0_A m c t (by omega) (by omega) (by omega) (by omega) (by omega) (by omega) (by omega) (by omega)]
  dsimp only
  rw [sum_A, dt_block m c t e R j h0 h1, slab_block_0 m c t hs e R j h0 h1]

theorem scratch_1 (c : Dev nD) (t : Fin cfg0.N) (hs : t.val % 9 = 1) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 1 e R (j 1) := by
  rw [outsAt0_B m c t (by omega) (by omega) (by omega) (by omega) (by omega) (by omega) (by omega) (by omega)]
  dsimp only
  rw [sum_B, slab_block_1 m c t hs e R j h0 h1]

theorem scratch_2 (c : Dev nD) (t : Fin cfg0.N) (hs : t.val % 9 = 2) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 2 e R (j 1) := by
  rw [outsAt0_C m c t (by omega) (by omega) (by omega) (by omega) (by omega) (by omega) (by omega) (by omega)]
  dsimp only
  rw [sum_C, slab_block_2 m c t hs e R j h0 h1]

theorem scratch_3 (c : Dev nD) (t : Fin cfg0.N) (hs : t.val % 9 = 3) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 3 e R (j 1) := by
  rw [outsAt0_C m c t (by omega) (by omega) (by omega) (by omega) (by omega) (by omega) (by omega) (by omega)]
  dsimp only
  rw [sum_C, slab_block_3 m c t hs e R j h0 h1]

theorem scratch_4 (c : Dev nD) (t : Fin cfg0.N) (hs : t.val % 9 = 4) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 4 e R (j 1) := by
  rw [outsAt0_D m c t (by omega) (by omega) (by omega) (by omega) (by omega) (by omega) (by omega) (by omega)]
  dsimp only
  rw [sum_D, slab_block_4 m c t hs e R j h0 h1]

theorem scratch_5 (c : Dev nD) (t : Fin cfg0.N) (hs : t.val % 9 = 5) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 5 e R (j 1) := by
  rw [outsAt0_D m c t (by omega) (by omega) (by omega) (by omega) (by omega) (by omega) (by omega) (by omega)]
  dsimp only
  rw [sum_D, slab_block_5 m c t hs e R j h0 h1]

theorem scratch_6 (c : Dev nD) (t : Fin cfg0.N) (hs : t.val % 9 = 6) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 6 e R (j 1) := by
  rw [outsAt0_E m c t (by omega) (by omega) (by omega) (by omega) (by omega) (by omega) (by omega) (by omega)]
  dsimp only
  rw [sum_E, slab_block_6 m c t hs e R j h0 h1]

theorem scratch_7 (c : Dev nD) (t : Fin cfg0.N) (hs : t.val % 9 = 7) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 7 e R (j 1) := by
  rw [outsAt0_E m c t (by omega) (by omega) (by omega) (by omega) (by omega) (by omega) (by omega) (by omega)]
  dsimp only
  rw [sum_E, slab_block_7 m c t hs e R j h0 h1]

theorem scratch_8 (c : Dev nD) (t : Fin cfg0.N) (hs : t.val % 9 = 8) (e : Fin 2) (R : Fin 4352) (j : S1088x1024.Idx)
    (h0 : e.val = t.val / 36) (h1 : R.val = 1088 * (t.val / 9 % 4) + (j 0).val) :
    (outsAt0 m c t.val t.isLt).2 j
      = (outsAt0 m c (t.val - 1) (lt_of_le_of_lt (Nat.sub_le _ _) t.isLt)).2 j + slabPart m c 8 e R (j 1) := by
  rw [outsAt0_F m c t (by omega) (by omega) (by omega) (by omega) (by omega) (by omega) (by omega) (by omega)]
  dsimp only
  rw [sum_F, slab_block_8 m c t hs e R j h0 h1]

/-- After the point of slab `s` the running sum holds the columns of `dt` and the slabs up to `s`. -/
theorem scratch_eq (c : Dev nD) (e : Fin 2) (R : Fin 4352) (j : S1088x1024.Idx) :
    ∀ (s : ℕ) (t : Fin cfg0.N), t.val % 9 = s → e.val = t.val / 36 → R.val = 1088 * (t.val / 9 % 4) + (j 0).val →
      (outsAt0 m c t.val t.isLt).2 j = dtPart m c e R (j 1) + ∑ b ∈ Finset.range (s + 1), slabPart m c b e R (j 1) := by
  intro s
  induction s with
  | zero =>
    intro t hs h0 h1
    rw [scratch_0 m c t hs e R j h0 h1, Finset.sum_range_one]
  | succ s ih =>
    intro t hs h0 h1
    have hp := ih (prev t) (by show (t.val - 1) % 9 = s; omega) (by show e.val = (t.val - 1) / 36; omega)
      (by show R.val = 1088 * ((t.val - 1) / 9 % 4) + (j 0).val; rw [h1]; congr 2; omega)
    have hstep : (outsAt0 m c t.val t.isLt).2 j
        = (outsAt0 m c (t.val - 1) (lt_of_le_of_lt (Nat.sub_le _ _) t.isLt)).2 j + slabPart m c (s + 1) e R (j 1) := by
      have hb : s + 1 < 9 := by omega
      match s, hb, hs with
      | 0, _, hs => exact scratch_1 m c t hs e R j h0 h1
      | 1, _, hs => exact scratch_2 m c t hs e R j h0 h1
      | 2, _, hs => exact scratch_3 m c t hs e R j h0 h1
      | 3, _, hs => exact scratch_4 m c t hs e R j h0 h1
      | 4, _, hs => exact scratch_5 m c t hs e R j h0 h1
      | 5, _, hs => exact scratch_6 m c t hs e R j h0 h1
      | 6, _, hs => exact scratch_7 m c t hs e R j h0 h1
      | 7, _, hs => exact scratch_8 m c t hs e R j h0 h1
    rw [hstep, Finset.sum_range_succ, ← add_assoc]
    exact congrArg (· + slabPart m c (s + 1) e R (j 1)) hp

/-! ## The array -/

/-- What the last point of a block stores. -/
theorem out_eq (c : Dev nD) (t : Fin cfg0.N) (hs : t.val % 9 = 8) (y : S1x1088x1024.Idx) (i : (Cube 1024).Idx)
    (h0 : (i 0).val = t.val / 36) (h1 : (i 1).val = 1088 * (t.val / 9 % 4) + (y 1).val) (h2 : (i 2).val = (y 2).val) :
    (outsAt0 m c t.val t.isLt).1 y = dhx m c i := by
  have hq : i 2 = y 2 := Fin.ext h2
  rw [outsAt0_F m c t (by omega) (by omega) (by omega) (by omega) (by omega) (by omega) (by omega) (by omega)]
  dsimp only
  rw [out_F]
  have hp := scratch_eq m c (i 0) (i 1) (ix2 (n0 := 1088) (n1 := 1024) (y 1) (y 2)) 7 (prev t)
    (by show (t.val - 1) % 9 = 7; omega) (by show (i 0).val = (t.val - 1) / 36; omega)
    (by show (i 1).val = 1088 * ((t.val - 1) / 9 % 4) + (y 1).val; rw [h1]; congr 2; omega)
  have hl := slab_block_8 m c t hs (i 0) (i 1) (ix2 (n0 := 1088) (n1 := 1024) (y 1) (y 2)) h0 h1
  unfold dhx
  rw [Finset.sum_range_succ, ← add_assoc, hq]
  exact congrArg₂ (· + ·) hp hl

theorem flush_at : ∀ t : Fin cfg0.N, (cfg0.win 9).flush t = true → t.val % 9 = 8 := by decide +kernel

/-- The result array. -/
theorem final (c : Dev nD) : (dats m 0 c).arrAt 9 cfg0.N = dhx m c := by
  refine (dats m 0 c).arrAt_eq_of_covers 9 _ (by decide +kernel) fun t hf y => ?_
  blk_simp
  rw [after0_9]
  refine out_eq m c t (flush_at t hf) y _ ?_ ?_ ?_
  · blk_simp; rw [(index_at t).2.2.2.2.2.2.2.2.2.1]
  · blk_simp; rw [(index_at t).2.2.2.2.2.2.2.2.2.2.1]; show t.val / 9 % 4 * 1088 + (y 1).val = _; omega
  · blk_simp; rw [(index_at t).2.2.2.2.2.2.2.2.2.2.2]; omega

/-- The run: the result array, and the arguments stay. -/
theorem run : θ_run defs (onTc (τ := τ) (main (F := Ideal))) ⟨m, fun _ => 0, ρ⟩ fun r => ∀ c : Dev nD,
      r.2.mem ((c : Thread nD τ).loc main_v2) = dhx m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans ((Value.final9 m c).symm.trans (final m c)), (h c).2⟩) (Value.run m ρ)

end Cert.Kernel3Ideal.Product

end
-- ==== Proof.Reference3Product.lean ====
/-
  The reference of program "Reference3" computes the rows of the gradient of the projection times `w_in`, as the derivative of
  `hx w_inᵀ` in `hx`, and the kernel of "Kernel3" the same array.
-/
module

public import proofs.«01_k».proof.Proof.Kernel3Product
public import proofs.«01_k».proof.Proof.Gen.Reference3Ideal.Run
public import proofs.«01_k».proof.Proof.Gen.Reference3Ideal.Read
public import proofs.«01_k».proof.Defs
public import Idealize.ShloMosaic.Lib.Quiescent

@[expose] public section

noncomputable section

namespace Cert.Reference3Ideal.Product

open Cert.Reference3Ideal Cert.Reference3Ideal.Gen Cert.Reference3Ideal.Read Idealize.ShloMosaic Idealize.ShloMosaic.TcCoe Idealize.SL.Sem
open Idealize.ShloMosaic.ValueIdx Cert.Products

/-- A sum over whole slabs of 1024. -/
theorem sum_slabs (g : ℕ → EReal) (n : ℕ) :
    ∑ k ∈ Finset.range (1024 * n), g k = ∑ b ∈ Finset.range n, ∑ k : Fin 1024, g (1024 * b + k.val) := by
  induction n with
  | zero => simp
  | succ n ih => rw [Nat.mul_succ, Finset.sum_range_add, ih, Finset.sum_range_succ (fun b => ∑ k : Fin 1024, g (1024 * b + k.val)) n, Finset.sum_range (fun x => g (1024 * n + x))]

/-- A sum over the 9280 columns: the last 64, and nine slabs. -/
theorem sum_columns (g : ℕ → EReal) : ∑ k : Fin 9280, g k.val
    = ∑ k : Fin 64, g (9216 + k.val) + ∑ b ∈ Finset.range 9, ∑ k : Fin 1024, g (1024 * b + k.val) := by
  rw [← Finset.sum_range, show 9280 = 1024 * 9 + 64 from rfl, Finset.sum_range_add, sum_slabs, add_comm,
    Finset.sum_range (fun x => g (1024 * 9 + x))]

/-- The row index of the concatenated array at a column number. -/
abbrev at9280 (e : Fin 2) (R : Fin 4352) (n : ℕ) (h : n < 9280) : S2x4352x9280.Idx := ix3 (n0 := 2) (n1 := 4352) (n2 := 9280) e R ⟨n, h⟩

theorem piece_0 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 1024) (hk : 0 + k.val = n) :
    val_main_v8 (F := Ideal) x0 x1 x2 x3 x4 x5 x6 (at9280 e R n hn) = x0 (ix3 e R k) := by
  unfold val_main_v8
  refine (concatenate_apply_piece (2 : Fin S2x4352x9280.rank) _ _ (at9280 e R n hn) 0 (by show 0 < 7; decide) S2x4352x1024 _ rfl rfl 0
    (by simp only [List.take_succ_cons, List.take_zero, List.map_cons, List.map_nil, List.sum_cons, List.sum_nil])
    (ix3 (n0 := 2) (n1 := 4352) (n2 := 1024) e R k) (fun b hb => ?_) hk).trans ?_
  · match b with
    | ⟨0, _⟩ => rfl
    | ⟨1, _⟩ => rfl
    | ⟨2, _⟩ => exact absurd (Fin.ext rfl) hb
  · rfl

theorem piece_1 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 1024) (hk : 1024 + k.val = n) :
    val_main_v8 (F := Ideal) x0 x1 x2 x3 x4 x5 x6 (at9280 e R n hn) = x1 (ix3 e R k) := by
  unfold val_main_v8
  refine (concatenate_apply_piece (2 : Fin S2x4352x9280.rank) _ _ (at9280 e R n hn) 1 (by show 1 < 7; decide) S2x4352x1024 _ rfl rfl 1024
    (by simp only [List.take_succ_cons, List.take_zero, List.map_cons, List.map_nil, List.sum_cons, List.sum_nil]; decide +kernel)
    (ix3 (n0 := 2) (n1 := 4352) (n2 := 1024) e R k) (fun b hb => ?_) hk).trans ?_
  · match b with
    | ⟨0, _⟩ => rfl
    | ⟨1, _⟩ => rfl
    | ⟨2, _⟩ => exact absurd (Fin.ext rfl) hb
  · rfl

theorem piece_2 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 2048) (hk : 2048 + k.val = n) :
    val_main_v8 (F := Ideal) x0 x1 x2 x3 x4 x5 x6 (at9280 e R n hn) = x2 (ix3 e R k) := by
  unfold val_main_v8
  refine (concatenate_apply_piece (2 : Fin S2x4352x9280.rank) _ _ (at9280 e R n hn) 2 (by show 2 < 7; decide) S2x4352x2048 _ rfl rfl 2048
    (by simp only [List.take_succ_cons, List.take_zero, List.map_cons, List.map_nil, List.sum_cons, List.sum_nil]; decide +kernel)
    (ix3 (n0 := 2) (n1 := 4352) (n2 := 2048) e R k) (fun b hb => ?_) hk).trans ?_
  · match b with
    | ⟨0, _⟩ => rfl
    | ⟨1, _⟩ => rfl
    | ⟨2, _⟩ => exact absurd (Fin.ext rfl) hb
  · rfl

theorem piece_3 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 2048) (hk : 4096 + k.val = n) :
    val_main_v8 (F := Ideal) x0 x1 x2 x3 x4 x5 x6 (at9280 e R n hn) = x3 (ix3 e R k) := by
  unfold val_main_v8
  refine (concatenate_apply_piece (2 : Fin S2x4352x9280.rank) _ _ (at9280 e R n hn) 3 (by show 3 < 7; decide) S2x4352x2048 _ rfl rfl 4096
    (by simp only [List.take_succ_cons, List.take_zero, List.map_cons, List.map_nil, List.sum_cons, List.sum_nil]; decide +kernel)
    (ix3 (n0 := 2) (n1 := 4352) (n2 := 2048) e R k) (fun b hb => ?_) hk).trans ?_
  · match b with
    | ⟨0, _⟩ => rfl
    | ⟨1, _⟩ => rfl
    | ⟨2, _⟩ => exact absurd (Fin.ext rfl) hb
  · rfl

theorem piece_4 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 2048) (hk : 6144 + k.val = n) :
    val_main_v8 (F := Ideal) x0 x1 x2 x3 x4 x5 x6 (at9280 e R n hn) = x4 (ix3 e R k) := by
  unfold val_main_v8
  refine (concatenate_apply_piece (2 : Fin S2x4352x9280.rank) _ _ (at9280 e R n hn) 4 (by show 4 < 7; decide) S2x4352x2048 _ rfl rfl 6144
    (by simp only [List.take_succ_cons, List.take_zero, List.map_cons, List.map_nil, List.sum_cons, List.sum_nil]; decide +kernel)
    (ix3 (n0 := 2) (n1 := 4352) (n2 := 2048) e R k) (fun b hb => ?_) hk).trans ?_
  · match b with
    | ⟨0, _⟩ => rfl
    | ⟨1, _⟩ => rfl
    | ⟨2, _⟩ => exact absurd (Fin.ext rfl) hb
  · rfl

theorem piece_5 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 1024) (hk : 8192 + k.val = n) :
    val_main_v8 (F := Ideal) x0 x1 x2 x3 x4 x5 x6 (at9280 e R n hn) = x5 (ix3 e R k) := by
  unfold val_main_v8
  refine (concatenate_apply_piece (2 : Fin S2x4352x9280.rank) _ _ (at9280 e R n hn) 5 (by show 5 < 7; decide) S2x4352x1024 _ rfl rfl 8192
    (by simp only [List.take_succ_cons, List.take_zero, List.map_cons, List.map_nil, List.sum_cons, List.sum_nil]; decide +kernel)
    (ix3 (n0 := 2) (n1 := 4352) (n2 := 1024) e R k) (fun b hb => ?_) hk).trans ?_
  · match b with
    | ⟨0, _⟩ => rfl
    | ⟨1, _⟩ => rfl
    | ⟨2, _⟩ => exact absurd (Fin.ext rfl) hb
  · rfl

theorem piece_6 (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal))
    (e : Fin 2) (R : Fin 4352) (n : ℕ) (hn : n < 9280) (k : Fin 64) (hk : 9216 + k.val = n) :
    val_main_v8 (F := Ideal) x0 x1 x2 x3 x4 x5 x6 (at9280 e R n hn) = x6 (ix3 e R ⟨k.val, by omega⟩) := by
  unfold val_main_v8
  refine (concatenate_apply_piece (2 : Fin S2x4352x9280.rank) _ _ (at9280 e R n hn) 6 (by show 6 < 7; decide) S2x4352x64 _ rfl rfl 9216
    (by simp only [List.take_succ_cons, List.take_zero, List.map_cons, List.map_nil, List.sum_cons, List.sum_nil]; decide +kernel)
    (ix3 (n0 := 2) (n1 := 4352) (n2 := 64) e R k) (fun b hb => ?_) hk).trans ?_
  · match b with
    | ⟨0, _⟩ => rfl
    | ⟨1, _⟩ => rfl
    | ⟨2, _⟩ => exact absurd (Fin.ext rfl) hb
  · rw [val_main_v7_apply, val_main_v0_apply]
    exact congrArg x6 (funext fun a => by fin_cases a <;> rfl)

/-- Entry `n` of a row of the concatenated gradient, 0 past its end. -/
def col (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal)) (e : Fin 2) (R : Fin 4352) (n : ℕ) : EReal :=
  if h : n < 9280 then val_main_v8 (F := Ideal) x0 x1 x2 x3 x4 x5 x6 (at9280 e R n h) else 0

/-- Row `n` of `w_in`, 0 past its end. -/
def row (x7 : (⟨S9280x1024, .bf16⟩ : BufTy).Contents (Elt Ideal)) (n : ℕ) (q : Fin 1024) : EReal :=
  if h : n < 9280 then x7 (ix2 (n0 := 9280) (n1 := 1024) ⟨n, h⟩ q) else 0

/-- The reference's last stage, as a sum over the slabs. -/
theorem stage_sum (x0 : (⟨S2x4352x1024, .bf16⟩ : BufTy).Contents (Elt Ideal)) (x1 : (⟨S2x4352x1024, .bf16⟩ : BufTy).Contents (Elt Ideal)) (x2 : (⟨S2x4352x2048, .bf16⟩ : BufTy).Contents (Elt Ideal)) (x3 : (⟨S2x4352x2048, .bf16⟩ : BufTy).Contents (Elt Ideal)) (x4 : (⟨S2x4352x2048, .bf16⟩ : BufTy).Contents (Elt Ideal)) (x5 : (⟨S2x4352x1024, .bf16⟩ : BufTy).Contents (Elt Ideal)) (x6 : (⟨S2x4352x128, .bf16⟩ : BufTy).Contents (Elt Ideal)) (x7 : (⟨S9280x1024, .bf16⟩ : BufTy).Contents (Elt Ideal)) (i : S2x4352x1024.Idx) :
    val_main_v14 (F := Ideal) x0 x1 x2 x3 x4 x5 x6 x7 i = ∑ k : Fin 64, col x0 x1 x2 x3 x4 x5 x6 (i 0) (i 1) (9216 + k.val) * row x7 (9216 + k.val) (i 2)
      + ∑ b ∈ Finset.range 9, ∑ k : Fin 1024, col x0 x1 x2 x3 x4 x5 x6 (i 0) (i 1) (1024 * b + k.val) * row x7 (1024 * b + k.val) (i 2) := by
  rw [← sum_columns fun n => col x0 x1 x2 x3 x4 x5 x6 (i 0) (i 1) n * row x7 n (i 2)]
  show val_main_v13 (F := Ideal) x0 x1 x2 x3 x4 x5 x6 x7 i = _
  rw [val_main_v13_apply]
  refine Finset.sum_congr rfl fun k _ => congrArg₂ (· * ·) ?_ ?_
  · unfold col
    rw [dif_pos k.isLt]
    exact congrArg (val_main_v8 (F := Ideal) x0 x1 x2 x3 x4 x5 x6) (funext fun a => by fin_cases a <;> rfl)
  · unfold row
    rw [dif_pos k.isLt, val_main_v11_apply]
    exact congrArg x7 (funext fun a => by fin_cases a <;> rfl)

end Cert.Reference3Ideal.Product

namespace Cert.Kernel3Ideal.Product

open Cert.Kernel3Ideal Cert.Kernel3Ideal.Gen Idealize.ShloMosaic Idealize.ShloMosaic.TcCoe Idealize.SL.Sem
open Idealize.ShloMosaic.ValueIdx Cert.Products

variable (m : (ℓ : Loc nD τ sig) → Buf (Elt Ideal) ℓ)

/-- A slab of the concatenated row is the slab the kernel takes. -/
theorem col_slab (c : Dev nD) (e : Fin 2) (R : Fin 4352) : ∀ b ∈ Finset.range 9, ∀ k : Fin 1024,
    Cert.Reference3Ideal.Product.col (dv m c) (dzp m c) (dzs m c) (dgp m c) (dxs m c) (dbc m c) (ddt m c) e R (1024 * b + k.val)
      = slab m c b e R k := by
  intro b hb k
  have hk := k.isLt
  have hb9 : b < 9 := Finset.mem_range.mp hb
  have hn : 1024 * b + k.val < 9280 := by omega
  unfold Cert.Reference3Ideal.Product.col
  rw [dif_pos hn]
  match b, hb9 with
  | 0, _ => exact Cert.Reference3Ideal.Product.piece_0 _ _ _ _ _ _ _ e R _ hn k (by show 0 + k.val = 1024 * 0 + k.val; omega)
  | 1, _ => exact Cert.Reference3Ideal.Product.piece_1 _ _ _ _ _ _ _ e R _ hn k (by show 1024 + k.val = 1024 * 1 + k.val; omega)
  | 2, _ => exact Cert.Reference3Ideal.Product.piece_2 _ _ _ _ _ _ _ e R _ hn ⟨k.val, by omega⟩ (by show 2048 + k.val = 1024 * 2 + k.val; omega)
  | 3, _ => exact Cert.Reference3Ideal.Product.piece_2 _ _ _ _ _ _ _ e R _ hn ⟨1024 + k.val, by omega⟩ (by show 2048 + (1024 + k.val) = 1024 * 3 + k.val; omega)
  | 4, _ => exact Cert.Reference3Ideal.Product.piece_3 _ _ _ _ _ _ _ e R _ hn ⟨k.val, by omega⟩ (by show 4096 + k.val = 1024 * 4 + k.val; omega)
  | 5, _ => exact Cert.Reference3Ideal.Product.piece_3 _ _ _ _ _ _ _ e R _ hn ⟨1024 + k.val, by omega⟩ (by show 4096 + (1024 + k.val) = 1024 * 5 + k.val; omega)
  | 6, _ => exact Cert.Reference3Ideal.Product.piece_4 _ _ _ _ _ _ _ e R _ hn ⟨k.val, by omega⟩ (by show 6144 + k.val = 1024 * 6 + k.val; omega)
  | 7, _ => exact Cert.Reference3Ideal.Product.piece_4 _ _ _ _ _ _ _ e R _ hn ⟨1024 + k.val, by omega⟩ (by show 6144 + (1024 + k.val) = 1024 * 7 + k.val; omega)
  | 8, _ => exact Cert.Reference3Ideal.Product.piece_5 _ _ _ _ _ _ _ e R _ hn k (by show 8192 + k.val = 1024 * 8 + k.val; omega)

/-- The reference's last stage is the array the kernel leaves. -/
theorem stage_eq (c : Dev nD) :
    Cert.Reference3Ideal.Read.val_main_v14 (F := Ideal) (dv m c) (dzp m c) (dzs m c) (dgp m c) (dxs m c) (dbc m c) (ddt m c) (w m c)
      = dhx m c := by
  funext i
  rw [Cert.Reference3Ideal.Product.stage_sum]
  unfold dhx dtPart slabPart
  refine congrArg₂ (· + ·) (Finset.sum_congr rfl fun k _ => congrArg₂ (· * ·) ?_ rfl)
    (Finset.sum_congr rfl fun b hb => Finset.sum_congr rfl fun k _ => congrArg₂ (· * ·) (col_slab m c _ _ b hb k) rfl)
  unfold Cert.Reference3Ideal.Product.col
  rw [dif_pos (by have := k.isLt; omega)]
  exact Cert.Reference3Ideal.Product.piece_6 _ _ _ _ _ _ _ _ _ _ _ k rfl

end Cert.Kernel3Ideal.Product

namespace Cert.Reference3Ideal.Product

open Cert.Reference3Ideal Cert.Reference3Ideal.Read Idealize.ShloMosaic Idealize.ShloMosaic.TcCoe Idealize.SL.Sem

/-- The run: the result is the last stage and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = val_main_v14 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v14_eq _ _ _ _ _ _ _ _), (h c).2⟩) (Value.run m ρ)

/-- The frame: the arguments stay, and there is no semaphore. -/
theorem frame : Cert.quiescent_Reference3Ideal := fun m ρ _ =>
  (θ_run defs _ _).mono (fun r h => ⟨fun c => (h c).2, Idealize.ShloMosaic.sem_eq_zero_of_no_sems (by decide) r.2⟩) (run m ρ)

end Cert.Reference3Ideal.Product

namespace Cert.Proof

open Idealize.ShloMosaic Idealize.ShloMosaic.TcCoe Idealize.SL.Sem

/-- Kernel and reference leave the same result. -/
theorem algebraic3 : Cert.algebraic_Kernel3Ideal_Reference3Ideal := by
  intro m g m' g' _ hm
  refine ⟨fun c => Cert.Kernel3Ideal.Product.dhx m c, Cert.Kernel3Ideal.Product.run m g, ?_⟩
  refine (θ_run _ _ _).mono (fun _ h c => ⟨?_, (h c).2⟩) (Cert.Reference3Ideal.Product.run m' g')
  obtain ⟨e0, e1, e2, e3, e4, e5, e6, e7⟩ := hm c
  refine (h c).1.trans ?_
  rw [e0, e1, e2, e3, e4, e5, e6, e7]
  exact Cert.Kernel3Ideal.Product.stage_eq m c

end Cert.Proof

end
-- ==== Proof.Kernel4Product.lean ====
/-
  What the kernel of program "Kernel4" computes over the extended reals: the product `a bᵀ`, for `a` of 8704 rows and
  1024 columns and `b` of 9280 rows and 1024 columns, of which the first 9216 are read. Each point computes one block of 2176 rows
  and 1024 columns of the result, whole.
-/
module

public import proofs.«01_k».proof.Proof.Products
public import proofs.«01_k».proof.Proof.Gen.Kernel4Ideal.Value
public import Idealize.ShloMosaic.Lib.Pipeline.ValueKit.Geometry
public import Idealize.ShloMosaic.Lib.Pipeline.ValueKit.Acc

@[expose] public section

noncomputable section

namespace Cert.Kernel4Ideal.Product

open Cert.Kernel4Ideal Cert.Kernel4Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S2176x1024 .bf16) (x1 : Vec Ideal S1024x1024 .bf16) (j : S2176x1024.Idx) :
    k0_pay1 (F := Ideal) x0 x1 j = nt (M := 2176) (N := 1024) (K := 1024) x0 x1 j := by
  unfold k0_pay1
  exact matmul_nt _ rfl none x0 x1 j

/-- What a point stores: the product of the two blocks it reads, through the running sum it keeps for longer products. -/
theorem out_apply (c : Dev nD) (i : grid0.Coords) (a3 : Memref sig .tc .vmem S2176x1024 .bf16) (h3 : a3.IsWhole)
    (a4 : Memref sig .tc .vmem S1024x1024 .bf16) (h4 : a4.IsWhole) (a5 : Memref sig .tc .vmem S2176x1024 .bf16)
    (h5 : a5.IsWhole) (a6 : Memref sig .tc .vmem S2176x1024 .f32) (h6 : a6.IsWhole) (hc0 : cond0_0 i)
    (hc1 : ¬cond0_1 i) (hc2 : cond0_2 i) (x0 : Vec Ideal S2176x1024 .bf16) (x1 : Vec Ideal S1024x1024 .bf16)
    (j : S2176x1024.Idx) :
    out0_A_2 (F := Ideal) c i a3 h3 a4 h4 a5 h5 a6 h6 hc0 hc1 hc2 x0 x1 j = nt (M := 2176) (N := 1024) (K := 1024) x0 x1 j := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero hz, View.readCov_unit_zero (S := S2176x1024) _ hz]
  simp only [View.readAt_eq_ld, h3.read_unread, h4.read_unread, View.ld_unit_zero (S := S2176x1024) hz,
    View.ld_unit_zero (S := S1024x1024) hz]
  show k0_pay2 (F := Ideal) x0 x1 j = _
  unfold k0_pay2
  rw [shapeCast_self, pay1_apply]

/-- The left matrix. -/
abbrev lhs (c : Dev nD) : (Mat 8704 1024).Idx → EReal := m ((c : Thread nD τ).loc main_arg0)
/-- The right matrix. -/
abbrev rhs (c : Dev nD) : (Mat 9280 1024).Idx → EReal := m ((c : Thread nD τ).loc main_arg1)
/-- Its first 9216 rows, the ones that are read. -/
def rhsTop (c : Dev nD) : (Mat 9216 1024).Idx → EReal := fun i =>
  rhs m c (ix2 (n0 := 9280) (n1 := 1024) ⟨(i 0).val, lt_trans (i 0).isLt (by decide)⟩ (i 1))

/-- Which blocks a point reads and writes. -/
theorem index_at : ∀ t : Fin cfg0.N, (win0_0.index t 0 = t.val / 9 ∧ win0_0.index t 1 = 0)
    ∧ (win0_1.index t 0 = t.val % 9 ∧ win0_1.index t 1 = 0) ∧ (win0_2.index t 0 = t.val / 9 ∧ win0_2.index t 1 = t.val % 9) := by
  decide +kernel

theorem lhs_block (c : Dev nD) (t : Fin cfg0.N) (r : Fin 2176) (p : Fin 1024) (i : S8704x1024.Idx)
    (hi0 : (i 0).val = 2176 * (t.val / 9) + r.val) (hi1 : (i 1).val = p.val) :
    (iblk m c 0 t : Vec Ideal S2176x1024 .bf16) (ix2 (n0 := 2176) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 2176 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 1024) (p : Fin 1024) (i : S9280x1024.Idx)
    (hi0 : (i 0).val = 1024 * (t.val % 9) + r.val) (hi1 : (i 1).val = p.val) :
    (X0_1 m c t : Vec Ideal S1024x1024 .bf16) (ix2 (n0 := 1024) (n1 := 1024) r p) = rhs m c i := by
  unfold X0_1 Pipeline.Window.fill
  rw [dif_pos (moved0_1 t _)]
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(index_at t).2.1.1, hi0]; omega
  | ⟨1, _⟩ => show win0_1.index t 1 * 1024 + 1 * p.val = (i 1).val; rw [(index_at t).2.1.2, hi1]; omega

/-- The product of a point's two blocks is a block of the whole product. -/
theorem block_eq (c : Dev nD) (t : Fin cfg0.N) (y : S2176x1024.Idx) (i : (Mat 8704 9216).Idx)
    (e0 : (i 0).val = 2176 * (t.val / 9) + (y 0).val) (e1 : (i 1).val = 1024 * (t.val % 9) + (y 1).val) :
    nt (M := 2176) (N := 1024) (K := 1024) (iblk m c 0 t) (X0_1 m c t) y = nt (lhs m c) (rhsTop m c) i := by
  refine Finset.sum_congr rfl fun k _ => congrArg₂ (· * ·) ?_ ?_
  · exact lhs_block m c t (y 0) k _ e0 rfl
  · exact rhs_block m c t (y 1) k _ e1 rfl

/-- The result array is the whole product. -/
theorem final (c : Dev nD) : (dats m 0 c).arrAt 2 cfg0.N = nt (lhs m c) (rhsTop m c) := by
  refine (dats m 0 c).arrAt_eq_of_covers 2 _ (by decide +kernel) fun t hf y => ?_
  blk_simp
  rw [after0_2]
  unfold outsAt0
  rw [out_apply]
  refine block_eq m c t y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nt (lhs m c) (rhsTop m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Product

end
-- ==== Proof.Reference4Product.lean ====
/-
  The reference of program "Reference4" computes the first 9216 columns of `a bᵀ`, and the kernel of "Kernel4" the same array.
-/
module

public import proofs.«01_k».proof.Proof.Kernel4Product
public import proofs.«01_k».proof.Proof.Gen.Reference4Ideal.Run
public import proofs.«01_k».proof.Proof.Gen.Reference4Ideal.Read
public import proofs.«01_k».proof.Defs
public import Idealize.ShloMosaic.Lib.Quiescent

@[expose] public section

noncomputable section

namespace Cert.Reference4Ideal.Product

open Cert.Reference4Ideal Cert.Reference4Ideal.Read Idealize.ShloMosaic Idealize.ShloMosaic.TcCoe Idealize.SL.Sem
open Idealize.ShloMosaic.ValueIdx Cert.Products

/-- The reference's last stage is the product. -/
theorem stage_eq (x0 : (⟨S8704x1024, .bf16⟩ : BufTy).Contents (Elt Ideal)) (x1 : (⟨S9280x1024, .bf16⟩ : BufTy).Contents (Elt Ideal)) :
    val_main_v5 (F := Ideal) x0 x1 = nt (M := 8704) (N := 9216) (K := 1024) x0 (fun j => x1 (ix2 (n0 := 9280) (n1 := 1024) ⟨(j 0).val, lt_trans (j 0).isLt (by decide)⟩ (j 1))) := by
  funext i
  show val_main_v4 (F := Ideal) x0 x1 i = _
  rw [val_main_v4_apply, val_main_v3_apply]
  refine Finset.sum_congr rfl fun k _ => ?_
  refine congrArg₂ (· * ·) ?_ ?_
  · exact congrArg x0 (funext fun a => by fin_cases a <;> rfl)
  · exact (val_main_v2_apply ..).trans <| congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = nt (M := 8704) (N := 9216) (K := 1024) (m ((c.tc : Thread nD τ).loc main_arg0)) (fun j => (m ((c.tc : Thread nD τ).loc main_arg1)) (ix2 (n0 := 9280) (n1 := 1024) ⟨(j 0).val, lt_trans (j 0).isLt (by decide)⟩ (j 1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (stage_eq _ _), (h c).2⟩) (Value.run m ρ)

/-- The frame: the arguments stay, and there is no semaphore. -/
theorem frame : Cert.quiescent_Reference4Ideal := fun m ρ _ =>
  (θ_run defs _ _).mono (fun r h => ⟨fun c => (h c).2, Idealize.ShloMosaic.sem_eq_zero_of_no_sems (by decide) r.2⟩) (run m ρ)

end Cert.Reference4Ideal.Product

namespace Cert.Proof

open Idealize.ShloMosaic Idealize.ShloMosaic.TcCoe Idealize.SL.Sem

/-- Kernel and reference leave the same result. -/
theorem algebraic4 : Cert.algebraic_Kernel4Ideal_Reference4Ideal := by
  intro m g m' g' _ hm
  refine ⟨fun c => Cert.Products.nt (Cert.Kernel4Ideal.Product.lhs m c) (Cert.Kernel4Ideal.Product.rhsTop m c), Cert.Kernel4Ideal.Product.run m g, ?_⟩
  refine (θ_run _ _ _).mono (fun _ h c => ⟨?_, (h c).2⟩) (Cert.Reference4Ideal.Product.run m' g')
  obtain ⟨e0, e1⟩ := hm c
  refine (h c).1.trans ?_
  rw [e0, e1]
  rfl

end Cert.Proof

end
-- ==== Proof.Kernel5Product.lean ====
/-
  What the kernel of program "Kernel5" computes over the extended reals: the product `a b`, for `a` of 8192 rows and
  1024 columns and `b` of 1024 rows and 1024 columns. Each point computes one block of 2048 rows
  and 1024 columns of the result, whole.
-/
module

public import proofs.«01_k».proof.Proof.Products
public import proofs.«01_k».proof.Proof.Gen.Kernel5Ideal.Value
public import Idealize.ShloMosaic.Lib.Pipeline.ValueKit.Geometry
public import Idealize.ShloMosaic.Lib.Pipeline.ValueKit.Acc

@[expose] public section

noncomputable section

namespace Cert.Kernel5Ideal.Product

open Cert.Kernel5Ideal Cert.Kernel5Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S2048x1024 .bf16) (x1 : Vec Ideal S1024x1024 .bf16) (j : S2048x1024.Idx) :
    k0_pay1 (F := Ideal) x0 x1 j = nn (M := 2048) (N := 1024) (K := 1024) x0 x1 j := by
  unfold k0_pay1
  exact matmul_nn _ rfl none x0 x1 j

/-- What a point stores: the product of the two blocks it reads, through the running sum it keeps for longer products. -/
theorem out_apply (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16)
    (h5 : a5.IsWhole) (a6 : Memref sig .tc .vmem S2048x1024 .f32) (h6 : a6.IsWhole) (hc0 : cond0_0 i)
    (hc1 : ¬cond0_1 i) (hc2 : cond0_2 i) (x0 : Vec Ideal S2048x1024 .bf16) (x1 : Vec Ideal S1024x1024 .bf16)
    (j : S2048x1024.Idx) :
    out0_A_2 (F := Ideal) c i a3 h3 a4 h4 a5 h5 a6 h6 hc0 hc1 hc2 x0 x1 j = nn (M := 2048) (N := 1024) (K := 1024) x0 x1 j := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero hz, View.readCov_unit_zero (S := S2048x1024) _ hz]
  simp only [View.readAt_eq_ld, h3.read_unread, h4.read_unread, View.ld_unit_zero (S := S2048x1024) hz,
    View.ld_unit_zero (S := S1024x1024) hz]
  show k0_pay2 (F := Ideal) x0 x1 j = _
  unfold k0_pay2
  rw [shapeCast_self, pay1_apply]

/-- The left matrix. -/
abbrev lhs (c : Dev nD) : (Mat 8192 1024).Idx → EReal := m ((c : Thread nD τ).loc main_arg0)
/-- The right matrix. -/
abbrev rhs (c : Dev nD) : (Mat 1024 1024).Idx → EReal := m ((c : Thread nD τ).loc main_arg1)

/-- Which blocks a point reads and writes. -/
theorem index_at : ∀ t : Fin cfg0.N, (win0_0.index t 0 = t.val / 1 ∧ win0_0.index t 1 = 0)
    ∧ (win0_1.index t 0 = 0 ∧ win0_1.index t 1 = 0) ∧ (win0_2.index t 0 = t.val / 1 ∧ win0_2.index t 1 = t.val % 1) := by
  decide +kernel

theorem lhs_block (c : Dev nD) (t : Fin cfg0.N) (r : Fin 2048) (p : Fin 1024) (i : S8192x1024.Idx)
    (hi0 : (i 0).val = 2048 * (t.val / 1) + r.val) (hi1 : (i 1).val = p.val) :
    (iblk m c 0 t : Vec Ideal S2048x1024 .bf16) (ix2 (n0 := 2048) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 1024) (p : Fin 1024) (i : S1024x1024.Idx)
    (hi0 : (i 0).val = 1024 * (0) + r.val) (hi1 : (i 1).val = p.val) :
    (iblk m c 1 t : Vec Ideal S1024x1024 .bf16) (ix2 (n0 := 1024) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(index_at t).2.1.1, hi0]; omega
  | ⟨1, _⟩ => show win0_1.index t 1 * 1024 + 1 * p.val = (i 1).val; rw [(index_at t).2.1.2, hi1]; omega

/-- The product of a point's two blocks is a block of the whole product. -/
theorem block_eq (c : Dev nD) (t : Fin cfg0.N) (y : S2048x1024.Idx) (i : (Mat 8192 1024).Idx)
    (e0 : (i 0).val = 2048 * (t.val / 1) + (y 0).val) (e1 : (i 1).val = 1024 * (t.val % 1) + (y 1).val) :
    nn (M := 2048) (N := 1024) (K := 1024) (iblk m c 0 t) (iblk m c 1 t) y = nn (lhs m c) (rhs m c) i := by
  refine Finset.sum_congr rfl fun k _ => congrArg₂ (· * ·) ?_ ?_
  · exact lhs_block m c t (y 0) k _ e0 rfl
  · exact rhs_block m c t k (y 1) _ (by simp) (e1.trans (by omega))

/-- The result array is the whole product. -/
theorem final (c : Dev nD) : (dats m 0 c).arrAt 2 cfg0.N = nn (lhs m c) (rhs m c) := by
  refine (dats m 0 c).arrAt_eq_of_covers 2 _ (by decide +kernel) fun t hf y => ?_
  blk_simp
  rw [after0_2]
  unfold outsAt0
  rw [out_apply]
  refine block_eq m c t y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel5Ideal.Product

end
-- ==== Proof.Reference5Product.lean ====
/-
  The reference of program "Reference5" computes `a b`, and the kernel of "Kernel5" the same array.
-/
module

public import proofs.«01_k».proof.Proof.Kernel5Product
public import proofs.«01_k».proof.Proof.Gen.Reference5Ideal.Run
public import proofs.«01_k».proof.Proof.Gen.Reference5Ideal.Read
public import proofs.«01_k».proof.Defs
public import Idealize.ShloMosaic.Lib.Quiescent

@[expose] public section

noncomputable section

namespace Cert.Reference5Ideal.Product

open Cert.Reference5Ideal Cert.Reference5Ideal.Read Idealize.ShloMosaic Idealize.ShloMosaic.TcCoe Idealize.SL.Sem
open Idealize.ShloMosaic.ValueIdx Cert.Products

/-- The reference's last stage is the product. -/
theorem stage_eq (x0 : (⟨S8192x1024, .bf16⟩ : BufTy).Contents (Elt Ideal)) (x1 : (⟨S1024x1024, .bf16⟩ : BufTy).Contents (Elt Ideal)) :
    val_main_v3 (F := Ideal) x0 x1 = nn (M := 8192) (N := 1024) (K := 1024) x0 x1 := by
  funext i
  show val_main_v2 (F := Ideal) x0 x1 i = _
  rw [val_main_v2_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = nn (M := 8192) (N := 1024) (K := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v3_eq _ _)).trans (stage_eq _ _), (h c).2⟩) (Value.run m ρ)

/-- The frame: the arguments stay, and there is no semaphore. -/
theorem frame : Cert.quiescent_Reference5Ideal := fun m ρ _ =>
  (θ_run defs _ _).mono (fun r h => ⟨fun c => (h c).2, Idealize.ShloMosaic.sem_eq_zero_of_no_sems (by decide) r.2⟩) (run m ρ)

end Cert.Reference5Ideal.Product

namespace Cert.Proof

open Idealize.ShloMosaic Idealize.ShloMosaic.TcCoe Idealize.SL.Sem

/-- Kernel and reference leave the same result. -/
theorem algebraic5 : Cert.algebraic_Kernel5Ideal_Reference5Ideal := by
  intro m g m' g' _ hm
  refine ⟨fun c => Cert.Products.nn (Cert.Kernel5Ideal.Product.lhs m c) (Cert.Kernel5Ideal.Product.rhs m c), Cert.Kernel5Ideal.Product.run m g, ?_⟩
  refine (θ_run _ _ _).mono (fun _ h c => ⟨?_, (h c).2⟩) (Cert.Reference5Ideal.Product.run m' g')
  obtain ⟨e0, e1⟩ := hm c
  refine (h c).1.trans ?_
  rw [e0, e1]

end Cert.Proof

end
-- ==== Proof.Kernel6Product.lean ====
/-
  What the kernel of program "Kernel6" computes over the extended reals: the whole of `a b`, for `a` of 8192 rows and 2048
  columns and `b` of 2048 rows and 1024 columns. A block of 2048 rows is visited at two points running: the first keeps
  the product over the first 1024 columns of `a`, the second adds the product over the rest and stores the sum.
-/
module

public import proofs.«01_k».proof.Proof.Products
public import proofs.«01_k».proof.Proof.Gen.Kernel6Ideal.Value
public import Idealize.ShloMosaic.Lib.Pipeline.ValueKit.Geometry

@[expose] public section

noncomputable section

namespace Cert.Kernel6Ideal.Product

open Cert.Kernel6Ideal Cert.Kernel6Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S2048x1024 .bf16) (x1 : Vec Ideal S1024x1024 .bf16) (j : S2048x1024.Idx) :
    k0_pay1 (F := Ideal) x0 x1 j = nn (M := 2048) (N := 1024) (K := 1024) x0 x1 j := by
  unfold k0_pay1
  exact matmul_nn _ rfl none x0 x1 j

/-- The first point of a block keeps its product. -/
theorem kept_first (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16)
    (h5 : a5.IsWhole) (a6 : Memref sig .tc .vmem S2048x1024 .f32) (h6 : a6.IsWhole) (hc0 : cond0_0 i)
    (hc1 : ¬cond0_1 i) (hc2 : ¬cond0_2 i) (x0 : Vec Ideal S2048x1024 .bf16) (x1 : Vec Ideal S1024x1024 .bf16)
    (j : S2048x1024.Idx) :
    sout0_A_0 (F := Ideal) c i a3 h3 a4 h4 a5 h5 a6 h6 hc0 hc1 hc2 x0 x1 j = nn (M := 2048) (N := 1024) (K := 1024) x0 x1 j := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1024) hz,
    View.ld_unit_zero (S := S1024x1024) hz]
  unfold k0_pay2
  rw [shapeCast_self, pay1_apply]

/-- The second adds its own product to what was kept and stores the sum. -/
theorem out_second (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16)
    (h5 : a5.IsWhole) (a6 : Memref sig .tc .vmem S2048x1024 .f32) (h6 : a6.IsWhole) (hc0 : ¬cond0_0 i)
    (hc1 : cond0_1 i) (hc2 : cond0_2 i) (x0 : Vec Ideal S2048x1024 .bf16) (x1 : Vec Ideal S1024x1024 .bf16)
    (xs : Vec Ideal S2048x1024 .f32) (j : S2048x1024.Idx) :
    out0_B_2 (F := Ideal) c i a3 h3 a4 h4 a5 h5 a6 h6 hc0 hc1 hc2 x0 x1 xs j
      = xs j + nn (M := 2048) (N := 1024) (K := 1024) x0 x1 j := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz, View.readCov_unit_zero (S := S2048x1024) _ hz]
  simp only [View.readAt_eq_ld, h3.read_unread, h4.read_unread, h6.read_unread, View.ld_unit_zero (S := S2048x1024) hz,
    View.ld_unit_zero (S := S1024x1024) hz]
  show k0_pay3 (F := Ideal) x0 x1 xs j = _
  unfold k0_pay3
  rw [shapeCast_self]
  show xs j + k0_pay1 (F := Ideal) x0 x1 j = _
  rw [pay1_apply]

/-- The left matrix. -/
abbrev lhs (c : Dev nD) : (Mat 8192 2048).Idx → EReal := m ((c : Thread nD τ).loc main_arg0)
/-- The right matrix. -/
abbrev rhs (c : Dev nD) : (Mat 2048 1024).Idx → EReal := m ((c : Thread nD τ).loc main_arg1)

/-- Which blocks a point reads and writes. -/
theorem index_at : ∀ t : Fin cfg0.N, (win0_0.index t 0 = t.val / 2 ∧ win0_0.index t 1 = t.val % 2)
    ∧ (win0_1.index t 0 = t.val % 2 ∧ win0_1.index t 1 = 0) ∧ (win0_2.index t 0 = t.val / 2 ∧ win0_2.index t 1 = 0) := by
  decide +kernel

theorem lhs_block (c : Dev nD) (t : Fin cfg0.N) (r : Fin 2048) (p : Fin 1024) (i : S8192x2048.Idx)
    (hi0 : (i 0).val = 2048 * (t.val / 2) + r.val) (hi1 : (i 1).val = 1024 * (t.val % 2) + p.val) :
    (iblk m c 0 t : Vec Ideal S2048x1024 .bf16) (ix2 (n0 := 2048) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 1024) (p : Fin 1024) (i : S2048x1024.Idx)
    (hi0 : (i 0).val = 1024 * (t.val % 2) + r.val) (hi1 : (i 1).val = p.val) :
    (iblk m c 1 t : Vec Ideal S1024x1024 .bf16) (ix2 (n0 := 1024) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(index_at t).2.1.1, hi0]; omega
  | ⟨1, _⟩ => show win0_1.index t 1 * 1024 + 1 * p.val = (i 1).val; rw [(index_at t).2.1.2, hi1]; omega

/-- What a block's second point stores, at an index: the product over all the columns of `a`. -/
theorem outs_second (c : Dev nD) (t : Fin cfg0.N) (h1 : t.val % 2 = 1) (j : S2048x1024.Idx) (i : S8192x1024.Idx)
    (hi0 : (i 0).val = 2048 * (t.val / 2) + (j 0).val) (hi1 : (i 1).val = (j 1).val) :
    (outsAt0 m c t.val t.isLt).1 j = nn (lhs m c) (rhs m c) i := by
  have hlt := t.isLt
  have h0 : ¬t.val % 2 = 0 := by omega
  let s : Fin cfg0.N := ⟨t.val - 1, Nat.lt_of_le_of_lt (Nat.sub_le _ _) t.isLt⟩
  have s0 : s.val % 2 = 0 := by show (t.val - 1) % 2 = 0; omega
  have s1 : ¬s.val % 2 = 1 := by omega
  have sd : s.val / 2 = t.val / 2 := by show (t.val - 1) / 2 = _; omega
  rw [outsAt0_B m c t h0 h1 h1]
  dsimp only
  rw [out_second]
  have hs : outsAt0 m c (t.val - 1) (Nat.lt_of_le_of_lt (Nat.sub_le _ _) t.isLt) = _ := outsAt0_A m c s s0 s1 s1
  rw [hs]
  dsimp only
  rw [kept_first]
  have e : nn (lhs m c) (rhs m c) i = _ := sum_halves 1024 _
  rw [e]
  refine congrArg₂ (· + ·) (Finset.sum_congr rfl fun k _ => congrArg₂ (· * ·) ?_ ?_)
    (Finset.sum_congr rfl fun k _ => congrArg₂ (· * ·) ?_ ?_)
  · exact lhs_block m c s (j 0) k _ (by rw [sd]; exact hi0) (by rw [s0]; exact (Nat.zero_add _).symm)
  · exact rhs_block m c s k (j 1) _ (by rw [s0]; exact (Nat.zero_add _).symm) hi1
  · exact lhs_block m c t (j 0) k _ hi0 (by rw [h1])
  · exact rhs_block m c t k (j 1) _ (by rw [h1]) hi1

/-- The result array is the whole product. -/
theorem final (c : Dev nD) : (dats m 0 c).arrAt 2 cfg0.N = nn (lhs m c) (rhs m c) := by
  refine (dats m 0 c).arrAt_eq_of_covers 2 _ (by decide +kernel) fun t hf y => ?_
  have h1 : t.val % 2 = 1 := (flush0_2 t).mp hf
  blk_simp
  rw [after0_2]
  refine outs_second m c t h1 y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.Product

end
-- ==== Proof.Reference6Product.lean ====
/-
  The reference of program "Reference6" computes `a b`, and the kernel of "Kernel6" the same array.
-/
module

public import proofs.«01_k».proof.Proof.Kernel6Product
public import proofs.«01_k».proof.Proof.Gen.Reference6Ideal.Run
public import proofs.«01_k».proof.Proof.Gen.Reference6Ideal.Read
public import proofs.«01_k».proof.Defs
public import Idealize.ShloMosaic.Lib.Quiescent

@[expose] public section

noncomputable section

namespace Cert.Reference6Ideal.Product

open Cert.Reference6Ideal Cert.Reference6Ideal.Read Idealize.ShloMosaic Idealize.ShloMosaic.TcCoe Idealize.SL.Sem
open Idealize.ShloMosaic.ValueIdx Cert.Products

/-- The reference's last stage is the product. -/
theorem stage_eq (x0 : (⟨S8192x2048, .bf16⟩ : BufTy).Contents (Elt Ideal)) (x1 : (⟨S2048x1024, .bf16⟩ : BufTy).Contents (Elt Ideal)) :
    val_main_v3 (F := Ideal) x0 x1 = nn (M := 8192) (N := 1024) (K := 2048) x0 x1 := by
  funext i
  show val_main_v2 (F := Ideal) x0 x1 i = _
  rw [val_main_v2_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = nn (M := 8192) (N := 1024) (K := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v3_eq _ _)).trans (stage_eq _ _), (h c).2⟩) (Value.run m ρ)

/-- The frame: the arguments stay, and there is no semaphore. -/
theorem frame : Cert.quiescent_Reference6Ideal := fun m ρ _ =>
  (θ_run defs _ _).mono (fun r h => ⟨fun c => (h c).2, Idealize.ShloMosaic.sem_eq_zero_of_no_sems (by decide) r.2⟩) (run m ρ)

end Cert.Reference6Ideal.Product

namespace Cert.Proof

open Idealize.ShloMosaic Idealize.ShloMosaic.TcCoe Idealize.SL.Sem

/-- Kernel and reference leave the same result. -/
theorem algebraic6 : Cert.algebraic_Kernel6Ideal_Reference6Ideal := by
  intro m g m' g' _ hm
  refine ⟨fun c => Cert.Products.nn (Cert.Kernel6Ideal.Product.lhs m c) (Cert.Kernel6Ideal.Product.rhs m c), Cert.Kernel6Ideal.Product.run m g, ?_⟩
  refine (θ_run _ _ _).mono (fun _ h c => ⟨?_, (h c).2⟩) (Cert.Reference6Ideal.Product.run m' g')
  obtain ⟨e0, e1⟩ := hm c
  refine (h c).1.trans ?_
  rw [e0, e1]

end Cert.Proof

end
-- ==== Proof.Kernel7Product.lean ====
/-
  What the kernel of program "Kernel7" computes over the extended reals: the product `a bᵀ`, for `a` of 8192 rows and
  1024 columns and `b` of 1024 rows and 1024 columns. Each point computes one block of 2048 rows
  and 1024 columns of the result, whole.
-/
module

public import proofs.«01_k».proof.Proof.Products
public import proofs.«01_k».proof.Proof.Gen.Kernel7Ideal.Value
public import Idealize.ShloMosaic.Lib.Pipeline.ValueKit.Geometry
public import Idealize.ShloMosaic.Lib.Pipeline.ValueKit.Acc

@[expose] public section

noncomputable section

namespace Cert.Kernel7Ideal.Product

open Cert.Kernel7Ideal Cert.Kernel7Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S2048x1024 .bf16) (x1 : Vec Ideal S1024x1024 .bf16) (j : S2048x1024.Idx) :
    k0_pay1 (F := Ideal) x0 x1 j = nt (M := 2048) (N := 1024) (K := 1024) x0 x1 j := by
  unfold k0_pay1
  exact matmul_nt _ rfl none x0 x1 j

/-- What a point stores: the product of the two blocks it reads, through the running sum it keeps for longer products. -/
theorem out_apply (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16)
    (h5 : a5.IsWhole) (a6 : Memref sig .tc .vmem S2048x1024 .f32) (h6 : a6.IsWhole) (hc0 : cond0_0 i)
    (hc1 : ¬cond0_1 i) (hc2 : cond0_2 i) (x0 : Vec Ideal S2048x1024 .bf16) (x1 : Vec Ideal S1024x1024 .bf16)
    (j : S2048x1024.Idx) :
    out0_A_2 (F := Ideal) c i a3 h3 a4 h4 a5 h5 a6 h6 hc0 hc1 hc2 x0 x1 j = nt (M := 2048) (N := 1024) (K := 1024) x0 x1 j := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero hz, View.readCov_unit_zero (S := S2048x1024) _ hz]
  simp only [View.readAt_eq_ld, h3.read_unread, h4.read_unread, View.ld_unit_zero (S := S2048x1024) hz,
    View.ld_unit_zero (S := S1024x1024) hz]
  show k0_pay2 (F := Ideal) x0 x1 j = _
  unfold k0_pay2
  rw [shapeCast_self, pay1_apply]

/-- The left matrix. -/
abbrev lhs (c : Dev nD) : (Mat 8192 1024).Idx → EReal := m ((c : Thread nD τ).loc main_arg0)
/-- The right matrix. -/
abbrev rhs (c : Dev nD) : (Mat 1024 1024).Idx → EReal := m ((c : Thread nD τ).loc main_arg1)

/-- Which blocks a point reads and writes. -/
theorem index_at : ∀ t : Fin cfg0.N, (win0_0.index t 0 = t.val / 1 ∧ win0_0.index t 1 = 0)
    ∧ (win0_1.index t 0 = t.val % 1 ∧ win0_1.index t 1 = 0) ∧ (win0_2.index t 0 = t.val / 1 ∧ win0_2.index t 1 = t.val % 1) := by
  decide +kernel

theorem lhs_block (c : Dev nD) (t : Fin cfg0.N) (r : Fin 2048) (p : Fin 1024) (i : S8192x1024.Idx)
    (hi0 : (i 0).val = 2048 * (t.val / 1) + r.val) (hi1 : (i 1).val = p.val) :
    (iblk m c 0 t : Vec Ideal S2048x1024 .bf16) (ix2 (n0 := 2048) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 1024) (p : Fin 1024) (i : S1024x1024.Idx)
    (hi0 : (i 0).val = 1024 * (t.val % 1) + r.val) (hi1 : (i 1).val = p.val) :
    (iblk m c 1 t : Vec Ideal S1024x1024 .bf16) (ix2 (n0 := 1024) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(index_at t).2.1.1, hi0]; omega
  | ⟨1, _⟩ => show win0_1.index t 1 * 1024 + 1 * p.val = (i 1).val; rw [(index_at t).2.1.2, hi1]; omega

/-- The product of a point's two blocks is a block of the whole product. -/
theorem block_eq (c : Dev nD) (t : Fin cfg0.N) (y : S2048x1024.Idx) (i : (Mat 8192 1024).Idx)
    (e0 : (i 0).val = 2048 * (t.val / 1) + (y 0).val) (e1 : (i 1).val = 1024 * (t.val % 1) + (y 1).val) :
    nt (M := 2048) (N := 1024) (K := 1024) (iblk m c 0 t) (iblk m c 1 t) y = nt (lhs m c) (rhs m c) i := by
  refine Finset.sum_congr rfl fun k _ => congrArg₂ (· * ·) ?_ ?_
  · exact lhs_block m c t (y 0) k _ e0 rfl
  · exact rhs_block m c t (y 1) k _ e1 rfl

/-- The result array is the whole product. -/
theorem final (c : Dev nD) : (dats m 0 c).arrAt 2 cfg0.N = nt (lhs m c) (rhs m c) := by
  refine (dats m 0 c).arrAt_eq_of_covers 2 _ (by decide +kernel) fun t hf y => ?_
  blk_simp
  rw [after0_2]
  unfold outsAt0
  rw [out_apply]
  refine block_eq m c t y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel7Ideal.Product

end
-- ==== Proof.Reference7Product.lean ====
/-
  The reference of program "Reference7" computes `a bᵀ`, as the derivative of `x b` in `x`, and the kernel of "Kernel7" the same array.
-/
module

public import proofs.«01_k».proof.Proof.Kernel7Product
public import proofs.«01_k».proof.Proof.Gen.Reference7Ideal.Run
public import proofs.«01_k».proof.Proof.Gen.Reference7Ideal.Read
public import proofs.«01_k».proof.Defs
public import Idealize.ShloMosaic.Lib.Quiescent

@[expose] public section

noncomputable section

namespace Cert.Reference7Ideal.Product

open Cert.Reference7Ideal Cert.Reference7Ideal.Read Idealize.ShloMosaic Idealize.ShloMosaic.TcCoe Idealize.SL.Sem
open Idealize.ShloMosaic.ValueIdx Cert.Products

/-- The reference's last stage is the product. -/
theorem stage_eq (x0 : (⟨S8192x1024, .bf16⟩ : BufTy).Contents (Elt Ideal)) (x1 : (⟨S1024x1024, .bf16⟩ : BufTy).Contents (Elt Ideal)) :
    val_main_v5 (F := Ideal) x0 x1 = nt (M := 8192) (N := 1024) (K := 1024) x0 x1 := by
  funext i
  show val_main_v4 (F := Ideal) x0 x1 i = _
  rw [val_main_v4_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = nt (M := 8192) (N := 1024) (K := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (stage_eq _ _), (h c).2⟩) (Value.run m ρ)

/-- The frame: the arguments stay, and there is no semaphore. -/
theorem frame : Cert.quiescent_Reference7Ideal := fun m ρ _ =>
  (θ_run defs _ _).mono (fun r h => ⟨fun c => (h c).2, Idealize.ShloMosaic.sem_eq_zero_of_no_sems (by decide) r.2⟩) (run m ρ)

end Cert.Reference7Ideal.Product

namespace Cert.Proof

open Idealize.ShloMosaic Idealize.ShloMosaic.TcCoe Idealize.SL.Sem

/-- Kernel and reference leave the same result. -/
theorem algebraic7 : Cert.algebraic_Kernel7Ideal_Reference7Ideal := by
  intro m g m' g' _ hm
  refine ⟨fun c => Cert.Products.nt (Cert.Kernel7Ideal.Product.lhs m c) (Cert.Kernel7Ideal.Product.rhs m c), Cert.Kernel7Ideal.Product.run m g, ?_⟩
  refine (θ_run _ _ _).mono (fun _ h c => ⟨?_, (h c).2⟩) (Cert.Reference7Ideal.Product.run m' g')
  obtain ⟨e0, e1⟩ := hm c
  refine (h c).1.trans ?_
  rw [e0, e1]

end Cert.Proof

end
-- ==== Proof.Kernel8Product.lean ====
/-
  What the kernel of program "Kernel8" computes over the extended reals: the product `a bᵀ`, for `a` of 8192 rows and
  1024 columns and `b` of 2048 rows and 1024 columns. Each point computes one block of 2048 rows
  and 1024 columns of the result, whole.
-/
module

public import proofs.«01_k».proof.Proof.Products
public import proofs.«01_k».proof.Proof.Gen.Kernel8Ideal.Value
public import Idealize.ShloMosaic.Lib.Pipeline.ValueKit.Geometry
public import Idealize.ShloMosaic.Lib.Pipeline.ValueKit.Acc

@[expose] public section

noncomputable section

namespace Cert.Kernel8Ideal.Product

open Cert.Kernel8Ideal Cert.Kernel8Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S2048x1024 .bf16) (x1 : Vec Ideal S1024x1024 .bf16) (j : S2048x1024.Idx) :
    k0_pay1 (F := Ideal) x0 x1 j = nt (M := 2048) (N := 1024) (K := 1024) x0 x1 j := by
  unfold k0_pay1
  exact matmul_nt _ rfl none x0 x1 j

/-- What a point stores: the product of the two blocks it reads, through the running sum it keeps for longer products. -/
theorem out_apply (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S2048x1024 .bf16)
    (h5 : a5.IsWhole) (a6 : Memref sig .tc .vmem S2048x1024 .f32) (h6 : a6.IsWhole) (hc0 : cond0_0 i)
    (hc1 : ¬cond0_1 i) (hc2 : cond0_2 i) (x0 : Vec Ideal S2048x1024 .bf16) (x1 : Vec Ideal S1024x1024 .bf16)
    (j : S2048x1024.Idx) :
    out0_A_2 (F := Ideal) c i a3 h3 a4 h4 a5 h5 a6 h6 hc0 hc1 hc2 x0 x1 j = nt (M := 2048) (N := 1024) (K := 1024) x0 x1 j := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero hz, View.readCov_unit_zero (S := S2048x1024) _ hz]
  simp only [View.readAt_eq_ld, h3.read_unread, h4.read_unread, View.ld_unit_zero (S := S2048x1024) hz,
    View.ld_unit_zero (S := S1024x1024) hz]
  show k0_pay2 (F := Ideal) x0 x1 j = _
  unfold k0_pay2
  rw [shapeCast_self, pay1_apply]

/-- The left matrix. -/
abbrev lhs (c : Dev nD) : (Mat 8192 1024).Idx → EReal := m ((c : Thread nD τ).loc main_arg0)
/-- The right matrix. -/
abbrev rhs (c : Dev nD) : (Mat 2048 1024).Idx → EReal := m ((c : Thread nD τ).loc main_arg1)

/-- Which blocks a point reads and writes. -/
theorem index_at : ∀ t : Fin cfg0.N, (win0_0.index t 0 = t.val / 2 ∧ win0_0.index t 1 = 0)
    ∧ (win0_1.index t 0 = t.val % 2 ∧ win0_1.index t 1 = 0) ∧ (win0_2.index t 0 = t.val / 2 ∧ win0_2.index t 1 = t.val % 2) := by
  decide +kernel

theorem lhs_block (c : Dev nD) (t : Fin cfg0.N) (r : Fin 2048) (p : Fin 1024) (i : S8192x1024.Idx)
    (hi0 : (i 0).val = 2048 * (t.val / 2) + r.val) (hi1 : (i 1).val = p.val) :
    (iblk m c 0 t : Vec Ideal S2048x1024 .bf16) (ix2 (n0 := 2048) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 2048 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 1024) (p : Fin 1024) (i : S2048x1024.Idx)
    (hi0 : (i 0).val = 1024 * (t.val % 2) + r.val) (hi1 : (i 1).val = p.val) :
    (iblk m c 1 t : Vec Ideal S1024x1024 .bf16) (ix2 (n0 := 1024) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 1024 + 1 * r.val = (i 0).val; rw [(index_at t).2.1.1, hi0]; omega
  | ⟨1, _⟩ => show win0_1.index t 1 * 1024 + 1 * p.val = (i 1).val; rw [(index_at t).2.1.2, hi1]; omega

/-- The product of a point's two blocks is a block of the whole product. -/
theorem block_eq (c : Dev nD) (t : Fin cfg0.N) (y : S2048x1024.Idx) (i : (Mat 8192 2048).Idx)
    (e0 : (i 0).val = 2048 * (t.val / 2) + (y 0).val) (e1 : (i 1).val = 1024 * (t.val % 2) + (y 1).val) :
    nt (M := 2048) (N := 1024) (K := 1024) (iblk m c 0 t) (iblk m c 1 t) y = nt (lhs m c) (rhs m c) i := by
  refine Finset.sum_congr rfl fun k _ => congrArg₂ (· * ·) ?_ ?_
  · exact lhs_block m c t (y 0) k _ e0 rfl
  · exact rhs_block m c t (y 1) k _ e1 rfl

/-- The result array is the whole product. -/
theorem final (c : Dev nD) : (dats m 0 c).arrAt 2 cfg0.N = nt (lhs m c) (rhs m c) := by
  refine (dats m 0 c).arrAt_eq_of_covers 2 _ (by decide +kernel) fun t hf y => ?_
  blk_simp
  rw [after0_2]
  unfold outsAt0
  rw [out_apply]
  refine block_eq m c t y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel8Ideal.Product

end
-- ==== Proof.Reference8Product.lean ====
/-
  The reference of program "Reference8" computes `a bᵀ`, as the derivative of `x b` in `x`, and the kernel of "Kernel8" the same array.
-/
module

public import proofs.«01_k».proof.Proof.Kernel8Product
public import proofs.«01_k».proof.Proof.Gen.Reference8Ideal.Run
public import proofs.«01_k».proof.Proof.Gen.Reference8Ideal.Read
public import proofs.«01_k».proof.Defs
public import Idealize.ShloMosaic.Lib.Quiescent

@[expose] public section

noncomputable section

namespace Cert.Reference8Ideal.Product

open Cert.Reference8Ideal Cert.Reference8Ideal.Read Idealize.ShloMosaic Idealize.ShloMosaic.TcCoe Idealize.SL.Sem
open Idealize.ShloMosaic.ValueIdx Cert.Products

/-- The reference's last stage is the product. -/
theorem stage_eq (x0 : (⟨S8192x1024, .bf16⟩ : BufTy).Contents (Elt Ideal)) (x1 : (⟨S2048x1024, .bf16⟩ : BufTy).Contents (Elt Ideal)) :
    val_main_v5 (F := Ideal) x0 x1 = nt (M := 8192) (N := 2048) (K := 1024) x0 x1 := by
  funext i
  show val_main_v4 (F := Ideal) x0 x1 i = _
  rw [val_main_v4_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = nt (M := 8192) (N := 2048) (K := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (stage_eq _ _), (h c).2⟩) (Value.run m ρ)

/-- The frame: the arguments stay, and there is no semaphore. -/
theorem frame : Cert.quiescent_Reference8Ideal := fun m ρ _ =>
  (θ_run defs _ _).mono (fun r h => ⟨fun c => (h c).2, Idealize.ShloMosaic.sem_eq_zero_of_no_sems (by decide) r.2⟩) (run m ρ)

end Cert.Reference8Ideal.Product

namespace Cert.Proof

open Idealize.ShloMosaic Idealize.ShloMosaic.TcCoe Idealize.SL.Sem

/-- Kernel and reference leave the same result. -/
theorem algebraic8 : Cert.algebraic_Kernel8Ideal_Reference8Ideal := by
  intro m g m' g' _ hm
  refine ⟨fun c => Cert.Products.nt (Cert.Kernel8Ideal.Product.lhs m c) (Cert.Kernel8Ideal.Product.rhs m c), Cert.Kernel8Ideal.Product.run m g, ?_⟩
  refine (θ_run _ _ _).mono (fun _ h c => ⟨?_, (h c).2⟩) (Cert.Reference8Ideal.Product.run m' g')
  obtain ⟨e0, e1⟩ := hm c
  refine (h c).1.trans ?_
  rw [e0, e1]

end Cert.Proof

end
-- ==== Proof.Kernel9Product.lean ====
/-
  What the kernel of program "Kernel9" computes over the extended reals: the whole of `aᵀ b`, for `a` of 8192 rows and
  1024 columns and `b` of 8192 rows and 1024 columns. A block of 1024 columns of `a` is visited at two points running:
  the first stores the product over the upper 4096 rows, the second adds the product over the lower 4096.
-/
module

public import proofs.«01_k».proof.Proof.Products
public import proofs.«01_k».proof.Proof.Gen.Kernel9Ideal.Value
public import Idealize.ShloMosaic.Lib.Pipeline.ValueKit.Geometry

@[expose] public section

noncomputable section

namespace Cert.Kernel9Ideal.Product

open Cert.Kernel9Ideal Cert.Kernel9Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

/-- The first point of a block stores the product of the two blocks it reads. -/
theorem out_first (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1024x1024 .f32)
    (h5 : a5.IsWhole) (hc0 : cond0_0 i) (hc1 : ¬cond0_1 i) (x0 x1 : Vec Ideal S4096x1024 .bf16) :
    out0_A_2 (F := Ideal) c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S4096x1024) hz]

/-- The second adds its own product to what is there. -/
theorem out_second (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1024x1024 .f32)
    (h5 : a5.IsWhole) (hc0 : ¬cond0_0 i) (hc1 : cond0_1 i) (x0 x1 : Vec Ideal S4096x1024 .bf16)
    (xo : Vec Ideal S1024x1024 .f32) :
    out0_B_2 (F := Ideal) c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S4096x1024) hz,
    View.ld_unit_zero (S := S1024x1024) hz]

theorem pay1_apply (x0 x1 : Vec Ideal S4096x1024 .bf16) (j : S1024x1024.Idx) :
    k0_pay1 (F := Ideal) x0 x1 j = tn (K := 4096) (M := 1024) (N := 1024) x0 x1 j := by
  unfold k0_pay1
  exact matmul_tn _ rfl none x0 x1 j

theorem pay2_apply (x0 x1 : Vec Ideal S4096x1024 .bf16) (xo : Vec Ideal S1024x1024 .f32) (j : S1024x1024.Idx) :
    k0_pay2 (F := Ideal) x0 x1 xo j = xo j + tn (K := 4096) (M := 1024) (N := 1024) x0 x1 j := by
  unfold k0_pay2
  rw [shapeCast_self]
  show xo j + k0_pay1 (F := Ideal) x0 x1 j = _
  rw [pay1_apply]

/-- The left matrix. -/
abbrev lhs (c : Dev nD) : (Mat 8192 1024).Idx → EReal := m ((c : Thread nD τ).loc main_arg0)
/-- The right matrix. -/
abbrev rhs (c : Dev nD) : (Mat 8192 1024).Idx → EReal := m ((c : Thread nD τ).loc main_arg1)

/-- Which blocks a point reads and writes. -/
theorem index_at : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) := by
  decide +kernel

theorem lhs_block (c : Dev nD) (t : Fin cfg0.N) (r : Fin 4096) (p : Fin 1024) (i : S8192x1024.Idx)
    (hi0 : (i 0).val = 4096 * (t.val % 2) + r.val) (hi1 : (i 1).val = 1024 * (t.val / 2) + p.val) :
    (iblk m c 0 t : Vec Ideal S4096x1024 .bf16) (ix2 (n0 := 4096) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 4096 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 4096) (p : Fin 1024) (i : S8192x1024.Idx)
    (hi0 : (i 0).val = 4096 * (t.val % 2) + r.val) (hi1 : (i 1).val = p.val) :
    (iblk m c 1 t : Vec Ideal S4096x1024 .bf16) (ix2 (n0 := 4096) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 4096 + 1 * r.val = (i 0).val; rw [(index_at t).2.1.1, hi0]; omega
  | ⟨1, _⟩ => show win0_1.index t 1 * 1024 + 1 * p.val = (i 1).val; rw [(index_at t).2.1.2, hi1]; omega

/-- What a block's second point leaves, at an index: the product over all the rows. -/
theorem outs_second (c : Dev nD) (t : Fin cfg0.N) (h1 : t.val % 2 = 1) (j : S1024x1024.Idx) (i : S1024x1024.Idx)
    (hi0 : (i 0).val = 1024 * (t.val / 2) + (j 0).val) (hi1 : (i 1).val = (j 1).val) :
    outsAt0 m c t.val t.isLt j = tn (lhs m c) (rhs m c) i := by
  have hlt := t.isLt
  have h0 : ¬t.val % 2 = 0 := by omega
  let s : Fin cfg0.N := ⟨t.val - 1, Nat.lt_of_le_of_lt (Nat.sub_le _ _) t.isLt⟩
  have s0 : s.val % 2 = 0 := by show (t.val - 1) % 2 = 0; omega
  have s1 : ¬s.val % 2 = 1 := by omega
  have sd : s.val / 2 = t.val / 2 := by show (t.val - 1) / 2 = _; omega
  rw [outsAt0_B m c t h0 h1, out_second, pay2_apply]
  have hs : outsAt0 m c (t.val - 1) (Nat.lt_of_le_of_lt (Nat.sub_le _ _) t.isLt) = _ := outsAt0_A m c s s0 s1
  rw [hs, out_first, pay1_apply]
  have e : tn (lhs m c) (rhs m c) i = _ := sum_halves 4096 _
  rw [e]
  refine congrArg₂ (· + ·) (Finset.sum_congr rfl fun k _ => congrArg₂ (· * ·) ?_ ?_)
    (Finset.sum_congr rfl fun k _ => congrArg₂ (· * ·) ?_ ?_)
  · exact lhs_block m c s k (j 0) _ (by rw [s0]; exact (Nat.zero_add _).symm) (by rw [sd]; exact hi0)
  · exact rhs_block m c s k (j 1) _ (by rw [s0]; exact (Nat.zero_add _).symm) hi1
  · exact lhs_block m c t k (j 0) _ (by rw [h1]) hi0
  · exact rhs_block m c t k (j 1) _ (by rw [h1]) hi1

/-- The result array is the whole product: each second point writes its block back, and those blocks cover the array. -/
theorem final (c : Dev nD) : (dats m 0 c).arrAt 2 cfg0.N = tn (lhs m c) (rhs m c) := by
  refine (dats m 0 c).arrAt_eq_of_covers 2 _ (by decide +kernel) fun t hf y => ?_
  have h1 : t.val % 2 = 1 := (flush0_2 t).mp hf
  blk_simp
  rw [after0_2]
  refine outs_second m c t h1 y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel9Ideal.Product

end
-- ==== Proof.Reference9Product.lean ====
/-
  The reference of program "Reference9" computes `aᵀ b`, as the derivative of `a w` in `w`, and the kernel of "Kernel9" the same array.
-/
module

public import proofs.«01_k».proof.Proof.Kernel9Product
public import proofs.«01_k».proof.Proof.Gen.Reference9Ideal.Run
public import proofs.«01_k».proof.Proof.Gen.Reference9Ideal.Read
public import proofs.«01_k».proof.Defs
public import Idealize.ShloMosaic.Lib.Quiescent

@[expose] public section

noncomputable section

namespace Cert.Reference9Ideal.Product

open Cert.Reference9Ideal Cert.Reference9Ideal.Read Idealize.ShloMosaic Idealize.ShloMosaic.TcCoe Idealize.SL.Sem
open Idealize.ShloMosaic.ValueIdx Cert.Products

/-- The reference's last stage is the product. -/
theorem stage_eq (x0 : (⟨S8192x1024, .bf16⟩ : BufTy).Contents (Elt Ideal)) (x1 : (⟨S8192x1024, .bf16⟩ : BufTy).Contents (Elt Ideal)) :
    val_main_v5 (F := Ideal) x0 x1 = tn (M := 1024) (N := 1024) (K := 8192) x0 x1 := by
  funext i
  rw [val_main_v5_apply, val_main_v4_apply]
  refine Finset.sum_congr rfl fun k _ => ?_
  rw [mul_comm]
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = tn (M := 1024) (N := 1024) (K := 8192) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (stage_eq _ _), (h c).2⟩) (Value.run m ρ)

/-- The frame: the arguments stay, and there is no semaphore. -/
theorem frame : Cert.quiescent_Reference9Ideal := fun m ρ _ =>
  (θ_run defs _ _).mono (fun r h => ⟨fun c => (h c).2, Idealize.ShloMosaic.sem_eq_zero_of_no_sems (by decide) r.2⟩) (run m ρ)

end Cert.Reference9Ideal.Product

namespace Cert.Proof

open Idealize.ShloMosaic Idealize.ShloMosaic.TcCoe Idealize.SL.Sem

/-- Kernel and reference leave the same result. -/
theorem algebraic9 : Cert.algebraic_Kernel9Ideal_Reference9Ideal := by
  intro m g m' g' _ hm
  refine ⟨fun c => Cert.Products.tn (Cert.Kernel9Ideal.Product.lhs m c) (Cert.Kernel9Ideal.Product.rhs m c), Cert.Kernel9Ideal.Product.run m g, ?_⟩
  refine (θ_run _ _ _).mono (fun _ h c => ⟨?_, (h c).2⟩) (Cert.Reference9Ideal.Product.run m' g')
  obtain ⟨e0, e1⟩ := hm c
  refine (h c).1.trans ?_
  rw [e0, e1]

end Cert.Proof

end
-- ==== Proof.Kernel10Product.lean ====
/-
  What the kernel of program "Kernel10" computes over the extended reals: the whole of `aᵀ b`, for `a` of 8192 rows and
  2048 columns and `b` of 8192 rows and 1024 columns. A block of 1024 columns of `a` is visited at two points running:
  the first stores the product over the upper 4096 rows, the second adds the product over the lower 4096.
-/
module

public import proofs.«01_k».proof.Proof.Products
public import proofs.«01_k».proof.Proof.Gen.Kernel10Ideal.Value
public import Idealize.ShloMosaic.Lib.Pipeline.ValueKit.Geometry

@[expose] public section

noncomputable section

namespace Cert.Kernel10Ideal.Product

open Cert.Kernel10Ideal Cert.Kernel10Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

/-- The first point of a block stores the product of the two blocks it reads. -/
theorem out_first (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1024x1024 .f32)
    (h5 : a5.IsWhole) (hc0 : cond0_0 i) (hc1 : ¬cond0_1 i) (x0 x1 : Vec Ideal S4096x1024 .bf16) :
    out0_A_2 (F := Ideal) c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S4096x1024) hz]

/-- The second adds its own product to what is there. -/
theorem out_second (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1024x1024 .f32)
    (h5 : a5.IsWhole) (hc0 : ¬cond0_0 i) (hc1 : cond0_1 i) (x0 x1 : Vec Ideal S4096x1024 .bf16)
    (xo : Vec Ideal S1024x1024 .f32) :
    out0_B_2 (F := Ideal) c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S4096x1024) hz,
    View.ld_unit_zero (S := S1024x1024) hz]

theorem pay1_apply (x0 x1 : Vec Ideal S4096x1024 .bf16) (j : S1024x1024.Idx) :
    k0_pay1 (F := Ideal) x0 x1 j = tn (K := 4096) (M := 1024) (N := 1024) x0 x1 j := by
  unfold k0_pay1
  exact matmul_tn _ rfl none x0 x1 j

theorem pay2_apply (x0 x1 : Vec Ideal S4096x1024 .bf16) (xo : Vec Ideal S1024x1024 .f32) (j : S1024x1024.Idx) :
    k0_pay2 (F := Ideal) x0 x1 xo j = xo j + tn (K := 4096) (M := 1024) (N := 1024) x0 x1 j := by
  unfold k0_pay2
  rw [shapeCast_self]
  show xo j + k0_pay1 (F := Ideal) x0 x1 j = _
  rw [pay1_apply]

/-- The left matrix. -/
abbrev lhs (c : Dev nD) : (Mat 8192 2048).Idx → EReal := m ((c : Thread nD τ).loc main_arg0)
/-- The right matrix. -/
abbrev rhs (c : Dev nD) : (Mat 8192 1024).Idx → EReal := m ((c : Thread nD τ).loc main_arg1)

/-- Which blocks a point reads and writes. -/
theorem index_at : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) := by
  decide +kernel

theorem lhs_block (c : Dev nD) (t : Fin cfg0.N) (r : Fin 4096) (p : Fin 1024) (i : S8192x2048.Idx)
    (hi0 : (i 0).val = 4096 * (t.val % 2) + r.val) (hi1 : (i 1).val = 1024 * (t.val / 2) + p.val) :
    (iblk m c 0 t : Vec Ideal S4096x1024 .bf16) (ix2 (n0 := 4096) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 4096 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 4096) (p : Fin 1024) (i : S8192x1024.Idx)
    (hi0 : (i 0).val = 4096 * (t.val % 2) + r.val) (hi1 : (i 1).val = p.val) :
    (iblk m c 1 t : Vec Ideal S4096x1024 .bf16) (ix2 (n0 := 4096) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 4096 + 1 * r.val = (i 0).val; rw [(index_at t).2.1.1, hi0]; omega
  | ⟨1, _⟩ => show win0_1.index t 1 * 1024 + 1 * p.val = (i 1).val; rw [(index_at t).2.1.2, hi1]; omega

/-- What a block's second point leaves, at an index: the product over all the rows. -/
theorem outs_second (c : Dev nD) (t : Fin cfg0.N) (h1 : t.val % 2 = 1) (j : S1024x1024.Idx) (i : S2048x1024.Idx)
    (hi0 : (i 0).val = 1024 * (t.val / 2) + (j 0).val) (hi1 : (i 1).val = (j 1).val) :
    outsAt0 m c t.val t.isLt j = tn (lhs m c) (rhs m c) i := by
  have hlt := t.isLt
  have h0 : ¬t.val % 2 = 0 := by omega
  let s : Fin cfg0.N := ⟨t.val - 1, Nat.lt_of_le_of_lt (Nat.sub_le _ _) t.isLt⟩
  have s0 : s.val % 2 = 0 := by show (t.val - 1) % 2 = 0; omega
  have s1 : ¬s.val % 2 = 1 := by omega
  have sd : s.val / 2 = t.val / 2 := by show (t.val - 1) / 2 = _; omega
  rw [outsAt0_B m c t h0 h1, out_second, pay2_apply]
  have hs : outsAt0 m c (t.val - 1) (Nat.lt_of_le_of_lt (Nat.sub_le _ _) t.isLt) = _ := outsAt0_A m c s s0 s1
  rw [hs, out_first, pay1_apply]
  have e : tn (lhs m c) (rhs m c) i = _ := sum_halves 4096 _
  rw [e]
  refine congrArg₂ (· + ·) (Finset.sum_congr rfl fun k _ => congrArg₂ (· * ·) ?_ ?_)
    (Finset.sum_congr rfl fun k _ => congrArg₂ (· * ·) ?_ ?_)
  · exact lhs_block m c s k (j 0) _ (by rw [s0]; exact (Nat.zero_add _).symm) (by rw [sd]; exact hi0)
  · exact rhs_block m c s k (j 1) _ (by rw [s0]; exact (Nat.zero_add _).symm) hi1
  · exact lhs_block m c t k (j 0) _ (by rw [h1]) hi0
  · exact rhs_block m c t k (j 1) _ (by rw [h1]) hi1

/-- The result array is the whole product: each second point writes its block back, and those blocks cover the array. -/
theorem final (c : Dev nD) : (dats m 0 c).arrAt 2 cfg0.N = tn (lhs m c) (rhs m c) := by
  refine (dats m 0 c).arrAt_eq_of_covers 2 _ (by decide +kernel) fun t hf y => ?_
  have h1 : t.val % 2 = 1 := (flush0_2 t).mp hf
  blk_simp
  rw [after0_2]
  refine outs_second m c t h1 y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel10Ideal.Product

end
-- ==== Proof.Reference10Product.lean ====
/-
  The reference of program "Reference10" computes `aᵀ b`, as the derivative of `a w` in `w`, and the kernel of "Kernel10" the same array.
-/
module

public import proofs.«01_k».proof.Proof.Kernel10Product
public import proofs.«01_k».proof.Proof.Gen.Reference10Ideal.Run
public import proofs.«01_k».proof.Proof.Gen.Reference10Ideal.Read
public import proofs.«01_k».proof.Defs
public import Idealize.ShloMosaic.Lib.Quiescent

@[expose] public section

noncomputable section

namespace Cert.Reference10Ideal.Product

open Cert.Reference10Ideal Cert.Reference10Ideal.Read Idealize.ShloMosaic Idealize.ShloMosaic.TcCoe Idealize.SL.Sem
open Idealize.ShloMosaic.ValueIdx Cert.Products

/-- The reference's last stage is the product. -/
theorem stage_eq (x0 : (⟨S8192x2048, .bf16⟩ : BufTy).Contents (Elt Ideal)) (x1 : (⟨S8192x1024, .bf16⟩ : BufTy).Contents (Elt Ideal)) :
    val_main_v5 (F := Ideal) x0 x1 = tn (M := 2048) (N := 1024) (K := 8192) x0 x1 := by
  funext i
  rw [val_main_v5_apply, val_main_v4_apply]
  refine Finset.sum_congr rfl fun k _ => ?_
  rw [mul_comm]
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = tn (M := 2048) (N := 1024) (K := 8192) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v5_eq _ _)).trans (stage_eq _ _), (h c).2⟩) (Value.run m ρ)

/-- The frame: the arguments stay, and there is no semaphore. -/
theorem frame : Cert.quiescent_Reference10Ideal := fun m ρ _ =>
  (θ_run defs _ _).mono (fun r h => ⟨fun c => (h c).2, Idealize.ShloMosaic.sem_eq_zero_of_no_sems (by decide) r.2⟩) (run m ρ)

end Cert.Reference10Ideal.Product

namespace Cert.Proof

open Idealize.ShloMosaic Idealize.ShloMosaic.TcCoe Idealize.SL.Sem

/-- Kernel and reference leave the same result. -/
theorem algebraic10 : Cert.algebraic_Kernel10Ideal_Reference10Ideal := by
  intro m g m' g' _ hm
  refine ⟨fun c => Cert.Products.tn (Cert.Kernel10Ideal.Product.lhs m c) (Cert.Kernel10Ideal.Product.rhs m c), Cert.Kernel10Ideal.Product.run m g, ?_⟩
  refine (θ_run _ _ _).mono (fun _ h c => ⟨?_, (h c).2⟩) (Cert.Reference10Ideal.Product.run m' g')
  obtain ⟨e0, e1⟩ := hm c
  refine (h c).1.trans ?_
  rw [e0, e1]

end Cert.Proof

end
-- ==== Proof.Adam.lean ====
/-
  AdamW's step over the extended reals, on packed rows of 1024 numbers: the gradient is the sum of the pieces that the
  sources sent, each moment a weighted sum of itself and the gradient or its square, and the change of a weight the
  negative rate times the corrected first moment over the root of the corrected second, plus the decay of the weight.
-/
module

public import proofs.«01_k».proof.Proof.Products

@[expose] public section

noncomputable section

namespace Cert.Adam

open Idealize.ShloMosaic Idealize.ShloMosaic.ValueIdx Cert.Products

/-- The shape of `s` pieces of `r` rows. -/
abbrev Pieces (s r : ℕ) : Shape := ⟨3, ![s, r, 1024]⟩

variable {S R : ℕ}

/-- The gradient: the sum of the pieces. -/
def grad (p : (Pieces S R).Idx → EReal) (i : (Mat R 1024).Idx) : EReal :=
  ∑ k : Fin S, p (ix3 (n0 := S) (n1 := R) (n2 := 1024) k (i 0) (i 1))

/-- One entry of the first moment after the step, from the gradient `g` and the moment `a` before. -/
def first (g a : Ideal .f32) : Ideal .f32 :=
  FloatOps.addf (FloatOps.mulf (Scalar.ofBits .f32 0x3F666666#32) a) (FloatOps.mulf (Scalar.ofBits .f32 0x3DCCCCCD#32) g)

/-- One entry of the second moment after the step. -/
def second (g b : Ideal .f32) : Ideal .f32 :=
  FloatOps.addf (FloatOps.mulf (Scalar.ofBits .f32 0x3F7FBE77#32) b)
    (FloatOps.mulf (Scalar.ofBits .f32 0x3A83126F#32) (FloatOps.mulf g g))

/-- The change of one weight `w`. -/
def change (g w a b : Ideal .f32) : Ideal .f32 :=
  FloatOps.mulf (Scalar.ofBits .f32 0xBA83126F#32)
    (FloatOps.addf
      (FloatOps.divf (FloatOps.divf (first g a) (Scalar.ofBits .f32 0x3F26BD02#32))
        (FloatOps.addf (FloatOps.sqrt (FloatOps.divf (second g b) (Scalar.ofBits .f32 0x3C231ACC#32)))
          (Scalar.ofBits .f32 0x322BCC77#32)))
      (FloatOps.mulf (Scalar.ofBits .f32 0x3C23D70A#32) w))

/-- The first moments after the step. -/
def firsts (p : (Pieces S R).Idx → EReal) (a : (Mat R 1024).Idx → EReal) (i : (Mat R 1024).Idx) : EReal :=
  first (grad p i) (a i)
/-- The second moments after the step. -/
def seconds (p : (Pieces S R).Idx → EReal) (b : (Mat R 1024).Idx → EReal) (i : (Mat R 1024).Idx) : EReal :=
  second (grad p i) (b i)
/-- The changes of the weights. -/
def changes (p : (Pieces S R).Idx → EReal) (w a b : (Mat R 1024).Idx → EReal) (i : (Mat R 1024).Idx) : EReal :=
  change (grad p i) (w i) (a i) (b i)

end Cert.Adam

end
-- ==== Proof.Kernel11Step.lean ====
/-
  What the kernel of program "Kernel11" computes over the extended reals: AdamW's step on the rows of the six large matrices, block by block of
  64 rows, from the pieces of the gradient that 4 sources sent.
-/
module

public import proofs.«01_k».proof.Proof.Adam
public import proofs.«01_k».proof.Proof.Gen.Kernel11Ideal.Value
public import Idealize.ShloMosaic.Lib.Pipeline.ValueKit.Geometry

@[expose] public section

noncomputable section

namespace Cert.Kernel11Ideal.Step

open Cert.Kernel11Ideal Cert.Kernel11Ideal.Gen Idealize.ShloMosaic Idealize.ShloMosaic.TcCoe Idealize.SL.Sem
open Idealize.ShloMosaic.Pipeline (Dat)
open Idealize.ShloMosaic.ValueIdx Cert.Products Cert.Adam

variable (m : (ℓ : Loc nD τ sig) → Buf (Elt Ideal) ℓ) (ρ : Dev nD → PrngReg)

/-- The pieces of the gradient. -/
abbrev recv (c : Dev nD) : (Pieces 4 1728).Idx → EReal := m ((c : Thread nD τ).loc main_arg0)
/-- The weights. -/
abbrev weights (c : Dev nD) : (Mat 1728 1024).Idx → EReal := m ((c : Thread nD τ).loc main_arg1)
/-- The first moments before the step. -/
abbrev before1 (c : Dev nD) : (Mat 1728 1024).Idx → EReal := m ((c : Thread nD τ).loc main_arg2)
/-- The second moments before the step. -/
abbrev before2 (c : Dev nD) : (Mat 1728 1024).Idx → EReal := m ((c : Thread nD τ).loc main_arg3)

/-- Point `t` reads and writes block `t` of the rows. -/
theorem index_at : ∀ t : Fin cfg0.N,
    (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by
  decide +kernel

theorem recv_block (c : Dev nD) (t : Fin cfg0.N) (j : S4x64x1024.Idx) (i : S4x1728x1024.Idx)
    (h0 : (i 0).val = (j 0).val) (h1 : (i 1).val = 64 * t.val + (j 1).val) (h2 : (i 2).val = (j 2).val) :
    (iblk m c 0 t : Vec Ideal S4x64x1024 .bf16) j = recv m c i := by
  unfold iblk
  rw [View.read_apply]
  show V m c main_arg0 _ = m (c.tc.loc main_arg0) _
  unfold V
  congr 1
  funext a
  apply Fin.ext
  match a with
  | ⟨0, _⟩ => show win0_0.index t 0 * 4 + 1 * (j 0).val = (i 0).val; rw [(index_at t).1.1, h0]; omega
  | ⟨1, _⟩ => show win0_0.index t 1 * 64 + 1 * (j 1).val = (i 1).val; rw [(index_at t).1.2.1, h1]; omega
  | ⟨2, _⟩ => show win0_0.index t 2 * 1024 + 1 * (j 2).val = (i 2).val; rw [(index_at t).1.2.2, h2]; omega

theorem weights_block (c : Dev nD) (t : Fin cfg0.N) (j : S64x1024.Idx) (i : S1728x1024.Idx)
    (h0 : (i 0).val = 64 * t.val + (j 0).val) (h1 : (i 1).val = (j 1).val) :
    (iblk m c 1 t : Vec Ideal S64x1024 .f32) j = weights m c i := by
  unfold iblk
  rw [View.read_apply]
  show V m c main_arg1 _ = m (c.tc.loc main_arg1) _
  unfold V
  congr 1
  funext a
  apply Fin.ext
  match a with
  | ⟨0, _⟩ => show win0_1.index t 0 * 64 + 1 * (j 0).val = (i 0).val; rw [(index_at t).2.1.1, h0]; omega
  | ⟨1, _⟩ => show win0_1.index t 1 * 1024 + 1 * (j 1).val = (i 1).val; rw [(index_at t).2.1.2, h1]; omega

theorem before1_block (c : Dev nD) (t : Fin cfg0.N) (j : S64x1024.Idx) (i : S1728x1024.Idx)
    (h0 : (i 0).val = 64 * t.val + (j 0).val) (h1 : (i 1).val = (j 1).val) :
    (iblk m c 2 t : Vec Ideal S64x1024 .f32) j = before1 m c i := by
  unfold iblk
  rw [View.read_apply]
  show V m c main_arg2 _ = m (c.tc.loc main_arg2) _
  unfold V
  congr 1
  funext a
  apply Fin.ext
  match a with
  | ⟨0, _⟩ => show win0_2.index t 0 * 64 + 1 * (j 0).val = (i 0).val; rw [(index_at t).2.2.1.1, h0]; omega
  | ⟨1, _⟩ => show win0_2.index t 1 * 1024 + 1 * (j 1).val = (i 1).val; rw [(index_at t).2.2.1.2, h1]; omega

theorem before2_block (c : Dev nD) (t : Fin cfg0.N) (j : S64x1024.Idx) (i : S1728x1024.Idx)
    (h0 : (i 0).val = 64 * t.val + (j 0).val) (h1 : (i 1).val = (j 1).val) :
    (iblk m c 3 t : Vec Ideal S64x1024 .f32) j = before2 m c i := by
  unfold iblk
  rw [View.read_apply]
  show V m c main_arg3 _ = m (c.tc.loc main_arg3) _
  unfold V
  congr 1
  funext a
  apply Fin.ext
  match a with
  | ⟨0, _⟩ => show win0_3.index t 0 * 64 + 1 * (j 0).val = (i 0).val; rw [(index_at t).2.2.2.1.1, h0]; omega
  | ⟨1, _⟩ => show win0_3.index t 1 * 1024 + 1 * (j 1).val = (i 1).val; rw [(index_at t).2.2.2.1.2, h1]; omega

/-- The sum that a point forms of its slices is the gradient. -/
theorem grad_block (c : Dev nD) (t : Fin cfg0.N) (y : S64x1024.Idx) (i : S1728x1024.Idx)
    (h0 : (i 0).val = 64 * t.val + (y 0).val) (h1 : (i 1).val = (y 1).val) :
    Value.E4 (F := Ideal) (View.ld (iblk m c 0 t) r0_0) (View.ld (iblk m c 0 t) r0_1) (View.ld (iblk m c 0 t) r0_2) (View.ld (iblk m c 0 t) r0_3) y
      = grad (recv m c) i := by
  unfold grad
  rw [Fin.sum_univ_four]
  refine congrArg₂ (· + ·) (congrArg₂ (· + ·) (congrArg₂ (· + ·) ?_ ?_) ?_) ?_
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)

theorem first_block (c : Dev nD) (t : Fin cfg0.N) (y : S64x1024.Idx) (i : S1728x1024.Idx)
    (h0 : (i 0).val = 64 * t.val + (y 0).val) (h1 : (i 1).val = (y 1).val) :
    out0_6 (F := Ideal) (iblk m c 0 t) (iblk m c 1 t) (iblk m c 2 t) (iblk m c 3 t) y
      = firsts (recv m c) (before1 m c) i := by
  unfold out0_6
  refine (Value.canon6_eq (View.ld (iblk m c 2 t) r0_4)
    (View.ld (iblk m c 0 t) r0_0) (View.ld (iblk m c 0 t) r0_1) (View.ld (iblk m c 0 t) r0_2) (View.ld (iblk m c 0 t) r0_3) y).trans ?_
  show first (Value.E4 (F := Ideal) (View.ld (iblk m c 0 t) r0_0) (View.ld (iblk m c 0 t) r0_1) (View.ld (iblk m c 0 t) r0_2) (View.ld (iblk m c 0 t) r0_3) y)
    (View.ld (iblk m c 2 t) r0_4 (Value.ix6_0 y)) = _
  rw [grad_block m c t y i h0 h1]
  exact congrArg (first _) (before1_block m c t _ _
    (by show (i 0).val = 64 * t.val + (0 + 1 * (y 0).val); omega) (by show (i 1).val = 0 + 1 * (y 1).val; omega))

theorem second_block (c : Dev nD) (t : Fin cfg0.N) (y : S64x1024.Idx) (i : S1728x1024.Idx)
    (h0 : (i 0).val = 64 * t.val + (y 0).val) (h1 : (i 1).val = (y 1).val) :
    out0_7 (F := Ideal) (iblk m c 0 t) (iblk m c 1 t) (iblk m c 2 t) (iblk m c 3 t) y
      = seconds (recv m c) (before2 m c) i := by
  unfold out0_7
  refine (Value.canon7_eq (View.ld (iblk m c 3 t) r0_4)
    (View.ld (iblk m c 0 t) r0_0) (View.ld (iblk m c 0 t) r0_1) (View.ld (iblk m c 0 t) r0_2) (View.ld (iblk m c 0 t) r0_3) y).trans ?_
  show second (Value.E4 (F := Ideal) (View.ld (iblk m c 0 t) r0_0) (View.ld (iblk m c 0 t) r0_1) (View.ld (iblk m c 0 t) r0_2) (View.ld (iblk m c 0 t) r0_3) y)
    (View.ld (iblk m c 3 t) r0_4 (Value.ix7_0 y)) = _
  rw [grad_block m c t y i h0 h1]
  exact congrArg (second _) (before2_block m c t _ _
    (by show (i 0).val = 64 * t.val + (0 + 1 * (y 0).val); omega) (by show (i 1).val = 0 + 1 * (y 1).val; omega))

theorem change_block (c : Dev nD) (t : Fin cfg0.N) (y : S64x1024.Idx) (i : S1728x1024.Idx)
    (h0 : (i 0).val = 64 * t.val + (y 0).val) (h1 : (i 1).val = (y 1).val) :
    out0_5 (F := Ideal) (iblk m c 0 t) (iblk m c 1 t) (iblk m c 2 t) (iblk m c 3 t) y
      = changes (recv m c) (weights m c) (before1 m c) (before2 m c) i := by
  have e0 : (i 0).val = 64 * t.val + (0 + 1 * (y 0).val) := by omega
  have e1 : (i 1).val = 0 + 1 * (y 1).val := by omega
  unfold out0_5
  refine (Value.canon5_eq (View.ld (iblk m c 2 t) r0_4)
    (View.ld (iblk m c 0 t) r0_0) (View.ld (iblk m c 0 t) r0_1) (View.ld (iblk m c 0 t) r0_2) (View.ld (iblk m c 0 t) r0_3)
    (View.ld (iblk m c 3 t) r0_4) (View.ld (iblk m c 1 t) r0_4) y).trans ?_
  show change (Value.E4 (F := Ideal) (View.ld (iblk m c 0 t) r0_0) (View.ld (iblk m c 0 t) r0_1) (View.ld (iblk m c 0 t) r0_2) (View.ld (iblk m c 0 t) r0_3) y)
    (View.ld (iblk m c 1 t) r0_4 (Value.ix5_14 y)) (View.ld (iblk m c 2 t) r0_4 (Value.ix5_0 y))
    (View.ld (iblk m c 3 t) r0_4 (Value.ix5_5 y)) = _
  rw [grad_block m c t y i h0 h1]
  have a1 : View.ld (iblk m c 1 t) r0_4 (Value.ix5_14 y) = weights m c i := weights_block m c t _ _ e0 e1
  have a2 : View.ld (iblk m c 2 t) r0_4 (Value.ix5_0 y) = before1 m c i := before1_block m c t _ _ e0 e1
  have a3 : View.ld (iblk m c 3 t) r0_4 (Value.ix5_5 y) = before2 m c i := before2_block m c t _ _ e0 e1
  rw [a1, a2, a3]
  rfl

theorem grads (c : Dev nD) : (dats m 0 c).arrAt 4 cfg0.N = grad (recv m c) := by
  refine (dats m 0 c).arrAt_eq_of_covers 4 _ (by decide +kernel) fun t hf y => ?_
  blk_simp
  rw [after0_4]
  unfold out0_4
  refine (Value.canon4_eq (View.ld (iblk m c 0 t) r0_0) (View.ld (iblk m c 0 t) r0_1) (View.ld (iblk m c 0 t) r0_2) (View.ld (iblk m c 0 t) r0_3) y).trans ?_
  refine grad_block m c t y _ ?_ ?_
  · blk_simp; rw [(index_at t).2.2.2.2.1.1]; omega
  · blk_simp; rw [(index_at t).2.2.2.2.1.2]; omega

theorem changed (c : Dev nD) : (dats m 0 c).arrAt 5 cfg0.N = changes (recv m c) (weights m c) (before1 m c) (before2 m c) := by
  refine (dats m 0 c).arrAt_eq_of_covers 5 _ (by decide +kernel) fun t hf y => ?_
  blk_simp
  rw [after0_5]
  refine change_block m c t y _ ?_ ?_
  · blk_simp; rw [(index_at t).2.2.2.2.2.1.1]; omega
  · blk_simp; rw [(index_at t).2.2.2.2.2.1.2]; omega

theorem after1 (c : Dev nD) : (dats m 0 c).arrAt 6 cfg0.N = firsts (recv m c) (before1 m c) := by
  refine (dats m 0 c).arrAt_eq_of_covers 6 _ (by decide +kernel) fun t hf y => ?_
  blk_simp
  rw [after0_6]
  refine first_block m c t y _ ?_ ?_
  · blk_simp; rw [(index_at t).2.2.2.2.2.2.1.1]; omega
  · blk_simp; rw [(index_at t).2.2.2.2.2.2.1.2]; omega

theorem after2 (c : Dev nD) : (dats m 0 c).arrAt 7 cfg0.N = seconds (recv m c) (before2 m c) := by
  refine (dats m 0 c).arrAt_eq_of_covers 7 _ (by decide +kernel) fun t hf y => ?_
  blk_simp
  rw [after0_7]
  refine second_block m c t y _ ?_ ?_
  · blk_simp; rw [(index_at t).2.2.2.2.2.2.2.1]; omega
  · blk_simp; rw [(index_at t).2.2.2.2.2.2.2.2]; omega

/-- The run: the four results are AdamW's step and the arguments stay. -/
theorem run : θ_run defs (onTc (τ := τ) (main (F := Ideal))) ⟨m, fun _ => 0, ρ⟩ fun r => ∀ c : Dev nD,
      r.2.mem ((c : Thread nD τ).loc main_v0_0) = grad (recv m c)
      ∧ r.2.mem ((c : Thread nD τ).loc main_v0_1) = changes (recv m c) (weights m c) (before1 m c) (before2 m c)
      ∧ r.2.mem ((c : Thread nD τ).loc main_v0_2) = firsts (recv m c) (before1 m c)
      ∧ r.2.mem ((c : Thread nD τ).loc main_v0_3) = seconds (recv m c) (before2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (grads m c), (h c).2.1.trans (changed m c),
    (h c).2.2.1.trans (after1 m c), (h c).2.2.2.1.trans (after2 m c), (h c).2.2.2.2⟩) (Value.run_blocks m ρ)

end Cert.Kernel11Ideal.Step

end
-- ==== Proof.Reference11Step.lean ====
/-
  The reference of program "Reference11" computes AdamW's step on the rows of the six large matrices, and the kernel of "Kernel11" the same arrays.
-/
module

public import proofs.«01_k».proof.Proof.Kernel11Step
public import proofs.«01_k».proof.Proof.Gen.Reference11Ideal.Run
public import proofs.«01_k».proof.Proof.Gen.Reference11Ideal.Read
public import proofs.«01_k».proof.Defs
public import Idealize.ShloMosaic.Lib.Quiescent

@[expose] public section

noncomputable section

namespace Cert.Reference11Ideal.Step

open Cert.Reference11Ideal Cert.Reference11Ideal.Read Idealize.ShloMosaic Idealize.ShloMosaic.TcCoe Idealize.SL.Sem
open Idealize.ShloMosaic.ValueIdx Cert.Products Cert.Adam

/-- The sum over the sources. -/
theorem stage_grad (x0 : (⟨S4x1728x1024, .bf16⟩ : BufTy).Contents (Elt Ideal)) : val_main_v1 (F := Ideal) x0 = grad (S := 4) (R := 1728) x0 := by
  funext i
  rw [val_main_v1_apply]
  show Ideal.ofBits .f32 0x00000000#32 + _ = _
  rw [Ideal.ofBits_zero_f32, zero_add]
  refine Finset.sum_congr rfl fun k _ => ?_
  exact congrArg x0 (funext fun a => by fin_cases a <;> rfl)

theorem stage_first (x0 : (⟨S4x1728x1024, .bf16⟩ : BufTy).Contents (Elt Ideal)) (x2 : (⟨S1728x1024, .f32⟩ : BufTy).Contents (Elt Ideal)) :
    val_main_v6 (F := Ideal) x0 x2 = firsts (S := 4) (R := 1728) x0 x2 := by
  funext i
  rw [val_main_v6_apply, val_main_v3_apply, val_main_v2_apply, val_main_v5_apply, val_main_v4_apply, stage_grad]
  rfl

theorem stage_second (x0 : (⟨S4x1728x1024, .bf16⟩ : BufTy).Contents (Elt Ideal)) (x3 : (⟨S1728x1024, .f32⟩ : BufTy).Contents (Elt Ideal)) :
    val_main_v12 (F := Ideal) x0 x3 = seconds (S := 4) (R := 1728) x0 x3 := by
  funext i
  rw [val_main_v12_apply, val_main_v8_apply, val_main_v7_apply, val_main_v11_apply, val_main_v10_apply, val_main_v9_apply,
    stage_grad]
  rfl

theorem stage_change (x0 : (⟨S4x1728x1024, .bf16⟩ : BufTy).Contents (Elt Ideal)) (x1 x2 x3 : (⟨S1728x1024, .f32⟩ : BufTy).Contents (Elt Ideal)) :
    val_main_v25 (F := Ideal) x0 x1 x2 x3 = changes (S := 4) (R := 1728) x0 x1 x2 x3 := by
  funext i
  simp only [val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, stage_first, stage_second]
  rfl

/-- The run: the four results are AdamW's step and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (S := 4) (R := 1728) (m ((c.tc : Thread nD τ).loc main_arg0))
      ∧ r.2.mem ((c.tc : Thread nD τ).loc main_v25) = changes (S := 4) (R := 1728) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v6) = firsts (S := 4) (R := 1728) (m ((c.tc : Thread nD τ).loc main_arg0))
          (m ((c.tc : Thread nD τ).loc main_arg2))
      ∧ r.2.mem ((c.tc : Thread nD τ).loc main_v12) = seconds (S := 4) (R := 1728) (m ((c.tc : Thread nD τ).loc main_arg0))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v1_eq _)).trans (stage_grad _),
    ((h c).2.1.trans (val_main_v25_eq _ _ _ _)).trans (stage_change _ _ _ _),
    ((h c).2.2.1.trans (val_main_v6_eq _ _)).trans (stage_first _ _),
    ((h c).2.2.2.1.trans (val_main_v12_eq _ _)).trans (stage_second _ _), (h c).2.2.2.2⟩) (Value.run m ρ)

/-- The frame: the arguments stay, and there is no semaphore. -/
theorem frame : Cert.quiescent_Reference11Ideal := fun m ρ _ =>
  (θ_run defs _ _).mono (fun r h => ⟨fun c => (h c).2.2.2.2, Idealize.ShloMosaic.sem_eq_zero_of_no_sems (by decide) r.2⟩)
    (run m ρ)

end Cert.Reference11Ideal.Step

namespace Cert.Proof

open Idealize.ShloMosaic Idealize.ShloMosaic.TcCoe Idealize.SL.Sem
open Cert.Kernel11Ideal.Step

/-- Kernel and reference leave the same four results. -/
theorem algebraic11 : Cert.algebraic_Kernel11Ideal_Reference11Ideal := by
  intro m g m' g' _ hm
  refine ⟨fun c => Cert.Adam.grad (recv m c), fun c => Cert.Adam.changes (recv m c) (weights m c) (before1 m c) (before2 m c),
    fun c => Cert.Adam.firsts (recv m c) (before1 m c), fun c => Cert.Adam.seconds (recv m c) (before2 m c),
    Cert.Kernel11Ideal.Step.run m g, ?_⟩
  refine (θ_run _ _ _).mono (fun _ h c => ⟨?_, ?_, ?_, ?_, (h c).2.2.2.2⟩) (Cert.Reference11Ideal.Step.run m' g')
  all_goals obtain ⟨e0, e1, e2, e3⟩ := hm c
  · exact (h c).1.trans (by rw [e0])
  · exact (h c).2.1.trans (by rw [e0, e1, e2, e3])
  · exact (h c).2.2.1.trans (by rw [e0, e2])
  · exact (h c).2.2.2.1.trans (by rw [e0, e3])

end Cert.Proof

end
-- ==== Proof.Kernel12Step.lean ====
/-
  What the kernel of program "Kernel12" computes over the extended reals: AdamW's step on the rows of the conditioning matrix, block by block of
  64 rows, from the pieces of the gradient that 4 sources sent.
-/
module

public import proofs.«01_k».proof.Proof.Adam
public import proofs.«01_k».proof.Proof.Gen.Kernel12Ideal.Value
public import Idealize.ShloMosaic.Lib.Pipeline.ValueKit.Geometry

@[expose] public section

noncomputable section

namespace Cert.Kernel12Ideal.Step

open Cert.Kernel12Ideal Cert.Kernel12Ideal.Gen Idealize.ShloMosaic Idealize.ShloMosaic.TcCoe Idealize.SL.Sem
open Idealize.ShloMosaic.Pipeline (Dat)
open Idealize.ShloMosaic.ValueIdx Cert.Products Cert.Adam

variable (m : (ℓ : Loc nD τ sig) → Buf (Elt Ideal) ℓ) (ρ : Dev nD → PrngReg)

/-- The pieces of the gradient. -/
abbrev recv (c : Dev nD) : (Pieces 4 384).Idx → EReal := m ((c : Thread nD τ).loc main_arg0)
/-- The weights. -/
abbrev weights (c : Dev nD) : (Mat 384 1024).Idx → EReal := m ((c : Thread nD τ).loc main_arg1)
/-- The first moments before the step. -/
abbrev before1 (c : Dev nD) : (Mat 384 1024).Idx → EReal := m ((c : Thread nD τ).loc main_arg2)
/-- The second moments before the step. -/
abbrev before2 (c : Dev nD) : (Mat 384 1024).Idx → EReal := m ((c : Thread nD τ).loc main_arg3)

/-- Point `t` reads and writes block `t` of the rows. -/
theorem index_at : ∀ t : Fin cfg0.N,
    (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by
  decide +kernel

theorem recv_block (c : Dev nD) (t : Fin cfg0.N) (j : S4x64x1024.Idx) (i : S4x384x1024.Idx)
    (h0 : (i 0).val = (j 0).val) (h1 : (i 1).val = 64 * t.val + (j 1).val) (h2 : (i 2).val = (j 2).val) :
    (iblk m c 0 t : Vec Ideal S4x64x1024 .bf16) j = recv m c i := by
  unfold iblk
  rw [View.read_apply]
  show V m c main_arg0 _ = m (c.tc.loc main_arg0) _
  unfold V
  congr 1
  funext a
  apply Fin.ext
  match a with
  | ⟨0, _⟩ => show win0_0.index t 0 * 4 + 1 * (j 0).val = (i 0).val; rw [(index_at t).1.1, h0]; omega
  | ⟨1, _⟩ => show win0_0.index t 1 * 64 + 1 * (j 1).val = (i 1).val; rw [(index_at t).1.2.1, h1]; omega
  | ⟨2, _⟩ => show win0_0.index t 2 * 1024 + 1 * (j 2).val = (i 2).val; rw [(index_at t).1.2.2, h2]; omega

theorem weights_block (c : Dev nD) (t : Fin cfg0.N) (j : S64x1024.Idx) (i : S384x1024.Idx)
    (h0 : (i 0).val = 64 * t.val + (j 0).val) (h1 : (i 1).val = (j 1).val) :
    (iblk m c 1 t : Vec Ideal S64x1024 .f32) j = weights m c i := by
  unfold iblk
  rw [View.read_apply]
  show V m c main_arg1 _ = m (c.tc.loc main_arg1) _
  unfold V
  congr 1
  funext a
  apply Fin.ext
  match a with
  | ⟨0, _⟩ => show win0_1.index t 0 * 64 + 1 * (j 0).val = (i 0).val; rw [(index_at t).2.1.1, h0]; omega
  | ⟨1, _⟩ => show win0_1.index t 1 * 1024 + 1 * (j 1).val = (i 1).val; rw [(index_at t).2.1.2, h1]; omega

theorem before1_block (c : Dev nD) (t : Fin cfg0.N) (j : S64x1024.Idx) (i : S384x1024.Idx)
    (h0 : (i 0).val = 64 * t.val + (j 0).val) (h1 : (i 1).val = (j 1).val) :
    (iblk m c 2 t : Vec Ideal S64x1024 .f32) j = before1 m c i := by
  unfold iblk
  rw [View.read_apply]
  show V m c main_arg2 _ = m (c.tc.loc main_arg2) _
  unfold V
  congr 1
  funext a
  apply Fin.ext
  match a with
  | ⟨0, _⟩ => show win0_2.index t 0 * 64 + 1 * (j 0).val = (i 0).val; rw [(index_at t).2.2.1.1, h0]; omega
  | ⟨1, _⟩ => show win0_2.index t 1 * 1024 + 1 * (j 1).val = (i 1).val; rw [(index_at t).2.2.1.2, h1]; omega

theorem before2_block (c : Dev nD) (t : Fin cfg0.N) (j : S64x1024.Idx) (i : S384x1024.Idx)
    (h0 : (i 0).val = 64 * t.val + (j 0).val) (h1 : (i 1).val = (j 1).val) :
    (iblk m c 3 t : Vec Ideal S64x1024 .f32) j = before2 m c i := by
  unfold iblk
  rw [View.read_apply]
  show V m c main_arg3 _ = m (c.tc.loc main_arg3) _
  unfold V
  congr 1
  funext a
  apply Fin.ext
  match a with
  | ⟨0, _⟩ => show win0_3.index t 0 * 64 + 1 * (j 0).val = (i 0).val; rw [(index_at t).2.2.2.1.1, h0]; omega
  | ⟨1, _⟩ => show win0_3.index t 1 * 1024 + 1 * (j 1).val = (i 1).val; rw [(index_at t).2.2.2.1.2, h1]; omega

/-- The sum that a point forms of its slices is the gradient. -/
theorem grad_block (c : Dev nD) (t : Fin cfg0.N) (y : S64x1024.Idx) (i : S384x1024.Idx)
    (h0 : (i 0).val = 64 * t.val + (y 0).val) (h1 : (i 1).val = (y 1).val) :
    Value.E4 (F := Ideal) (View.ld (iblk m c 0 t) r0_0) (View.ld (iblk m c 0 t) r0_1) (View.ld (iblk m c 0 t) r0_2) (View.ld (iblk m c 0 t) r0_3) y
      = grad (recv m c) i := by
  unfold grad
  rw [Fin.sum_univ_four]
  refine congrArg₂ (· + ·) (congrArg₂ (· + ·) (congrArg₂ (· + ·) ?_ ?_) ?_) ?_
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)
  · exact recv_block m c t _ _ rfl (by show (i 0).val = 64 * t.val + (0 + 1 * (y 0).val); omega)
      (by show (i 1).val = 0 + 1 * (y 1).val; omega)

theorem first_block (c : Dev nD) (t : Fin cfg0.N) (y : S64x1024.Idx) (i : S384x1024.Idx)
    (h0 : (i 0).val = 64 * t.val + (y 0).val) (h1 : (i 1).val = (y 1).val) :
    out0_6 (F := Ideal) (iblk m c 0 t) (iblk m c 1 t) (iblk m c 2 t) (iblk m c 3 t) y
      = firsts (recv m c) (before1 m c) i := by
  unfold out0_6
  refine (Value.canon6_eq (View.ld (iblk m c 2 t) r0_4)
    (View.ld (iblk m c 0 t) r0_0) (View.ld (iblk m c 0 t) r0_1) (View.ld (iblk m c 0 t) r0_2) (View.ld (iblk m c 0 t) r0_3) y).trans ?_
  show first (Value.E4 (F := Ideal) (View.ld (iblk m c 0 t) r0_0) (View.ld (iblk m c 0 t) r0_1) (View.ld (iblk m c 0 t) r0_2) (View.ld (iblk m c 0 t) r0_3) y)
    (View.ld (iblk m c 2 t) r0_4 (Value.ix6_0 y)) = _
  rw [grad_block m c t y i h0 h1]
  exact congrArg (first _) (before1_block m c t _ _
    (by show (i 0).val = 64 * t.val + (0 + 1 * (y 0).val); omega) (by show (i 1).val = 0 + 1 * (y 1).val; omega))

theorem second_block (c : Dev nD) (t : Fin cfg0.N) (y : S64x1024.Idx) (i : S384x1024.Idx)
    (h0 : (i 0).val = 64 * t.val + (y 0).val) (h1 : (i 1).val = (y 1).val) :
    out0_7 (F := Ideal) (iblk m c 0 t) (iblk m c 1 t) (iblk m c 2 t) (iblk m c 3 t) y
      = seconds (recv m c) (before2 m c) i := by
  unfold out0_7
  refine (Value.canon7_eq (View.ld (iblk m c 3 t) r0_4)
    (View.ld (iblk m c 0 t) r0_0) (View.ld (iblk m c 0 t) r0_1) (View.ld (iblk m c 0 t) r0_2) (View.ld (iblk m c 0 t) r0_3) y).trans ?_
  show second (Value.E4 (F := Ideal) (View.ld (iblk m c 0 t) r0_0) (View.ld (iblk m c 0 t) r0_1) (View.ld (iblk m c 0 t) r0_2) (View.ld (iblk m c 0 t) r0_3) y)
    (View.ld (iblk m c 3 t) r0_4 (Value.ix7_0 y)) = _
  rw [grad_block m c t y i h0 h1]
  exact congrArg (second _) (before2_block m c t _ _
    (by show (i 0).val = 64 * t.val + (0 + 1 * (y 0).val); omega) (by show (i 1).val = 0 + 1 * (y 1).val; omega))

theorem change_block (c : Dev nD) (t : Fin cfg0.N) (y : S64x1024.Idx) (i : S384x1024.Idx)
    (h0 : (i 0).val = 64 * t.val + (y 0).val) (h1 : (i 1).val = (y 1).val) :
    out0_5 (F := Ideal) (iblk m c 0 t) (iblk m c 1 t) (iblk m c 2 t) (iblk m c 3 t) y
      = changes (recv m c) (weights m c) (before1 m c) (before2 m c) i := by
  have e0 : (i 0).val = 64 * t.val + (0 + 1 * (y 0).val) := by omega
  have e1 : (i 1).val = 0 + 1 * (y 1).val := by omega
  unfold out0_5
  refine (Value.canon5_eq (View.ld (iblk m c 2 t) r0_4)
    (View.ld (iblk m c 0 t) r0_0) (View.ld (iblk m c 0 t) r0_1) (View.ld (iblk m c 0 t) r0_2) (View.ld (iblk m c 0 t) r0_3)
    (View.ld (iblk m c 3 t) r0_4) (View.ld (iblk m c 1 t) r0_4) y).trans ?_
  show change (Value.E4 (F := Ideal) (View.ld (iblk m c 0 t) r0_0) (View.ld (iblk m c 0 t) r0_1) (View.ld (iblk m c 0 t) r0_2) (View.ld (iblk m c 0 t) r0_3) y)
    (View.ld (iblk m c 1 t) r0_4 (Value.ix5_14 y)) (View.ld (iblk m c 2 t) r0_4 (Value.ix5_0 y))
    (View.ld (iblk m c 3 t) r0_4 (Value.ix5_5 y)) = _
  rw [grad_block m c t y i h0 h1]
  have a1 : View.ld (iblk m c 1 t) r0_4 (Value.ix5_14 y) = weights m c i := weights_block m c t _ _ e0 e1
  have a2 : View.ld (iblk m c 2 t) r0_4 (Value.ix5_0 y) = before1 m c i := before1_block m c t _ _ e0 e1
  have a3 : View.ld (iblk m c 3 t) r0_4 (Value.ix5_5 y) = before2 m c i := before2_block m c t _ _ e0 e1
  rw [a1, a2, a3]
  rfl

theorem grads (c : Dev nD) : (dats m 0 c).arrAt 4 cfg0.N = grad (recv m c) := by
  refine (dats m 0 c).arrAt_eq_of_covers 4 _ (by decide +kernel) fun t hf y => ?_
  blk_simp
  rw [after0_4]
  unfold out0_4
  refine (Value.canon4_eq (View.ld (iblk m c 0 t) r0_0) (View.ld (iblk m c 0 t) r0_1) (View.ld (iblk m c 0 t) r0_2) (View.ld (iblk m c 0 t) r0_3) y).trans ?_
  refine grad_block m c t y _ ?_ ?_
  · blk_simp; rw [(index_at t).2.2.2.2.1.1]; omega
  · blk_simp; rw [(index_at t).2.2.2.2.1.2]; omega

theorem changed (c : Dev nD) : (dats m 0 c).arrAt 5 cfg0.N = changes (recv m c) (weights m c) (before1 m c) (before2 m c) := by
  refine (dats m 0 c).arrAt_eq_of_covers 5 _ (by decide +kernel) fun t hf y => ?_
  blk_simp
  rw [after0_5]
  refine change_block m c t y _ ?_ ?_
  · blk_simp; rw [(index_at t).2.2.2.2.2.1.1]; omega
  · blk_simp; rw [(index_at t).2.2.2.2.2.1.2]; omega

theorem after1 (c : Dev nD) : (dats m 0 c).arrAt 6 cfg0.N = firsts (recv m c) (before1 m c) := by
  refine (dats m 0 c).arrAt_eq_of_covers 6 _ (by decide +kernel) fun t hf y => ?_
  blk_simp
  rw [after0_6]
  refine first_block m c t y _ ?_ ?_
  · blk_simp; rw [(index_at t).2.2.2.2.2.2.1.1]; omega
  · blk_simp; rw [(index_at t).2.2.2.2.2.2.1.2]; omega

theorem after2 (c : Dev nD) : (dats m 0 c).arrAt 7 cfg0.N = seconds (recv m c) (before2 m c) := by
  refine (dats m 0 c).arrAt_eq_of_covers 7 _ (by decide +kernel) fun t hf y => ?_
  blk_simp
  rw [after0_7]
  refine second_block m c t y _ ?_ ?_
  · blk_simp; rw [(index_at t).2.2.2.2.2.2.2.1]; omega
  · blk_simp; rw [(index_at t).2.2.2.2.2.2.2.2]; omega

/-- The run: the four results are AdamW's step and the arguments stay. -/
theorem run : θ_run defs (onTc (τ := τ) (main (F := Ideal))) ⟨m, fun _ => 0, ρ⟩ fun r => ∀ c : Dev nD,
      r.2.mem ((c : Thread nD τ).loc main_v0_0) = grad (recv m c)
      ∧ r.2.mem ((c : Thread nD τ).loc main_v0_1) = changes (recv m c) (weights m c) (before1 m c) (before2 m c)
      ∧ r.2.mem ((c : Thread nD τ).loc main_v0_2) = firsts (recv m c) (before1 m c)
      ∧ r.2.mem ((c : Thread nD τ).loc main_v0_3) = seconds (recv m c) (before2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (grads m c), (h c).2.1.trans (changed m c),
    (h c).2.2.1.trans (after1 m c), (h c).2.2.2.1.trans (after2 m c), (h c).2.2.2.2⟩) (Value.run_blocks m ρ)

end Cert.Kernel12Ideal.Step

end
-- ==== Proof.Reference12Step.lean ====
/-
  The reference of program "Reference12" computes AdamW's step on the rows of the conditioning matrix, and the kernel of "Kernel12" the same arrays.
-/
module

public import proofs.«01_k».proof.Proof.Kernel12Step
public import proofs.«01_k».proof.Proof.Gen.Reference12Ideal.Run
public import proofs.«01_k».proof.Proof.Gen.Reference12Ideal.Read
public import proofs.«01_k».proof.Defs
public import Idealize.ShloMosaic.Lib.Quiescent

@[expose] public section

noncomputable section

namespace Cert.Reference12Ideal.Step

open Cert.Reference12Ideal Cert.Reference12Ideal.Read Idealize.ShloMosaic Idealize.ShloMosaic.TcCoe Idealize.SL.Sem
open Idealize.ShloMosaic.ValueIdx Cert.Products Cert.Adam

/-- The sum over the sources. -/
theorem stage_grad (x0 : (⟨S4x384x1024, .bf16⟩ : BufTy).Contents (Elt Ideal)) : val_main_v1 (F := Ideal) x0 = grad (S := 4) (R := 384) x0 := by
  funext i
  rw [val_main_v1_apply]
  show Ideal.ofBits .f32 0x00000000#32 + _ = _
  rw [Ideal.ofBits_zero_f32, zero_add]
  refine Finset.sum_congr rfl fun k _ => ?_
  exact congrArg x0 (funext fun a => by fin_cases a <;> rfl)

theorem stage_first (x0 : (⟨S4x384x1024, .bf16⟩ : BufTy).Contents (Elt Ideal)) (x2 : (⟨S384x1024, .f32⟩ : BufTy).Contents (Elt Ideal)) :
    val_main_v6 (F := Ideal) x0 x2 = firsts (S := 4) (R := 384) x0 x2 := by
  funext i
  rw [val_main_v6_apply, val_main_v3_apply, val_main_v2_apply, val_main_v5_apply, val_main_v4_apply, stage_grad]
  rfl

theorem stage_second (x0 : (⟨S4x384x1024, .bf16⟩ : BufTy).Contents (Elt Ideal)) (x3 : (⟨S384x1024, .f32⟩ : BufTy).Contents (Elt Ideal)) :
    val_main_v12 (F := Ideal) x0 x3 = seconds (S := 4) (R := 384) x0 x3 := by
  funext i
  rw [val_main_v12_apply, val_main_v8_apply, val_main_v7_apply, val_main_v11_apply, val_main_v10_apply, val_main_v9_apply,
    stage_grad]
  rfl

theorem stage_change (x0 : (⟨S4x384x1024, .bf16⟩ : BufTy).Contents (Elt Ideal)) (x1 x2 x3 : (⟨S384x1024, .f32⟩ : BufTy).Contents (Elt Ideal)) :
    val_main_v25 (F := Ideal) x0 x1 x2 x3 = changes (S := 4) (R := 384) x0 x1 x2 x3 := by
  funext i
  simp only [val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, stage_first, stage_second]
  rfl

/-- The run: the four results are AdamW's step and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (S := 4) (R := 384) (m ((c.tc : Thread nD τ).loc main_arg0))
      ∧ r.2.mem ((c.tc : Thread nD τ).loc main_v25) = changes (S := 4) (R := 384) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v6) = firsts (S := 4) (R := 384) (m ((c.tc : Thread nD τ).loc main_arg0))
          (m ((c.tc : Thread nD τ).loc main_arg2))
      ∧ r.2.mem ((c.tc : Thread nD τ).loc main_v12) = seconds (S := 4) (R := 384) (m ((c.tc : Thread nD τ).loc main_arg0))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v1_eq _)).trans (stage_grad _),
    ((h c).2.1.trans (val_main_v25_eq _ _ _ _)).trans (stage_change _ _ _ _),
    ((h c).2.2.1.trans (val_main_v6_eq _ _)).trans (stage_first _ _),
    ((h c).2.2.2.1.trans (val_main_v12_eq _ _)).trans (stage_second _ _), (h c).2.2.2.2⟩) (Value.run m ρ)

/-- The frame: the arguments stay, and there is no semaphore. -/
theorem frame : Cert.quiescent_Reference12Ideal := fun m ρ _ =>
  (θ_run defs _ _).mono (fun r h => ⟨fun c => (h c).2.2.2.2, Idealize.ShloMosaic.sem_eq_zero_of_no_sems (by decide) r.2⟩)
    (run m ρ)

end Cert.Reference12Ideal.Step

namespace Cert.Proof

open Idealize.ShloMosaic Idealize.ShloMosaic.TcCoe Idealize.SL.Sem
open Cert.Kernel12Ideal.Step

/-- Kernel and reference leave the same four results. -/
theorem algebraic12 : Cert.algebraic_Kernel12Ideal_Reference12Ideal := by
  intro m g m' g' _ hm
  refine ⟨fun c => Cert.Adam.grad (recv m c), fun c => Cert.Adam.changes (recv m c) (weights m c) (before1 m c) (before2 m c),
    fun c => Cert.Adam.firsts (recv m c) (before1 m c), fun c => Cert.Adam.seconds (recv m c) (before2 m c),
    Cert.Kernel12Ideal.Step.run m g, ?_⟩
  refine (θ_run _ _ _).mono (fun _ h c => ⟨?_, ?_, ?_, ?_, (h c).2.2.2.2⟩) (Cert.Reference12Ideal.Step.run m' g')
  all_goals obtain ⟨e0, e1, e2, e3⟩ := hm c
  · exact (h c).1.trans (by rw [e0])
  · exact (h c).2.1.trans (by rw [e0, e1, e2, e3])
  · exact (h c).2.2.1.trans (by rw [e0, e2])
  · exact (h c).2.2.2.1.trans (by rw [e0, e3])

end Cert.Proof

end
-- ==== Proof.Kernel13Step.lean ====
/-
  What the kernel of program "Kernel13" computes over the extended reals: AdamW's step on the rows of the small parameters, block by block of
  16 rows, from the pieces of the gradient that 8 sources sent.
-/
module

public import proofs.«01_k».proof.Proof.Adam
public import proofs.«01_k».proof.Proof.Gen.Kernel13Ideal.Value
public import Idealize.ShloMosaic.Lib.Pipeline.ValueKit.Geometry

@[expose] public section

noncomputable section

namespace Cert.Kernel13Ideal.Step

open Cert.Kernel13Ideal Cert.Kernel13Ideal.Gen Idealize.ShloMosaic Idealize.ShloMosaic.TcCoe Idealize.SL.Sem
open Idealize.ShloMosaic.Pipeline (Dat)
open Idealize.ShloMosaic.ValueIdx Cert.Products Cert.Adam

variable (m : (ℓ : Loc nD τ sig) → Buf (Elt Ideal) ℓ) (ρ : Dev nD → PrngReg)

/-- The pieces of the gradient. -/
abbrev recv (c : Dev nD) : (Pieces 8 16).Idx → EReal := m ((c : Thread nD τ).loc main_arg0)
/-- The weights. -/
abbrev weights (c : Dev nD) : (Mat 16 1024).Idx → EReal := m ((c : Thread nD τ).loc main_arg1)
/-- The first moments before the step. -/
abbrev before1 (c : Dev nD) : (Mat 16 1024).Idx → EReal := m ((c : Thread nD τ).loc main_arg2)
/-- The second moments before the step. -/
abbrev before2 (c : Dev nD) : (Mat 16 1024).Idx → EReal := m ((c : Thread nD τ).loc main_arg3)

/-- Point `t` reads and writes block `t` of the rows. -/
theorem index_at : ∀ t : Fin cfg0.N,
    (win0_0.index t 0 = 0 ∧ win0_0.index t 1 = t.val ∧ win0_0.index t 2 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) := by
  decide +kernel

theorem recv_block (c : Dev nD) (t : Fin cfg0.N) (j : S8x16x1024.Idx) (i : S8x16x1024.Idx)
    (h0 : (i 0).val = (j 0).val) (h1 : (i 1).val = 16 * t.val + (j 1).val) (h2 : (i 2).val = (j 2).val) :
    (iblk m c 0 t : Vec Ideal S8x16x1024 .f32) j = recv m c i := by
  unfold iblk
  rw [View.read_apply]
  show V m c main_arg0 _ = m (c.tc.loc main_arg0) _
  unfold V
  congr 1
  funext a
  apply Fin.ext
  match a with
  | ⟨0, _⟩ => show win0_0.index t 0 * 8 + 1 * (j 0).val = (i 0).val; rw [(index_at t).1.1, h0]; omega
  | ⟨1, _⟩ => show win0_0.index t 1 * 16 + 1 * (j 1).val = (i 1).val; rw [(index_at t).1.2.1, h1]; omega
  | ⟨2, _⟩ => show win0_0.index t 2 * 1024 + 1 * (j 2).val = (i 2).val; rw [(index_at t).1.2.2, h2]; omega

theorem weights_block (c : Dev nD) (t : Fin cfg0.N) (j : S16x1024.Idx) (i : S16x1024.Idx)
    (h0 : (i 0).val = 16 * t.val + (j 0).val) (h1 : (i 1).val = (j 1).val) :
    (iblk m c 1 t : Vec Ideal S16x1024 .f32) j = weights m c i := by
  unfold iblk
  rw [View.read_apply]
  show V m c main_arg1 _ = m (c.tc.loc main_arg1) _
  unfold V
  congr 1
  funext a
  apply Fin.ext
  match a with
  | ⟨0, _⟩ => show win0_1.index t 0 * 16 + 1 * (j 0).val = (i 0).val; rw [(index_at t).2.1.1, h0]; omega
  | ⟨1, _⟩ => show win0_1.index t 1 * 1024 + 1 * (j 1).val = (i 1).val; rw [(index_at t).2.1.2, h1]; omega

theorem before1_block (c : Dev nD) (t : Fin cfg0.N) (j : S16x1024.Idx) (i : S16x1024.Idx)
    (h0 : (i 0).val = 16 * t.val + (j 0).val) (h1 : (i 1).val = (j 1).val) :
    (iblk m c 2 t : Vec Ideal S16x1024 .f32) j = before1 m c i := by
  unfold iblk
  rw [View.read_apply]
  show V m c main_arg2 _ = m (c.tc.loc main_arg2) _
  unfold V
  congr 1
  funext a
  apply Fin.ext
  match a with
  | ⟨0, _⟩ => show win0_2.index t 0 * 16 + 1 * (j 0).val = (i 0).val; rw [(index_at t).2.2.1.1, h0]; omega
  | ⟨1, _⟩ => show win0_2.index t 1 * 1024 + 1 * (j 1).val = (i 1).val; rw [(index_at t).2.2.1.2, h1]; omega

theorem before2_block (c : Dev nD) (t : Fin cfg0.N) (j : S16x1024.Idx) (i : S16x1024.Idx)
    (h0 : (i 0).val = 16 * t.val + (j 0).val) (h1 : (i 1).val = (j 1).val) :
    (iblk m c 3 t : Vec Ideal S16x1024 .f32) j = before2 m c i := by
  unfold iblk
  rw [View.read_apply]
  show V m c main_arg3 _ = m (c.tc.loc main_arg3) _
  unfold V
  congr 1
  funext a
  apply Fin.ext
  match a with
  | ⟨0, _⟩ => show win0_3.index t 0 * 16 + 1 * (j 0).val = (i 0).val; rw [(index_at t).2.2.2.1.1, h0]; omega
  | ⟨1, _⟩ => show win0_3.index t 1 * 1024 + 1 * (j 1).val = (i 1).val; rw [(index_at t).2.2.2.1.2, h1]; omega

/-- The sum that a point forms of its slices is the gradient. -/
theorem grad_block (c : Dev nD) (t : Fin cfg0.N) (y : S16x1024.Idx) (i : S16x1024.Idx)
    (h0 : (i 0).val = 16 * t.val + (y 0).val) (h1 : (i 1).val = (y 1).val) :
    Value.E4 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y
      = grad (recv m c) i := by
  unfold grad
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)
  · exact recv_block m c t _ _ rfl (by show (i 0).val = 16 * t.val + (0 + 1 * (y 0).val); omega)
      (by show (i 1).val = 0 + 1 * (y 1).val; omega)

theorem first_block (c : Dev nD) (t : Fin cfg0.N) (y : S16x1024.Idx) (i : S16x1024.Idx)
    (h0 : (i 0).val = 16 * t.val + (y 0).val) (h1 : (i 1).val = (y 1).val) :
    out0_6 (F := Ideal) (iblk m c 0 t) (iblk m c 1 t) (iblk m c 2 t) (iblk m c 3 t) y
      = firsts (recv m c) (before1 m c) i := by
  unfold out0_6
  refine (Value.canon6_eq (View.ld (iblk m c 2 t) r0_8)
    (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y).trans ?_
  show first (Value.E4 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y)
    (View.ld (iblk m c 2 t) r0_8 (Value.ix6_0 y)) = _
  rw [grad_block m c t y i h0 h1]
  exact congrArg (first _) (before1_block m c t _ _
    (by show (i 0).val = 16 * t.val + (0 + 1 * (y 0).val); omega) (by show (i 1).val = 0 + 1 * (y 1).val; omega))

theorem second_block (c : Dev nD) (t : Fin cfg0.N) (y : S16x1024.Idx) (i : S16x1024.Idx)
    (h0 : (i 0).val = 16 * t.val + (y 0).val) (h1 : (i 1).val = (y 1).val) :
    out0_7 (F := Ideal) (iblk m c 0 t) (iblk m c 1 t) (iblk m c 2 t) (iblk m c 3 t) y
      = seconds (recv m c) (before2 m c) i := by
  unfold out0_7
  refine (Value.canon7_eq (View.ld (iblk m c 3 t) r0_8)
    (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y).trans ?_
  show second (Value.E4 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y)
    (View.ld (iblk m c 3 t) r0_8 (Value.ix7_0 y)) = _
  rw [grad_block m c t y i h0 h1]
  exact congrArg (second _) (before2_block m c t _ _
    (by show (i 0).val = 16 * t.val + (0 + 1 * (y 0).val); omega) (by show (i 1).val = 0 + 1 * (y 1).val; omega))

theorem change_block (c : Dev nD) (t : Fin cfg0.N) (y : S16x1024.Idx) (i : S16x1024.Idx)
    (h0 : (i 0).val = 16 * t.val + (y 0).val) (h1 : (i 1).val = (y 1).val) :
    out0_5 (F := Ideal) (iblk m c 0 t) (iblk m c 1 t) (iblk m c 2 t) (iblk m c 3 t) y
      = changes (recv m c) (weights m c) (before1 m c) (before2 m c) i := by
  have e0 : (i 0).val = 16 * t.val + (0 + 1 * (y 0).val) := by omega
  have e1 : (i 1).val = 0 + 1 * (y 1).val := by omega
  unfold out0_5
  refine (Value.canon5_eq (View.ld (iblk m c 2 t) r0_8)
    (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7)
    (View.ld (iblk m c 3 t) r0_8) (View.ld (iblk m c 1 t) r0_8) y).trans ?_
  show change (Value.E4 (F := Ideal) (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y)
    (View.ld (iblk m c 1 t) r0_8 (Value.ix5_26 y)) (View.ld (iblk m c 2 t) r0_8 (Value.ix5_0 y))
    (View.ld (iblk m c 3 t) r0_8 (Value.ix5_9 y)) = _
  rw [grad_block m c t y i h0 h1]
  have a1 : View.ld (iblk m c 1 t) r0_8 (Value.ix5_26 y) = weights m c i := weights_block m c t _ _ e0 e1
  have a2 : View.ld (iblk m c 2 t) r0_8 (Value.ix5_0 y) = before1 m c i := before1_block m c t _ _ e0 e1
  have a3 : View.ld (iblk m c 3 t) r0_8 (Value.ix5_9 y) = before2 m c i := before2_block m c t _ _ e0 e1
  rw [a1, a2, a3]
  rfl

theorem grads (c : Dev nD) : (dats m 0 c).arrAt 4 cfg0.N = grad (recv m c) := by
  refine (dats m 0 c).arrAt_eq_of_covers 4 _ (by decide +kernel) fun t hf y => ?_
  blk_simp
  rw [after0_4]
  unfold out0_4
  refine (Value.canon4_eq (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) y).trans ?_
  refine grad_block m c t y _ ?_ ?_
  · have ht : t.val < 1 := t.isLt
    blk_simp; rw [(index_at t).2.2.2.2.1.1]; omega
  · blk_simp; rw [(index_at t).2.2.2.2.1.2]; omega

theorem changed (c : Dev nD) : (dats m 0 c).arrAt 5 cfg0.N = changes (recv m c) (weights m c) (before1 m c) (before2 m c) := by
  refine (dats m 0 c).arrAt_eq_of_covers 5 _ (by decide +kernel) fun t hf y => ?_
  blk_simp
  rw [after0_5]
  refine change_block m c t y _ ?_ ?_
  · have ht : t.val < 1 := t.isLt
    blk_simp; rw [(index_at t).2.2.2.2.2.1.1]; omega
  · blk_simp; rw [(index_at t).2.2.2.2.2.1.2]; omega

theorem after1 (c : Dev nD) : (dats m 0 c).arrAt 6 cfg0.N = firsts (recv m c) (before1 m c) := by
  refine (dats m 0 c).arrAt_eq_of_covers 6 _ (by decide +kernel) fun t hf y => ?_
  blk_simp
  rw [after0_6]
  refine first_block m c t y _ ?_ ?_
  · have ht : t.val < 1 := t.isLt
    blk_simp; rw [(index_at t).2.2.2.2.2.2.1.1]; omega
  · blk_simp; rw [(index_at t).2.2.2.2.2.2.1.2]; omega

theorem after2 (c : Dev nD) : (dats m 0 c).arrAt 7 cfg0.N = seconds (recv m c) (before2 m c) := by
  refine (dats m 0 c).arrAt_eq_of_covers 7 _ (by decide +kernel) fun t hf y => ?_
  blk_simp
  rw [after0_7]
  refine second_block m c t y _ ?_ ?_
  · have ht : t.val < 1 := t.isLt
    blk_simp; rw [(index_at t).2.2.2.2.2.2.2.1]; omega
  · blk_simp; rw [(index_at t).2.2.2.2.2.2.2.2]; omega

/-- The run: the four results are AdamW's step and the arguments stay. -/
theorem run : θ_run defs (onTc (τ := τ) (main (F := Ideal))) ⟨m, fun _ => 0, ρ⟩ fun r => ∀ c : Dev nD,
      r.2.mem ((c : Thread nD τ).loc main_v0_0) = grad (recv m c)
      ∧ r.2.mem ((c : Thread nD τ).loc main_v0_1) = changes (recv m c) (weights m c) (before1 m c) (before2 m c)
      ∧ r.2.mem ((c : Thread nD τ).loc main_v0_2) = firsts (recv m c) (before1 m c)
      ∧ r.2.mem ((c : Thread nD τ).loc main_v0_3) = seconds (recv m c) (before2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (grads m c), (h c).2.1.trans (changed m c),
    (h c).2.2.1.trans (after1 m c), (h c).2.2.2.1.trans (after2 m c), (h c).2.2.2.2⟩) (Value.run_blocks m ρ)

end Cert.Kernel13Ideal.Step

end
-- ==== Proof.Reference13Step.lean ====
/-
  The reference of program "Reference13" computes AdamW's step on the rows of the small parameters, and the kernel of "Kernel13" the same arrays.
-/
module

public import proofs.«01_k».proof.Proof.Kernel13Step
public import proofs.«01_k».proof.Proof.Gen.Reference13Ideal.Run
public import proofs.«01_k».proof.Proof.Gen.Reference13Ideal.Read
public import proofs.«01_k».proof.Defs
public import Idealize.ShloMosaic.Lib.Quiescent

@[expose] public section

noncomputable section

namespace Cert.Reference13Ideal.Step

open Cert.Reference13Ideal Cert.Reference13Ideal.Read Idealize.ShloMosaic Idealize.ShloMosaic.TcCoe Idealize.SL.Sem
open Idealize.ShloMosaic.ValueIdx Cert.Products Cert.Adam

/-- The sum over the sources. -/
theorem stage_grad (x0 : (⟨S8x16x1024, .f32⟩ : BufTy).Contents (Elt Ideal)) : val_main_v0 (F := Ideal) x0 = grad (S := 8) (R := 16) x0 := by
  funext i
  rw [val_main_v0_apply]
  show Ideal.ofBits .f32 0x00000000#32 + _ = _
  rw [Ideal.ofBits_zero_f32, zero_add]
  refine Finset.sum_congr rfl fun k _ => ?_
  exact congrArg x0 (funext fun a => by fin_cases a <;> rfl)

theorem stage_first (x0 : (⟨S8x16x1024, .f32⟩ : BufTy).Contents (Elt Ideal)) (x2 : (⟨S16x1024, .f32⟩ : BufTy).Contents (Elt Ideal)) :
    val_main_v5 (F := Ideal) x0 x2 = firsts (S := 8) (R := 16) x0 x2 := by
  funext i
  rw [val_main_v5_apply, val_main_v2_apply, val_main_v1_apply, val_main_v4_apply, val_main_v3_apply, stage_grad]
  rfl

theorem stage_second (x0 : (⟨S8x16x1024, .f32⟩ : BufTy).Contents (Elt Ideal)) (x3 : (⟨S16x1024, .f32⟩ : BufTy).Contents (Elt Ideal)) :
    val_main_v11 (F := Ideal) x0 x3 = seconds (S := 8) (R := 16) x0 x3 := by
  funext i
  rw [val_main_v11_apply, val_main_v7_apply, val_main_v6_apply, val_main_v10_apply, val_main_v9_apply, val_main_v8_apply,
    stage_grad]
  rfl

theorem stage_change (x0 : (⟨S8x16x1024, .f32⟩ : BufTy).Contents (Elt Ideal)) (x1 x2 x3 : (⟨S16x1024, .f32⟩ : BufTy).Contents (Elt Ideal)) :
    val_main_v24 (F := Ideal) x0 x1 x2 x3 = changes (S := 8) (R := 16) x0 x1 x2 x3 := by
  funext i
  simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, stage_first, stage_second]
  rfl

/-- The run: the four results are AdamW's step and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = grad (S := 8) (R := 16) (m ((c.tc : Thread nD τ).loc main_arg0))
      ∧ r.2.mem ((c.tc : Thread nD τ).loc main_v24) = changes (S := 8) (R := 16) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v5) = firsts (S := 8) (R := 16) (m ((c.tc : Thread nD τ).loc main_arg0))
          (m ((c.tc : Thread nD τ).loc main_arg2))
      ∧ r.2.mem ((c.tc : Thread nD τ).loc main_v11) = seconds (S := 8) (R := 16) (m ((c.tc : Thread nD τ).loc main_arg0))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v0_eq _)).trans (stage_grad _),
    ((h c).2.1.trans (val_main_v24_eq _ _ _ _)).trans (stage_change _ _ _ _),
    ((h c).2.2.1.trans (val_main_v5_eq _ _)).trans (stage_first _ _),
    ((h c).2.2.2.1.trans (val_main_v11_eq _ _)).trans (stage_second _ _), (h c).2.2.2.2⟩) (Value.run m ρ)

/-- The frame: the arguments stay, and there is no semaphore. -/
theorem frame : Cert.quiescent_Reference13Ideal := fun m ρ _ =>
  (θ_run defs _ _).mono (fun r h => ⟨fun c => (h c).2.2.2.2, Idealize.ShloMosaic.sem_eq_zero_of_no_sems (by decide) r.2⟩)
    (run m ρ)

end Cert.Reference13Ideal.Step

namespace Cert.Proof

open Idealize.ShloMosaic Idealize.ShloMosaic.TcCoe Idealize.SL.Sem
open Cert.Kernel13Ideal.Step

/-- Kernel and reference leave the same four results. -/
theorem algebraic13 : Cert.algebraic_Kernel13Ideal_Reference13Ideal := by
  intro m g m' g' _ hm
  refine ⟨fun c => Cert.Adam.grad (recv m c), fun c => Cert.Adam.changes (recv m c) (weights m c) (before1 m c) (before2 m c),
    fun c => Cert.Adam.firsts (recv m c) (before1 m c), fun c => Cert.Adam.seconds (recv m c) (before2 m c),
    Cert.Kernel13Ideal.Step.run m g, ?_⟩
  refine (θ_run _ _ _).mono (fun _ h c => ⟨?_, ?_, ?_, ?_, (h c).2.2.2.2⟩) (Cert.Reference13Ideal.Step.run m' g')
  all_goals obtain ⟨e0, e1, e2, e3⟩ := hm c
  · exact (h c).1.trans (by rw [e0])
  · exact (h c).2.1.trans (by rw [e0, e1, e2, e3])
  · exact (h c).2.2.1.trans (by rw [e0, e2])
  · exact (h c).2.2.2.1.trans (by rw [e0, e3])

end Cert.Proof

end
-- ==== Proof.Kernel14Product.lean ====
/-
  What the kernel of program "Kernel14" computes over the extended reals: the product `a bᵀ`, for `a` of 8704 rows and
  1024 columns and `b` of 128 rows and 1024 columns. Each point computes 1088 rows of the result, whole.
-/
module

public import proofs.«01_k».proof.Proof.Products
public import proofs.«01_k».proof.Proof.Gen.Kernel14Ideal.Value
public import Idealize.ShloMosaic.Lib.Pipeline.ValueKit.Geometry
public import Idealize.ShloMosaic.Lib.Pipeline.ValueKit.Acc

@[expose] public section

noncomputable section

namespace Cert.Kernel14Ideal.Product

open Cert.Kernel14Ideal Cert.Kernel14Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

theorem pay1_apply (x0 : Vec Ideal S1088x1024 .bf16) (x1 : Vec Ideal S128x1024 .bf16) (j : S1088x128.Idx) :
    k0_pay1 (F := Ideal) x0 x1 j = nt (M := 1088) (N := 128) (K := 1024) x0 x1 j := by
  unfold k0_pay1
  exact matmul_nt _ rfl none x0 x1 j

/-- What a point stores: the product of the two blocks it reads, through the running sum it keeps for longer products. -/
theorem out_apply (c : Dev nD) (i : grid0.Coords) (a3 : Memref sig .tc .vmem S1088x1024 .bf16) (h3 : a3.IsWhole)
    (a4 : Memref sig .tc .vmem S128x1024 .bf16) (h4 : a4.IsWhole) (a5 : Memref sig .tc .vmem S1088x128 .f32)
    (h5 : a5.IsWhole) (a6 : Memref sig .tc .vmem S1088x128 .f32) (h6 : a6.IsWhole) (hc0 : cond0_0 i)
    (hc1 : ¬cond0_1 i) (hc2 : cond0_2 i) (x0 : Vec Ideal S1088x1024 .bf16) (x1 : Vec Ideal S128x1024 .bf16)
    (j : S1088x128.Idx) :
    out0_A_2 (F := Ideal) c i a3 h3 a4 h4 a5 h5 a6 h6 hc0 hc1 hc2 x0 x1 j = nt (M := 1088) (N := 128) (K := 1024) x0 x1 j := by
  unfold out0_A_2
  rw [View.read_writes_eq_canon _ _ _ (cover0_A_2 c i a3 h3 a4 h4 a5 h5 a6 h6 hc0 hc1 hc2 x0 x1)]
  unfold kernelRun0_A
  dsimp only
  sl_unfold_words
  rw [View.canon_unit_zero hz, View.readCov_unit_zero (S := S1088x128) _ hz]
  simp only [View.readAt_eq_ld, h3.read_unread, h4.read_unread, View.ld_unit_zero (S := S1088x1024) hz,
    View.ld_unit_zero (S := S128x1024) hz]
  show k0_pay2 (F := Ideal) x0 x1 j = _
  unfold k0_pay2
  rw [shapeCast_self, pay1_apply]

/-- The left matrix. -/
abbrev lhs (c : Dev nD) : (Mat 8704 1024).Idx → EReal := m ((c : Thread nD τ).loc main_arg0)
/-- The right matrix. -/
abbrev rhs (c : Dev nD) : (Mat 128 1024).Idx → EReal := m ((c : Thread nD τ).loc main_arg1)
/-- Which blocks a point reads and writes. -/
theorem index_at : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  decide +kernel

theorem lhs_block (c : Dev nD) (t : Fin cfg0.N) (r : Fin 1088) (p : Fin 1024) (i : S8704x1024.Idx)
    (hi0 : (i 0).val = 1088 * t.val + r.val) (hi1 : (i 1).val = p.val) :
    (iblk m c 0 t : Vec Ideal S1088x1024 .bf16) (ix2 (n0 := 1088) (n1 := 1024) r p) = lhs m c i := by
  unfold iblk
  rw [View.read_apply]
  show V m c main_arg0 _ = m (c.tc.loc main_arg0) _
  unfold V
  congr 1
  funext a
  apply Fin.ext
  match a with
  | ⟨0, _⟩ => show win0_0.index t 0 * 1088 + 1 * r.val = (i 0).val; rw [(index_at t).1.1, hi0]; omega
  | ⟨1, _⟩ => show win0_0.index t 1 * 1024 + 1 * p.val = (i 1).val; rw [(index_at t).1.2, hi1]; omega

theorem rhs_block (c : Dev nD) (t : Fin cfg0.N) (r : Fin 128) (p : Fin 1024) (i : S128x1024.Idx)
    (hi0 : (i 0).val = r.val) (hi1 : (i 1).val = p.val) :
    (iblk m c 1 t : Vec Ideal S128x1024 .bf16) (ix2 (n0 := 128) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 128 + 1 * r.val = (i 0).val; rw [(index_at t).2.1.1, hi0]; omega
  | ⟨1, _⟩ => show win0_1.index t 1 * 1024 + 1 * p.val = (i 1).val; rw [(index_at t).2.1.2, hi1]; omega

/-- The product of a point's two blocks is a block of the whole product. -/
theorem block_eq (c : Dev nD) (t : Fin cfg0.N) (y : S1088x128.Idx) (i : (Mat 8704 128).Idx)
    (e0 : (i 0).val = 1088 * t.val + (y 0).val) (e1 : (i 1).val = (y 1).val) :
    nt (M := 1088) (N := 128) (K := 1024) (iblk m c 0 t) (iblk m c 1 t) y = nt (lhs m c) (rhs m c) i := by
  refine Finset.sum_congr rfl fun k _ => congrArg₂ (· * ·) ?_ ?_
  · exact lhs_block m c t (y 0) k _ e0 rfl
  · exact rhs_block m c t (y 1) k _ e1 rfl

/-- The result array is the whole product. -/
theorem final (c : Dev nD) : (dats m 0 c).arrAt 2 cfg0.N = nt (lhs m c) (rhs m c) := by
  refine (dats m 0 c).arrAt_eq_of_covers 2 _ (by decide +kernel) fun t hf y => ?_
  blk_simp
  rw [after0_2]
  unfold outsAt0
  rw [out_apply]
  refine block_eq m c t y _ ?_ ?_
  · blk_simp; rw [(index_at t).2.2.1]; omega
  · blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = nt (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel14Ideal.Product

end
-- ==== Proof.Reference14Product.lean ====
/-
  The reference of program "Reference14" computes `a bᵀ`, and the kernel of "Kernel14" the same array.
-/
module

public import proofs.«01_k».proof.Proof.Kernel14Product
public import proofs.«01_k».proof.Proof.Gen.Reference14Ideal.Run
public import proofs.«01_k».proof.Proof.Gen.Reference14Ideal.Read
public import proofs.«01_k».proof.Defs
public import Idealize.ShloMosaic.Lib.Quiescent

@[expose] public section

noncomputable section

namespace Cert.Reference14Ideal.Product

open Cert.Reference14Ideal Cert.Reference14Ideal.Read Idealize.ShloMosaic Idealize.ShloMosaic.TcCoe Idealize.SL.Sem
open Idealize.ShloMosaic.ValueIdx Cert.Products

/-- The reference's last stage is the product. -/
theorem stage_eq (x0 : (⟨S8704x1024, .bf16⟩ : BufTy).Contents (Elt Ideal)) (x1 : (⟨S128x1024, .bf16⟩ : BufTy).Contents (Elt Ideal)) :
    val_main_v3 (F := Ideal) x0 x1 = nt (M := 8704) (N := 128) (K := 1024) x0 x1 := by
  funext i
  rw [val_main_v3_apply]
  refine Finset.sum_congr rfl fun k _ => ?_
  refine congrArg₂ (· * ·) ?_ ?_
  · exact congrArg x0 (funext fun a => by fin_cases a <;> rfl)
  · exact (val_main_v2_apply ..).trans <| congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
          = nt (M := 8704) (N := 128) (K := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v3_eq _ _)).trans (stage_eq _ _), (h c).2⟩) (Value.run m ρ)

/-- The frame: the arguments stay, and there is no semaphore. -/
theorem frame : Cert.quiescent_Reference14Ideal := fun m ρ _ =>
  (θ_run defs _ _).mono (fun r h => ⟨fun c => (h c).2, Idealize.ShloMosaic.sem_eq_zero_of_no_sems (by decide) r.2⟩) (run m ρ)

end Cert.Reference14Ideal.Product

namespace Cert.Proof

open Idealize.ShloMosaic Idealize.ShloMosaic.TcCoe Idealize.SL.Sem

/-- Kernel and reference leave the same result. -/
theorem algebraic14 : Cert.algebraic_Kernel14Ideal_Reference14Ideal := by
  intro m g m' g' _ hm
  refine ⟨fun c => Cert.Products.nt (Cert.Kernel14Ideal.Product.lhs m c) (Cert.Kernel14Ideal.Product.rhs m c), Cert.Kernel14Ideal.Product.run m g, ?_⟩
  refine (θ_run _ _ _).mono (fun _ h c => ⟨?_, (h c).2⟩) (Cert.Reference14Ideal.Product.run m' g')
  obtain ⟨e0, e1⟩ := hm c
  refine (h c).1.trans ?_
  rw [e0, e1]

end Cert.Proof

end
-- ==== Proof.Kernel15Product.lean ====
/-
  What the kernel of program "Kernel15" computes over the extended reals: the whole of `aᵀ b`, for `a` of 8704 rows and
  128 columns and `b` of 8704 rows and 1024 columns. There are eight points, one for each 1088 rows: the first stores the
  product over its rows, and each later one adds its own to what is there.
-/
module

public import proofs.«01_k».proof.Proof.Products
public import proofs.«01_k».proof.Proof.Gen.Kernel15Ideal.Value
public import Idealize.ShloMosaic.Lib.Pipeline.ValueKit.Geometry

@[expose] public section

noncomputable section

namespace Cert.Kernel15Ideal.Product

open Cert.Kernel15Ideal Cert.Kernel15Ideal.Gen Idealize.ShloMosaic Idealize.ShloMosaic.TcCoe Idealize.SL.Sem
open Idealize.ShloMosaic.Pipeline (Dat)
open Idealize.ShloMosaic.ValueIdx Cert.Products

variable (m : (ℓ : Loc nD τ sig) → Buf (Elt Ideal) ℓ) (ρ : Dev nD → PrngReg)

theorem hz : (![0, 0] : Fin 2 → Nat) = fun _ => 0 := funext fun a => by fin_cases a <;> rfl

/-- The first point stores the product of the two blocks it reads. -/
theorem out_first (c : Dev nD) (i : grid0.Coords) (a3 : Memref sig .tc .vmem S1088x128 .bf16) (h3 : a3.IsWhole)
    (a4 : Memref sig .tc .vmem S1088x1024 .bf16) (h4 : a4.IsWhole) (a5 : Memref sig .tc .vmem S128x1024 .f32)
    (h5 : a5.IsWhole) (hc0 : cond0_0 i) (hc1 : ¬cond0_1 i) (x0 : Vec Ideal S1088x128 .bf16) (x1 : Vec Ideal S1088x1024 .bf16) :
    out0_A_2 (F := Ideal) c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1088x128) hz, View.ld_unit_zero (S := S1088x1024) hz]

/-- Each later one adds its own product to what is there. -/
theorem out_second (c : Dev nD) (i : grid0.Coords) (a3 : Memref sig .tc .vmem S1088x128 .bf16) (h3 : a3.IsWhole)
    (a4 : Memref sig .tc .vmem S1088x1024 .bf16) (h4 : a4.IsWhole) (a5 : Memref sig .tc .vmem S128x1024 .f32)
    (h5 : a5.IsWhole) (hc0 : ¬cond0_0 i) (hc1 : cond0_1 i) (x0 : Vec Ideal S1088x128 .bf16) (x1 : Vec Ideal S1088x1024 .bf16)
    (xo : Vec Ideal S128x1024 .f32) :
    out0_B_2 (F := Ideal) c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1088x128) hz, View.ld_unit_zero (S := S1088x1024) hz,
    View.ld_unit_zero (S := S128x1024) hz]

theorem pay1_apply (x0 : Vec Ideal S1088x128 .bf16) (x1 : Vec Ideal S1088x1024 .bf16) (j : S128x1024.Idx) :
    k0_pay1 (F := Ideal) x0 x1 j = tn (K := 1088) (M := 128) (N := 1024) x0 x1 j := by
  unfold k0_pay1
  exact matmul_tn _ rfl none x0 x1 j

theorem pay2_apply (x0 : Vec Ideal S1088x128 .bf16) (x1 : Vec Ideal S1088x1024 .bf16) (xo : Vec Ideal S128x1024 .f32) (j : S128x1024.Idx) :
    k0_pay2 (F := Ideal) x0 x1 xo j = xo j + tn (K := 1088) (M := 128) (N := 1024) x0 x1 j := by
  unfold k0_pay2
  rw [shapeCast_self]
  show xo j + k0_pay1 (F := Ideal) x0 x1 j = _
  rw [pay1_apply]

/-- The left matrix. -/
abbrev lhs (c : Dev nD) : (Mat 8704 128).Idx → EReal := m ((c : Thread nD τ).loc main_arg0)
/-- The right matrix. -/
abbrev rhs (c : Dev nD) : (Mat 8704 1024).Idx → EReal := m ((c : Thread nD τ).loc main_arg1)

/-- Which blocks a point reads and writes. -/
theorem index_at : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0) := by
  decide +kernel

theorem lhs_block (c : Dev nD) (t : Fin cfg0.N) (r : Fin 1088) (p : Fin 128) (i : S8704x128.Idx)
    (hi0 : (i 0).val = 1088 * t.val + r.val) (hi1 : (i 1).val = p.val) :
    (iblk m c 0 t : Vec Ideal S1088x128 .bf16) (ix2 (n0 := 1088) (n1 := 128) r p) = lhs m c i := by
  unfold iblk
  rw [View.read_apply]
  show V m c main_arg0 _ = m (c.tc.loc main_arg0) _
  unfold V
  congr 1
  funext a
  apply Fin.ext
  match a with
  | ⟨0, _⟩ => show win0_0.index t 0 * 1088 + 1 * r.val = (i 0).val; rw [(index_at t).1.1, hi0]; omega
  | ⟨1, _⟩ => show win0_0.index t 1 * 128 + 1 * p.val = (i 1).val; rw [(index_at t).1.2, hi1]; omega

theorem rhs_block (c : Dev nD) (t : Fin cfg0.N) (r : Fin 1088) (p : Fin 1024) (i : S8704x1024.Idx)
    (hi0 : (i 0).val = 1088 * t.val + r.val) (hi1 : (i 1).val = p.val) :
    (iblk m c 1 t : Vec Ideal S1088x1024 .bf16) (ix2 (n0 := 1088) (n1 := 1024) r p) = rhs m c i := by
  unfold iblk
  rw [View.read_apply]
  show V m c main_arg1 _ = m (c.tc.loc main_arg1) _
  unfold V
  congr 1
  funext a
  apply Fin.ext
  match a with
  | ⟨0, _⟩ => show win0_1.index t 0 * 1088 + 1 * r.val = (i 0).val; rw [(index_at t).2.1.1, hi0]; omega
  | ⟨1, _⟩ => show win0_1.index t 1 * 1024 + 1 * p.val = (i 1).val; rw [(index_at t).2.1.2, hi1]; omega

/-- The term of row `n` in the sum at an index of the product; zero past the last row. -/
def term (c : Dev nD) (j : S128x1024.Idx) (n : ℕ) : EReal :=
  if h : n < 8704 then lhs m c (ix2 (n0 := 8704) (n1 := 128) ⟨n, h⟩ (j 0)) * rhs m c (ix2 (n0 := 8704) (n1 := 1024) ⟨n, h⟩ (j 1))
  else 0

/-- What a point adds: the terms of its 1088 rows. -/
theorem part_eq (c : Dev nD) (t : Fin cfg0.N) (j : S128x1024.Idx) :
    tn (K := 1088) (M := 128) (N := 1024) (iblk m c 0 t) (iblk m c 1 t) j
      = ∑ r ∈ Finset.range 1088, term m c j (1088 * t.val + r) := by
  have hN : t.val < 8 := lt_of_lt_of_eq t.isLt (show cfg0.N = 8 from N_0)
  rw [← Fin.sum_univ_eq_sum_range (fun r => term m c j (1088 * t.val + r)) 1088]
  refine Finset.sum_congr rfl fun r _ => ?_
  have hr := r.isLt
  have h : 1088 * t.val + r.val < 8704 := by omega
  refine Eq.trans ?_ (dif_pos h).symm
  exact congrArg₂ (· * ·) (lhs_block m c t r (j 0) _ rfl rfl) (rhs_block m c t r (j 1) _ rfl rfl)

/-- What stands after point `n`: the terms of all the rows read so far. -/
theorem outs_eq (c : Dev nD) (j : S128x1024.Idx) : ∀ (n : ℕ) (hn : n < cfg0.N),
    outsAt0 m c n hn j = ∑ r ∈ Finset.range (1088 * (n + 1)), term m c j r
  | 0, hn => by
    have hs : outsAt0 m c 0 hn = _ := outsAt0_A m c ⟨0, hn⟩ (Nat.zero_mod _) (Nat.not_succ_le_zero 0)
    rw [hs, out_first, pay1_apply, part_eq]
    refine Finset.sum_congr rfl fun r _ => ?_
    show term m c j (1088 * 0 + r) = _
    rw [Nat.mul_zero, Nat.zero_add]
  | n + 1, hn => by
    have hN : n + 1 < 8 := lt_of_lt_of_eq hn (show cfg0.N = 8 from N_0)
    have hs : outsAt0 m c (n + 1) hn = _ := outsAt0_B m c ⟨n + 1, hn⟩ (by show ¬(n + 1) % 8 = 0; omega) (Nat.succ_pos n)
    rw [hs, out_second, pay2_apply, part_eq]
    have ih := outs_eq c j n (Nat.lt_of_succ_lt hn)
    rw [show 1088 * (n + 1 + 1) = 1088 * (n + 1) + 1088 from rfl, Finset.sum_range_add, ← ih]
    rfl

/-- After the last point it is the whole product. -/
theorem outs_last (c : Dev nD) (t : Fin cfg0.N) (h7 : t.val = 7) (j : S128x1024.Idx) :
    outsAt0 m c t.val t.isLt j = tn (lhs m c) (rhs m c) j := by
  rw [outs_eq, h7]
  show ∑ r ∈ Finset.range 8704, term m c j r = _
  rw [← Fin.sum_univ_eq_sum_range (fun r => term m c j r) 8704]
  exact Finset.sum_congr rfl fun r _ => dif_pos r.isLt

/-- The result array is the whole product: the last point alone writes it back, whole. -/
theorem final (c : Dev nD) : (dats m 0 c).arrAt 2 cfg0.N = tn (lhs m c) (rhs m c) := by
  refine (dats m 0 c).arrAt_eq_of_covers 2 _ (by decide +kernel) fun t hf y => ?_
  have hN : t.val < 8 := lt_of_lt_of_eq t.isLt (show cfg0.N = 8 from N_0)
  have h7 : t.val % 8 = 7 := (flush0_2 t).mp hf
  blk_simp
  rw [after0_2]
  refine (outs_last m c t (by omega) y).trans (congrArg (tn (lhs m c) (rhs m c)) ?_)
  funext a
  apply Fin.ext
  match a with
  | ⟨0, _⟩ => blk_simp; rw [(index_at t).2.2.1]; omega
  | ⟨1, _⟩ => blk_simp; rw [(index_at t).2.2.2]; omega

/-- The run: the result is the whole product and the arguments stay. -/
theorem run : θ_run defs (onTc (τ := τ) (main (F := Ideal))) ⟨m, fun _ => 0, ρ⟩ fun r => ∀ c : Dev nD,
      r.2.mem ((c : Thread nD τ).loc main_v0) = tn (lhs m c) (rhs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel15Ideal.Product

end
-- ==== Proof.Reference15Product.lean ====
/-
  The reference of program "Reference15" computes `aᵀ b`, as the derivative of `b wᵀ` in `w`, and the kernel of "Kernel15" the
  same array.
-/
module

public import proofs.«01_k».proof.Proof.Kernel15Product
public import proofs.«01_k».proof.Proof.Gen.Reference15Ideal.Run
public import proofs.«01_k».proof.Proof.Gen.Reference15Ideal.Read
public import proofs.«01_k».proof.Defs
public import Idealize.ShloMosaic.Lib.Quiescent

@[expose] public section

noncomputable section

namespace Cert.Reference15Ideal.Product

open Cert.Reference15Ideal Cert.Reference15Ideal.Read Idealize.ShloMosaic Idealize.ShloMosaic.TcCoe Idealize.SL.Sem
open Idealize.ShloMosaic.ValueIdx Cert.Products

/-- The reference's last stage is the product. -/
theorem stage_eq (x0 : (⟨S8704x128, .bf16⟩ : BufTy).Contents (Elt Ideal)) (x1 : (⟨S8704x1024, .bf16⟩ : BufTy).Contents (Elt Ideal)) :
    val_main_v7 (F := Ideal) x0 x1 = tn (M := 128) (N := 1024) (K := 8704) x0 x1 := by
  funext i
  rw [val_main_v7_apply, val_main_v6_apply, val_main_v5_apply]
  refine Finset.sum_congr rfl fun k _ => ?_
  refine congrArg₂ (· * ·) ?_ ?_
  · exact congrArg x0 (funext fun a => by fin_cases a <;> rfl)
  · exact congrArg x1 (funext fun a => by fin_cases a <;> rfl)

/-- The run: the result is the product and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
          = tn (M := 128) (N := 1024) (K := 8704) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1.trans (val_main_v7_eq _ _)).trans (stage_eq _ _), (h c).2⟩) (Value.run m ρ)

/-- The frame: the arguments stay, and there is no semaphore. -/
theorem frame : Cert.quiescent_Reference15Ideal := fun m ρ _ =>
  (θ_run defs _ _).mono (fun r h => ⟨fun c => (h c).2, Idealize.ShloMosaic.sem_eq_zero_of_no_sems (by decide) r.2⟩) (run m ρ)

end Cert.Reference15Ideal.Product

namespace Cert.Proof

open Idealize.ShloMosaic Idealize.ShloMosaic.TcCoe Idealize.SL.Sem

/-- Kernel and reference leave the same result. -/
theorem algebraic15 : Cert.algebraic_Kernel15Ideal_Reference15Ideal := by
  intro m g m' g' _ hm
  refine ⟨fun c => Cert.Products.tn (Cert.Kernel15Ideal.Product.lhs m c) (Cert.Kernel15Ideal.Product.rhs m c), Cert.Kernel15Ideal.Product.run m g, ?_⟩
  refine (θ_run _ _ _).mono (fun _ h c => ⟨?_, (h c).2⟩) (Cert.Reference15Ideal.Product.run m' g')
  obtain ⟨e0, e1⟩ := hm c
  refine (h c).1.trans ?_
  rw [e0, e1]

end Cert.Proof

end
-- ==== Proof.Kernel16Step.lean ====
/-
  What the kernel of program "Kernel16" computes over the extended reals: `σ(u + b₁) p + σ(v + b₂) s`, where `u` and `v` are
  the columns 4096 to 5119 and 5120 to 6143 of the projection, `b₁` and `b₂` the halves of the bias and `σ` the logistic
  function. Each point computes 512 positions of one example, whole.
-/
module

public import proofs.«01_k».proof.Proof.Gen.Kernel16Ideal.Value
public import Idealize.ShloMosaic.Lib.Pipeline.ValueKit.Geometry
public import Idealize.ShloMosaic.Lib.Pipeline.ValueKit.Acc
public import Idealize.ShloMosaic.Lib.KernelVsHost
public import Idealize.ShloMosaic.Lib.IdealHost
public import Idealize.ShloMosaic.Lib.ValueLayout

@[expose] public section

noncomputable section

namespace Cert.Kernel16Ideal.Step

open Cert.Kernel16Ideal Cert.Kernel16Ideal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The logistic function `1 / (1 + e⁻ˣ)`. -/
def logistic (x : EReal) : EReal := Ideal.div 1 (1 + Ideal.exp (-x))

/-- The merged value at one place: two inputs, each behind its gate. -/
def gated (u b1 p v b2 s : EReal) : EReal := logistic (u + b1) * p + logistic (v + b2) * s

theorem hz2 : (![0, 0] : Fin 2 → Nat) = fun _ => 0 := funext fun a => by fin_cases a <;> rfl
theorem hz3 : (![0, 0, 0] : Fin 3 → Nat) = fun _ => 0 := funext fun a => by fin_cases a <;> rfl

/-- Column `q` of the second half. -/
abbrev up (q : Fin 1024) : Fin 2048 := ⟨1024 + q.val, by have := q.isLt; omega⟩
/-- Column `q` of the first half. -/
abbrev lo (q : Fin 1024) : Fin 2048 := ⟨q.val, by have := q.isLt; omega⟩

/-- A block of one example's rows, read as a matrix. -/
theorem dropUnit {a b : ℕ} (x : (⟨3, ![1, a, b]⟩ : Shape).Idx → EReal) (h : (⟨3, ![1, a, b]⟩ : Shape).ShapeCasts ⟨2, ![a, b]⟩)
    (r : Fin a) (q : Fin b) : shapeCast ⟨2, ![a, b]⟩ x h (ix2 r q) = x (ix3 (n0 := 1) 0 r q) := by
  refine (shapeCast_dropUnit_apply ![a, b] x h (ix2 r q)).trans (congrArg x (funext fun k => ?_))
  match k with
  | ⟨0, _⟩ => rfl
  | ⟨1, _⟩ => rfl
  | ⟨2, _⟩ => rfl

/-- The gate at a place of a block. -/
theorem gate_apply (x0 : Vec Ideal S1x512x2048 .bf16) (x3 : Vec Ideal S1x2048 .f32) (r : Fin 512) (q : Fin 2048) :
    divf (broadcast S512x2048 (Scalar.ofBits (F := Ideal) .f32 0x3F800000#32))
      (addf (broadcast S512x2048 (Scalar.ofBits (F := Ideal) .f32 0x3F800000#32))
        (exp (subf (broadcast S512x2048 (Scalar.ofBits (F := Ideal) .f32 0x00000000#32))
          (addf (extf .f32 (shapeCast S512x2048 x0 shapeCasts_S1x512x2048_S512x2048) bitsLt_bf16_f32)
            (broadcastTo S512x2048 x3 broadcasts_S1x2048_S512x2048))))) (ix2 r q)
      = logistic (x0 (ix3 (n0 := 1) 0 r q) + x3 (ix2 (n0 := 1) 0 q)) := by
  show Ideal.div (Ideal.ofBits .f32 0x3F800000#32) (Ideal.ofBits .f32 0x3F800000#32
      + Ideal.exp (Ideal.ofBits .f32 0x00000000#32
        - (shapeCast S512x2048 x0 shapeCasts_S1x512x2048_S512x2048 (ix2 r q)
          + broadcastTo S512x2048 x3 broadcasts_S1x2048_S512x2048 (ix2 r q)))) = _
  have e0 : shapeCast S512x2048 x0 shapeCasts_S1x512x2048_S512x2048 (ix2 r q) = x0 (ix3 (n0 := 1) 0 r q) := dropUnit x0 _ r q
  have e3 : broadcastTo S512x2048 x3 broadcasts_S1x2048_S512x2048 (ix2 r q) = x3 (ix2 (n0 := 1) 0 q) :=
    broadcastTo_1b_ab_apply x3 _ r q
  rw [e0, e3, Ideal.ofBits_one_f32, Ideal.ofBits_zero_f32, zero_sub]
  rfl

theorem pay_apply (x0 : Vec Ideal S1x512x2048 .bf16) (x3 : Vec Ideal S1x2048 .f32) (x1 x2 : Vec Ideal S1x512x1024 .bf16)
    (y : S1x512x1024.Idx) :
    k0_pay1 (F := Ideal) x0 x3 x1 x2 y
      = gated (x0 (ix3 (n0 := 1) 0 (y 1) (lo (y 2)))) (x3 (ix2 (n0 := 1) 0 (lo (y 2)))) (x1 (ix3 (n0 := 1) 0 (y 1) (y 2)))
          (x0 (ix3 (n0 := 1) 0 (y 1) (up (y 2)))) (x3 (ix2 (n0 := 1) 0 (up (y 2)))) (x2 (ix3 (n0 := 1) 0 (y 1) (y 2))) := by
  unfold k0_pay1
  refine (shapeCast_addUnit_apply ![512, 1024] _ _ y).trans ?_
  have ey : (fun a : Fin 2 => y a.succ) = ix2 (n0 := 512) (n1 := 1024) (y 1) (y 2) := by
    funext k
    match k with
    | ⟨0, _⟩ => rfl
    | ⟨1, _⟩ => rfl
  rw [ey]
  unfold gated
  refine congrArg₂ (fun a b : EReal => a + b) (congrArg₂ (fun a b : EReal => a * b) ?_ ?_)
    (congrArg₂ (fun a b : EReal => a * b) ?_ ?_)
  · refine (extractStridedSlice_apply _ _ _ _ (ix2 (n0 := 512) (n1 := 2048) (y 1) (lo (y 2))) fun a => ?_).trans (gate_apply x0 x3 _ _)
    match a with
    | ⟨0, _⟩ => exact (Nat.zero_add _).symm
    | ⟨1, _⟩ => exact (Nat.zero_add _).symm
  · exact dropUnit x1 _ _ _
  · refine (extractStridedSlice_apply _ _ _ _ (ix2 (n0 := 512) (n1 := 2048) (y 1) (up (y 2))) fun a => ?_).trans (gate_apply x0 x3 _ _)
    match a with
    | ⟨0, _⟩ => exact (Nat.zero_add _).symm
    | ⟨1, _⟩ => rfl
  · exact dropUnit x2 _ _ _

/-- What a point stores. -/
theorem out_apply (c : Dev nD) (i : grid0.Coords) (a2 : Memref sig .tc .vmem S1x512x2048 .bf16) (h2 : a2.IsWhole)
    (a3 : Memref sig .tc .vmem S1x512x1024 .bf16) (h3 : a3.IsWhole) (a4 : Memref sig .tc .vmem S1x512x1024 .bf16)
    (h4 : a4.IsWhole) (a5 : Memref sig .tc .vmem S1x2048 .f32) (h5 : a5.IsWhole)
    (a6 : Memref sig .tc .vmem S1x512x1024 .bf16) (h6 : a6.IsWhole)
    (x0 : Vec Ideal S1x512x2048 .bf16) (x1 x2 : Vec Ideal S1x512x1024 .bf16) (x3 : Vec Ideal S1x2048 .f32) :
    out0_A_4 (F := Ideal) c i a2 h2 a3 h3 a4 h4 a5 h5 a6 h6 x0 x1 x2 x3 = k0_pay1 x0 x3 x1 x2 := by
  unfold out0_A_4
  rw [View.read_writes_eq_canon _ _ _ (cover0_A_4 c i a2 h2 a3 h3 a4 h4 a5 h5 a6 h6 x0 x1 x2 x3)]
  unfold kernelRun0_A
  dsimp only
  rw [View.canon_unit_zero hz3]
  simp only [View.readAt_eq_ld, h2.read_unread, h3.read_unread, h4.read_unread, h5.read_unread,
    View.ld_unit_zero (S := S1x512x2048) hz3, View.ld_unit_zero (S := S1x512x1024) hz3, View.ld_unit_zero (S := S1x2048) hz2]

/-- The projection, the pooled and the scanned input, and the bias of the gates. -/
abbrev proj (c : Dev nD) : S2x4352x9216.Idx → EReal := m ((c : Thread nD τ).loc main_arg0)
abbrev pooled (c : Dev nD) : S2x4096x1024.Idx → EReal := m ((c : Thread nD τ).loc main_arg1)
abbrev scanned (c : Dev nD) : S2x4096x1024.Idx → EReal := m ((c : Thread nD τ).loc main_arg2)
abbrev bias (c : Dev nD) : S1x2048.Idx → EReal := m ((c : Thread nD τ).loc main_arg3)

/-- Where the gate of a place stands in the projection: `o` columns after the place's own. -/
abbrev at_ (i : S2x4096x1024.Idx) (o : ℕ) (ho : o ≤ 8192) : S2x4352x9216.Idx :=
  ix3 (n0 := 2) (n1 := 4352) (n2 := 9216) (i 0) ⟨(i 1).val, lt_trans (i 1).isLt (by decide)⟩
    ⟨o + (i 2).val, by have : (i 2).val < 1024 := (i 2).isLt; omega⟩

/-- The merged array. -/
def merged (x0 : S2x4352x9216.Idx → EReal) (x1 x2 : S2x4096x1024.Idx → EReal) (x3 : S1x2048.Idx → EReal) :
    S2x4096x1024.Idx → EReal := fun i =>
  gated (x0 (at_ i 4096 (by decide))) (x3 (ix2 (n0 := 1) 0 (lo (i 2)))) (x1 i)
    (x0 (at_ i 5120 (by decide))) (x3 (ix2 (n0 := 1) 0 (up (i 2)))) (x2 i)

/-- Which blocks a point reads and writes. -/
theorem index_at : ∀ t : Fin cfg0.N,
    (win0_0.index t 0 = t.val / 8 ∧ win0_0.index t 1 = t.val % 8 ∧ win0_0.index t 2 = 2)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = 0 ∧ win0_3.index t 1 = 0)
    ∧ (win0_4.index t 0 = t.val / 8 ∧ win0_4.index t 1 = t.val % 8 ∧ win0_4.index t 2 = 0) := by
  decide +kernel

theorem block_0 (c : Dev nD) (t : Fin cfg0.N) (r : Fin 512) (q : Fin 2048) (i : S2x4352x9216.Idx)
    (h0 : (i 0).val = t.val / 8) (h1 : (i 1).val = 512 * (t.val % 8) + r.val) (h2 : (i 2).val = 4096 + q.val) :
    (X0_0 m c t : Vec Ideal S1x512x2048 .bf16) (ix3 (n0 := 1) 0 r q) = proj m c i := by
  unfold X0_0 Pipeline.Window.fill
  rw [dif_pos (moved0_0 t _)]
  unfold iblk
  rw [View.read_apply]
  show V m c main_arg0 _ = m (c.tc.loc main_arg0) _
  unfold V
  congr 1
  funext a
  apply Fin.ext
  match a with
  | ⟨0, _⟩ => show win0_0.index t 0 * 1 + 1 * 0 = (i 0).val; rw [(index_at t).1.1, h0]; omega
  | ⟨1, _⟩ => show win0_0.index t 1 * 512 + 1 * r.val = (i 1).val; rw [(index_at t).1.2.1, h1]; omega
  | ⟨2, _⟩ => show win0_0.index t 2 * 2048 + 1 * q.val = (i 2).val; rw [(index_at t).1.2.2, h2]; omega

theorem block_1 (c : Dev nD) (t : Fin cfg0.N) (r : Fin 512) (q : Fin 1024) (i : S2x4096x1024.Idx)
    (h0 : (i 0).val = t.val / 8) (h1 : (i 1).val = 512 * (t.val % 8) + r.val) (h2 : (i 2).val = q.val) :
    (iblk m c 1 t : Vec Ideal S1x512x1024 .bf16) (ix3 (n0 := 1) 0 r q) = pooled m c i := by
  unfold iblk
  rw [View.read_apply]
  show V m c main_arg1 _ = m (c.tc.loc main_arg1) _
  unfold V
  congr 1
  funext a
  apply Fin.ext
  match a with
  | ⟨0, _⟩ => show win0_1.index t 0 * 1 + 1 * 0 = (i 0).val; rw [(index_at t).2.1.1, h0]; omega
  | ⟨1, _⟩ => show win0_1.index t 1 * 512 + 1 * r.val = (i 1).val; rw [(index_at t).2.1.2.1, h1]; omega
  | ⟨2, _⟩ => show win0_1.index t 2 * 1024 + 1 * q.val = (i 2).val; rw [(index_at t).2.1.2.2, h2]; omega

theorem block_2 (c : Dev nD) (t : Fin cfg0.N) (r : Fin 512) (q : Fin 1024) (i : S2x4096x1024.Idx)
    (h0 : (i 0).val = t.val / 8) (h1 : (i 1).val = 512 * (t.val % 8) + r.val) (h2 : (i 2).val = q.val) :
    (iblk m c 2 t : Vec Ideal S1x512x1024 .bf16) (ix3 (n0 := 1) 0 r q) = scanned m c i := by
  unfold iblk
  rw [View.read_apply]
  show V m c main_arg2 _ = m (c.tc.loc main_arg2) _
  unfold V
  congr 1
  funext a
  apply Fin.ext
  match a with
  | ⟨0, _⟩ => show win0_2.index t 0 * 1 + 1 * 0 = (i 0).val; rw [(index_at t).2.2.1.1, h0]; omega
  | ⟨1, _⟩ => show win0_2.index t 1 * 512 + 1 * r.val = (i 1).val; rw [(index_at t).2.2.1.2.1, h1]; omega
  | ⟨2, _⟩ => show win0_2.index t 2 * 1024 + 1 * q.val = (i 2).val; rw [(index_at t).2.2.1.2.2, h2]; omega

theorem block_3 (c : Dev nD) (t : Fin cfg0.N) (q : Fin 2048) :
    (iblk m c 3 t : Vec Ideal S1x2048 .f32) (ix2 (n0 := 1) 0 q) = bias m c (ix2 (n0 := 1) 0 q) := by
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [(index_at t).2.2.2.1.1]
  | ⟨1, _⟩ => show win0_3.index t 1 * 2048 + 1 * q.val = q.val; rw [(index_at t).2.2.2.1.2]; omega

/-- What a point stores is the merged array, at its own places. -/
theorem block_eq (c : Dev nD) (t : Fin cfg0.N) (y : S1x512x1024.Idx) (i : S2x4096x1024.Idx)
    (h0 : (i 0).val = t.val / 8) (h1 : (i 1).val = 512 * (t.val % 8) + (y 1).val) (h2 : (i 2).val = (y 2).val) :
    outsAt0 m c t y = merged (proj m c) (pooled m c) (scanned m c) (bias m c) i := by
  unfold outsAt0
  rw [out_apply, pay_apply]
  unfold merged
  have e2 : y 2 = i 2 := Fin.ext h2.symm
  have eu := block_0 m c t (y 1) (lo (y 2)) (at_ i 4096 (by decide)) h0 h1 (by show 4096 + (i 2).val = 4096 + (y 2).val; omega)
  have ev := block_0 m c t (y 1) (up (y 2)) (at_ i 5120 (by decide)) h0 h1 (by show 5120 + (i 2).val = 4096 + (1024 + (y 2).val); omega)
  have ep := block_1 m c t (y 1) (y 2) i h0 h1 h2
  have es := block_2 m c t (y 1) (y 2) i h0 h1 h2
  have e3 := block_3 m c t (lo (y 2))
  have e4 := block_3 m c t (up (y 2))
  rw [eu, ev, ep, es, e3, e4, e2]

/-- The result array is the merged array. -/
theorem final (c : Dev nD) : (dats m 0 c).arrAt 4 cfg0.N = merged (proj m c) (pooled m c) (scanned m c) (bias m c) := by
  refine (dats m 0 c).arrAt_eq_of_covers 4 _ (by decide +kernel) fun t hf y => ?_
  have y0 : (y 0).val < 1 := (y 0).isLt
  blk_simp
  rw [after0_4]
  refine block_eq m c t y _ ?_ ?_ ?_
  · blk_simp; rw [(index_at t).2.2.2.2.1]
  · blk_simp; rw [(index_at t).2.2.2.2.2.1]; omega
  · blk_simp; rw [(index_at t).2.2.2.2.2.2]; omega

/-- The run: the result is the merged array and the arguments stay. -/
theorem run : θ_run defs (onTc (τ := τ) (main (F := Ideal))) ⟨m, fun _ => 0, ρ⟩ fun r => ∀ c : Dev nD,
      r.2.mem ((c : Thread nD τ).loc main_v0) = merged (proj m c) (pooled m c) (scanned m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Kernel16Ideal.Step

end
-- ==== Proof.Reference16Step.lean ====
/-
  The reference of program "Reference16" merges the two inputs through their gates, and the kernel of "Kernel16" computes the
  same array.
-/
module

public import proofs.«01_k».proof.Proof.Kernel16Step
public import proofs.«01_k».proof.Proof.Gen.Reference16Ideal.Run
public import proofs.«01_k».proof.Proof.Gen.Reference16Ideal.Read
public import proofs.«01_k».proof.Defs
public import Idealize.ShloMosaic.Lib.Quiescent

@[expose] public section

noncomputable section

namespace Cert.Reference16Ideal.Step

open Cert.Reference16Ideal Cert.Reference16Ideal.Read Idealize.ShloMosaic Idealize.ShloMosaic.TcCoe Idealize.SL.Sem
open Idealize.ShloMosaic.ValueIdx Cert.Kernel16Ideal.Step

/-- The gate at a place, from the two inputs of its argument. -/
theorem gate_eq (x0 : (⟨S2x4352x9216, .bf16⟩ : BufTy).Contents (Elt Ideal)) (x3 : (⟨S1x2048, .f32⟩ : BufTy).Contents (Elt Ideal))
    (i : S2x4096x2048.Idx) (u b : EReal) (hu : x0 (idx_main_v0 i) = u) (hb : x3 (idx_main_v4 (idx_main_v5 i)) = b) :
    val_main_v12 (F := Ideal) x0 x3 i = logistic (u + b) := by
  rw [val_main_v12_apply, val_main_v11_apply, val_main_v10_apply, val_main_v9_apply, val_main_v8_apply, val_main_v7_apply,
    val_main_v6_apply, val_main_v5_apply, val_main_v4_apply, val_main_v1_apply, val_main_v0_apply]
  show Ideal.div (Ideal.ofBits .f32 0x3F800000#32) (Ideal.ofBits .f32 0x3F800000#32
    + Ideal.exp (-(x0 (idx_main_v0 i) + x3 (idx_main_v4 (idx_main_v5 i))))) = _
  rw [hu, hb, Ideal.ofBits_one_f32]
  rfl

/-- The reference's last stage is the merged array. -/
theorem stage_eq (x0 : (⟨S2x4352x9216, .bf16⟩ : BufTy).Contents (Elt Ideal))
    (x1 x2 : (⟨S2x4096x1024, .bf16⟩ : BufTy).Contents (Elt Ideal)) (x3 : (⟨S1x2048, .f32⟩ : BufTy).Contents (Elt Ideal)) :
    val_main_v18 (F := Ideal) x0 x1 x2 x3 = merged x0 x1 x2 x3 := by
  funext i
  rw [val_main_v18_apply, val_main_v17_apply, val_main_v14_apply, val_main_v16_apply, val_main_v13_apply, val_main_v15_apply]
  have h2 : (i 2).val < 1024 := (i 2).isLt
  unfold merged gated
  refine congrArg₂ (fun a b : EReal => a + b) (congrArg₂ (fun a b : EReal => a * b) (gate_eq x0 x3 _ _ _ (congrArg x0 ?_) (congrArg x3 ?_)) rfl)
    (congrArg₂ (fun a b : EReal => a * b) (gate_eq x0 x3 _ _ _ (congrArg x0 ?_) (congrArg x3 ?_)) rfl)
  all_goals
    funext a
    apply Fin.ext
    fin_cases a <;> first | rfl | (dsimp; omega)

/-- The run: the result is the merged array and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = merged (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v18_eq ..)).trans (stage_eq ..), (h c).2⟩) (Value.run m ρ)

/-- The frame: the arguments stay, and there is no semaphore. -/
theorem frame : Cert.quiescent_Reference16Ideal := fun m ρ _ =>
  (θ_run defs _ _).mono (fun r h => ⟨fun c => (h c).2, Idealize.ShloMosaic.sem_eq_zero_of_no_sems (by decide) r.2⟩) (run m ρ)

end Cert.Reference16Ideal.Step

namespace Cert.Proof

open Idealize.ShloMosaic Idealize.ShloMosaic.TcCoe Idealize.SL.Sem

/-- Kernel and reference leave the same result. -/
theorem algebraic16 : Cert.algebraic_Kernel16Ideal_Reference16Ideal := by
  intro m g m' g' _ hm
  refine ⟨fun c => Cert.Kernel16Ideal.Step.merged (Cert.Kernel16Ideal.Step.proj m c) (Cert.Kernel16Ideal.Step.pooled m c)
    (Cert.Kernel16Ideal.Step.scanned m c) (Cert.Kernel16Ideal.Step.bias m c), Cert.Kernel16Ideal.Step.run m g, ?_⟩
  refine (θ_run _ _ _).mono (fun _ h c => ⟨?_, (h c).2⟩) (Cert.Reference16Ideal.Step.run m' g')
  obtain ⟨e0, e1, e2, e3⟩ := hm c
  refine (h c).1.trans ?_
  rw [e0, e1, e2, e3]

end Cert.Proof

end
-- ==== Proof.Kernel17Point.lean ====
/-
  One point of the kernel of program "Kernel17", with what it leaves in the block of the gradient named. The kernel also
  keeps two running sums in a second result, which the claim does not read; what that buffer holds is left open.
-/
module

public import proofs.«01_k».proof.Proof.Gen.Kernel17Ideal.Frame
public import proofs.«01_k».proof.Proof.Gen.Kernel17Ideal.Skeleton
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.Kernel17Ideal.Grad

open Cert.Kernel17Ideal Cert.Kernel17Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Res (F : FTy → Type) [FloatOps F] := MT nD τ sig Unit (Elt F) ℕ (UR sig nD τ) ℕ

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The point clears the running sums: it is the first over the rows of `x`, or the one over the rows of the context. -/
abbrev Clears (i : grid0.Coords) : Prop := (Scalar.cmpi .ne (Scalar.extui (Scalar.ori (Scalar.cmpi .eq (BitVec.ofNat 32 (i 1).val) 0#32) (Scalar.cmpi .eq (BitVec.ofNat 32 (i 1).val) 16#32))) 0#32) = 1#1
/-- The point stores a block of the gradient: it is over the rows of `x`. -/
abbrev Stores (i : grid0.Coords) : Prop := k0_cond2 i = 1#1

theorem clears_iff : ∀ t : Fin grid0.N, Clears (grid0.coords t) ↔ (t.val % 17 = 0 ∨ t.val % 17 = 16) := by decide +kernel
theorem stores_iff : ∀ t : Fin grid0.N, Stores (grid0.coords t) ↔ t.val % 17 ≠ 16 := by decide +kernel

/-- The block of the gradient a point stores, from the five blocks it reads. -/
def stored (i : grid0.Coords) (x0 : Vec F S1x256x1024 .bf16) (x1 x2 : Vec F S1x256x1024 .f32)
    (x3 : Vec F S1x1x8x1024 .f32) (x4 : Vec F S1x256x1024 .bf16) : Vec F S1x256x1024 .f32 :=
  k0_pay3 (F := F) (k0_pay5 (F := F) i x1 x2) (k0_pay6 (F := F) i x1 x2) (k0_pay7 (F := F) x0) x3 x4

set_option maxHeartbeats 1000000 in
/-- The first point of a batch entry clears the running sums, and stores its block of the gradient. -/
theorem run_first (c : Dev nD) (i : grid0.Coords) (arg2 : Memref sig .tc .vmem S1x256x1024 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x1024 .f32) (harg5 : arg5.IsWhole) (arg6 : Memref sig .tc .vmem S1x256x1024 .bf16) (harg6 : arg6.IsWhole) (arg7 : Memref sig .tc .vmem S1x256x1024 .f32) (harg7 : arg7.IsWhole) (arg8 : Memref sig .tc .vmem S1x1x8x1024 .f32) (harg8 : arg8.IsWhole) (hc0 : Clears i) (hc1 : Stores i)
    (x0 : Vec F S1x256x1024 .bf16) (x1 x2 : Vec F S1x256x1024 .f32) (x3 : Vec F S1x1x8x1024 .f32)
    (x4 : Vec F S1x256x1024 .bf16) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored i x0 x1 x2 x3 x4) ∗ (∃ d, owns (c : Thread nD τ) arg8 fullShare d)) -∗ K ⟨⟩))
          ⊢ wp frame (wpE (defs₀ (F := F)) Variants.none c none) E (cc0_norm_mod_bwd (F := F) i arg2 harg2 arg3 harg3 arg4 harg4 arg5 harg5 arg6 harg6 arg7 harg7 arg8 harg8) K := by
  intro E K
  simp only [cc0_norm_mod_bwd_eq_skeleton]; unfold cc0_norm_mod_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (View.cover_of_tiledL _ S1x256x1024.size (by sl_kernel_rfl))]
    sl_unfold_words
    rw [View.canon_unit_zero hz3]
    simp only [View.readAt_eq_ld, harg2.read_unread, harg3.read_unread, harg4.read_unread, harg5.read_unread, harg6.read_unread,
      View.ld_unit_zero (S := S1x256x1024) hz3, View.ld_unit_zero (S := S1x1x8x1024) hz4]
    rfl
  iexists _, _; isplitr; swap; · iexact H6
  ipureintro; rfl

set_option maxHeartbeats 1000000 in
/-- The later points over the rows of `x` store theirs. -/
theorem run_later (c : Dev nD) (i : grid0.Coords) (arg2 : Memref sig .tc .vmem S1x256x1024 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x1024 .f32) (harg5 : arg5.IsWhole) (arg6 : Memref sig .tc .vmem S1x256x1024 .bf16) (harg6 : arg6.IsWhole) (arg7 : Memref sig .tc .vmem S1x256x1024 .f32) (harg7 : arg7.IsWhole) (arg8 : Memref sig .tc .vmem S1x1x8x1024 .f32) (harg8 : arg8.IsWhole) (hc0 : ¬Clears i) (hc1 : Stores i)
    (x0 : Vec F S1x256x1024 .bf16) (x1 x2 : Vec F S1x256x1024 .f32) (x3 : Vec F S1x1x8x1024 .f32)
    (x4 : Vec F S1x256x1024 .bf16) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (stored i x0 x1 x2 x3 x4) ∗ (∃ d, owns (c : Thread nD τ) arg8 fullShare d)) -∗ K ⟨⟩))
          ⊢ wp frame (wpE (defs₀ (F := F)) Variants.none c none) E (cc0_norm_mod_bwd (F := F) i arg2 harg2 arg3 harg3 arg4 harg4 arg5 harg5 arg6 harg6 arg7 harg7 arg8 harg8) K := by
  intro E K
  simp only [cc0_norm_mod_bwd_eq_skeleton]; unfold cc0_norm_mod_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (View.cover_of_tiledL _ S1x256x1024.size (by sl_kernel_rfl))]
    sl_unfold_words
    rw [View.canon_unit_zero hz3]
    simp only [View.readAt_eq_ld, harg2.read_unread, harg3.read_unread, harg4.read_unread, harg5.read_unread, harg6.read_unread,
      View.ld_unit_zero (S := S1x256x1024) hz3, View.ld_unit_zero (S := S1x1x8x1024) hz4]
    rfl
  iexists _, _; isplitr; swap; · iexact H6
  ipureintro; rfl

set_option maxHeartbeats 1000000 in
/-- The last point, over the rows of the context, leaves the block of the gradient as it was. -/
theorem run_keeps (c : Dev nD) (i : grid0.Coords) (arg2 : Memref sig .tc .vmem S1x256x1024 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x1024 .f32) (harg5 : arg5.IsWhole) (arg6 : Memref sig .tc .vmem S1x256x1024 .bf16) (harg6 : arg6.IsWhole) (arg7 : Memref sig .tc .vmem S1x256x1024 .f32) (harg7 : arg7.IsWhole) (arg8 : Memref sig .tc .vmem S1x1x8x1024 .f32) (harg8 : arg8.IsWhole) (hc0 : Clears i) (hc1 : ¬Stores i)
    (x0 : Vec F S1x256x1024 .bf16) (x1 x2 : Vec F S1x256x1024 .f32) (x3 : Vec F S1x1x8x1024 .f32)
    (x4 : Vec F S1x256x1024 .bf16) (x5 : Vec F S1x256x1024 .f32) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)) -∗ K ⟨⟩))
          ⊢ wp frame (wpE (defs₀ (F := F)) Variants.none c none) E (cc0_norm_mod_bwd (F := F) i arg2 harg2 arg3 harg3 arg4 harg4 arg5 harg5 arg6 harg6 arg7 harg7 arg8 harg8) K := by
  intro E K
  simp only [cc0_norm_mod_bwd_eq_skeleton]; unfold cc0_norm_mod_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  iexists _, _; isplitr; swap; · iexact H6
  ipureintro; rfl

end Cert.Kernel17Ideal.Grad

end
-- ==== Proof.Kernel17Run.lean ====
/-
  The array the kernel of program "Kernel17" leaves as the gradient of `x`, block by block. The points of a batch entry are
  sixteen over the rows of `x`, each of which stores its own block of 256 rows, and one over the rows of the context, which
  stores none: the block of the sixteenth stays in the buffer through it and is written back after it.
-/
module

public import proofs.«01_k».proof.Proof.Kernel17Point
public import proofs.«01_k».proof.Proof.Gen.Kernel17
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import proofs.«01_k».proof.Defs
public import Idealize.ShloMosaic.Lib.Pipeline.ValueKit.Geometry
public import Idealize.ShloMosaic.Lib.Pipeline.ValueKit.Acc

@[expose] public section

set_option maxRecDepth 16384

noncomputable section

namespace Cert.Kernel17Ideal.Grad

open Cert.Kernel17Ideal Cert.Kernel17Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The block of the gradient that point `t` stores. -/
def storedAt (c : Dev nD) (t : Fin cfg0.N) : Vec F S1x256x1024 .f32 :=
  stored (grid0.coords t) (iblk m c 0 t) (iblk m c 1 t) (iblk m c 2 t) (iblk m c 3 t) (iblk m c 4 t)

/-- The point whose block the buffer holds after point `t`: itself, or before it the last one over the rows of `x`. -/
def holder (t : Fin cfg0.N) : Fin cfg0.N := if t.val % 17 = 16 then ⟨t.val - 1, by omega⟩ else t

/-- The second result, the running sums, is left open. -/
def openWindow : Fin 7 → Bool := fun w => w.val == 6

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => storedAt m c (holder t)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = storedAt m c (holder t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The gradient's window rests at a point that stores no block, and only there. -/
theorem rests_iff : ∀ t : Fin cfg0.N, cfg0.idle 5 (grid0.coords t) = decide (t.val % 17 = 16) := by decide +kernel
/-- It is written back after a point that is followed by no other for the same rows. -/
theorem flushes : ∀ t : Fin cfg0.N, t.val % 17 = 16 → (cfg0.win 5).flush t = true := by decide +kernel
/-- At a point that stores no block the buffer still holds the one stored before. -/
theorem kept : ∀ t : Fin cfg0.N, t.val % 17 = 16 → cfg0.fresh 5 t.val = false := by decide +kernel

theorem holder_rest (t : Fin cfg0.N) (h : t.val % 17 = 16) : holder t = ⟨t.val - 1, by omega⟩ := if_pos h
theorem holder_store (t : Fin cfg0.N) (h : t.val % 17 ≠ 16) : holder t = t := if_neg h

theorem carry (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t h0 hi _
  rw [rests_iff] at hi
  have h : t.val % 17 = 16 := of_decide_eq_true hi
  rw [after_5, after_5, holder_rest t h, holder_store _ (show (t.val - 1) % 17 ≠ 16 by omega)]

theorem before_5 (c : Dev nD) (t : Fin cfg0.N) (h : t.val % 17 = 16) (d) :
    (dats m 0 c).before 5 t d = storedAt m c (holder t) := by
  rw [Dat.before_out_traj _ 5 rfl (fun _ _ => rfl) (carry m c) t.val t rfl d, if_neg (by rw [kept t h]; exact Bool.false_ne_true),
    after_5, holder_rest t h, holder_store _ (show (t.val - 1) % 17 ≠ 16 by omega)]

abbrev buf_0 (t : Fin cfg0.N) : Memref sig .tc .vmem S1x256x1024 .bf16 := win0_0.stage (cfg0.slots t 0)
abbrev buf_1 (t : Fin cfg0.N) : Memref sig .tc .vmem S1x256x1024 .f32 := win0_1.stage (cfg0.slots t 1)
abbrev buf_2 (t : Fin cfg0.N) : Memref sig .tc .vmem S1x256x1024 .f32 := win0_2.stage (cfg0.slots t 2)
abbrev buf_3 (t : Fin cfg0.N) : Memref sig .tc .vmem S1x1x8x1024 .f32 := win0_3.stage (cfg0.slots t 3)
abbrev buf_4 (t : Fin cfg0.N) : Memref sig .tc .vmem S1x256x1024 .bf16 := win0_4.stage (cfg0.slots t 4)
abbrev buf_5 (t : Fin cfg0.N) : Memref sig .tc .vmem S1x256x1024 .f32 := win0_5.stage (cfg0.slots t 5)
abbrev buf_6 (t : Fin cfg0.N) : Memref sig .tc .vmem S1x1x8x1024 .f32 := win0_6.stage (cfg0.slots t 6)

/-- What a point finds, -/
def bodyPre (c : Dev nD) (t : Fin cfg0.N) : sProp (Res F) :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare d))

/-- and what it leaves. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (buf_6 t) fullShare d))

theorem leaves_0 (c : Dev nD) (t : Fin cfg0.N) :
    (dats m 0 c).leavesExact 0 t = owns (c : Thread nD τ) (buf_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (buf_1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (buf_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (buf_3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (buf_4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (buf_5 t) fullShare (storedAt m c (holder t)) := by
  unfold Dat.leavesExact
  rw [rests_iff]
  by_cases h : t.val % 17 = 16
  · rw [decide_eq_true h, flushes t h, after_5]
  · rw [decide_eq_false h, after_5]

set_option maxHeartbeats 1200000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5]
  rw [show (dats m 0 c).Φ t.succ = (dats m 0 c).Φ t.castSucc from rfl,
    show (dats m 0 c).owesAt () t.succ = (dats m 0 c).owesAt () t.castSucc from rfl]
  by_cases h1 : t.val % 17 = 16
  · simp only [before_5 m c t h1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((run_keeps c (grid0.coords t) _ _ _ _ _ _ _ _ _ _ _ _ _ _ ((clears_iff t).mpr (Or.inr h1)) (fun h => (stores_iff t).mp h h1) (iblk m c 0 t) (iblk m c 1 t) (iblk m c 2 t) (iblk m c 3 t) (iblk m c 4 t) (storedAt m c (holder t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [holder_store t h1]
    unfold storedAt
    by_cases h0 : t.val % 17 = 0
    · iintro ⟨HΦ, Ho, ⟨%d0, H0⟩, ⟨%d1, H1⟩, ⟨%d2, H2⟩, ⟨%d3, H3⟩, ⟨%d4, H4⟩, ⟨%d5, H5⟩, ⟨%d6, H6⟩⟩
      iapply ((run_first c (grid0.coords t) _ _ _ _ _ _ _ _ _ _ _ _ _ _ ((clears_iff t).mpr (Or.inl h0)) ((stores_iff t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨HΦ, Ho, ⟨%d0, H0⟩, ⟨%d1, H1⟩, ⟨%d2, H2⟩, ⟨%d3, H3⟩, ⟨%d4, H4⟩, ⟨%d5, H5⟩, ⟨%d6, H6⟩⟩
      iapply ((run_later c (grid0.coords t) _ _ _ _ _ _ _ _ _ _ _ _ _ _ (fun h => ((clears_iff t).mp h).elim h0 h1) ((stores_iff t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem table_row (t : Fin cfg0.N) :
    defs₀ (F := F) .tc cfg0.body (cfg0.bodyArgs t (cfg0.slots t)) = bodyAt0 t := by
  unfold defs₀; rw [Defs.onTc_tc]

theorem body (c : Dev nD) : BodyObligation (dats m 0 c) (defs₀ (F := F)) Variants.none () Set.univ openWindow := fun t => by
  rw [bigSep_W0, bigSep_W0, table_row]
  exact triple_restated (body_at m c t) rfl .rfl fun _ => .rfl

set_option backward.isDefEq.respectTransparency.types false in
/-- The run, over the whole grid. -/
theorem run_grid : θ_run defs (onTc (τ := τ) (main (F := F))) (s₀ m ρ)
    (fun r => (Pipeline.RDat.FramePost (cfgs 0) (fun c => (dats m 0 c).toRForget openWindow) (V m)) r ∧ r.2.sem = fun _ => 0) :=
  Pipeline.θ_run_frame_forget (Q' := _) cfgs (dats m) (0 : Fin 1) launch0 defs₀ Variants.none openWindow m ρ main
    (hbody := fun c => (body m c).loose) (hshare := fun c => (dats m 0 c).share_full fun _ => rfl)
    (howed := fun _ _ => rfl) (V := V m) (hmain := hmain m Variants.none) (hA := A_eq m) (hΦ := fun _ _ => rfl)

/-- The arguments stay. -/
theorem args_kept {r : PUnit × MemSt nD τ sig (Elt F)}
    (h : Pipeline.RDat.FramePost (cfgs 0) (fun c => (dats m 0 c).toRForget openWindow) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c))⟩

/-- The gradient is what the blocks stored make of it. -/
theorem grad_array {r : PUnit × MemSt nD τ sig (Elt F)}
    (h : Pipeline.RDat.FramePost (cfgs 0) (fun c => (dats m 0 c).toRForget openWindow) (V m) r) (c : Dev nD) :
    r.2.mem ((c.tc : Thread nD τ).loc main_v0_0) = (dats m 0 c).arrAt 5 cfg0.N :=
  ((dats m 0 c).toRForget_arrAt_iff (fgt := openWindow) (w := 5) rfl _ _).mp ((h c).1 5)

/-- A run leaves the arguments as they were, and every semaphore at zero. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => args_kept m h.1 c, h.2⟩) (run_grid m ρ)

/-- The frame. -/
theorem frame : Cert.quiescent_Kernel17Ideal := fun m ρ _ => quiet (F := Ideal) m ρ

set_option smartUnfolding false in
/-- And that of the kernel as it is compiled, which has the same text. -/
theorem frame_compiled : Cert.quiescent_Kernel17 := fun m ρ _ => quiet (F := Bits) m ρ

end Cert.Kernel17Ideal.Grad

end
-- ==== Proof.NormGrad.lean ====
/-
  The derivative of a root-mean-square normalisation of one row over the extended reals, in two forms. With `s` the mean of the
  squares of `x` plus a small constant, and `r = s^(-1/2)`, the row `x` is scaled by `r`. For a row `g` arriving from above,
  the plain derivative is `g r + x c + c x`, with `c` the sum of `x g` times `-r / (2 s)`, over the length of the row; the other
  form is `r (g - x r (Σ g (x r)) / n)`. They agree for every `x` and `g`, infinite ones too: `s` is never zero or negative; if it
  is infinite, `r` is zero and both vanish, and if not, every `x` is a real number.
-/
module

public import Idealize.ShloMosaic.PureOps.Ideal.Laws
public import Idealize.ShloMosaic.Lib.IdealHost

@[expose] public section

noncomputable section

namespace Cert.NormGrad

open Idealize.ShloMosaic

/-- The length of a row, as the constant of both programs. -/
def len : EReal := Ideal.ofBits .f32 0x44800000#32
/-- The small constant under the root. -/
def eps : EReal := Ideal.ofBits .f32 0x358637BD#32
/-- The constant `-1/2`. -/
def negHalf : EReal := Ideal.ofBits .f32 0xBF000000#32

theorem len_eq : len = ((1024 : ℝ) : EReal) := by
  unfold len
  simp only [Ideal.ofBits, Ideal.ieee, show (BitVec.extractLsb' (8 + 23) 1 (0x44800000#32) == 1#1) = false from rfl,
    show (BitVec.extractLsb' 23 8 (0x44800000#32)).toNat = 137 from rfl, show (BitVec.extractLsb' 0 23 (0x44800000#32)).toNat = 0 from rfl]
  norm_num

theorem negHalf_eq : negHalf = ((-(1 / 2) : ℝ) : EReal) := by
  unfold negHalf
  simp only [Ideal.ofBits, Ideal.ieee, show (BitVec.extractLsb' (8 + 23) 1 (0xBF000000#32) == 1#1) = true from rfl,
    show (BitVec.extractLsb' 23 8 (0xBF000000#32)).toNat = 126 from rfl, show (BitVec.extractLsb' 0 23 (0xBF000000#32)).toNat = 0 from rfl]
  norm_num

theorem eps_pos : ∃ e : ℝ, 0 < e ∧ eps = (e : EReal) := by
  refine ⟨(2 ^ 23 + 407485 : ℝ) * 2 ^ ((107 : ℤ) - 127 - 23), by positivity, ?_⟩
  unfold eps
  simp only [Ideal.ofBits, Ideal.ieee, show (BitVec.extractLsb' (8 + 23) 1 (0x358637BD#32) == 1#1) = false from rfl,
    show (BitVec.extractLsb' 23 8 (0x358637BD#32)).toNat = 107 from rfl, show (BitVec.extractLsb' 0 23 (0x358637BD#32)).toNat = 407485 from rfl]
  norm_num

/-- The mean of the squares of a row, plus the small constant. -/
def meanSq (x : Fin 1024 → EReal) : EReal := Ideal.div (∑ k, x k * x k) len + eps
/-- What the row is scaled by. -/
def scale (x : Fin 1024 → EReal) : EReal := Ideal.rsqrt (meanSq x)
/-- The derivative in the mean of the squares, spread over the row. -/
def spread (x g : Fin 1024 → EReal) : EReal :=
  Ideal.div ((∑ k, x k * g k) * (negHalf * Ideal.div (scale x) (meanSq x))) len
/-- The derivative of the scaled row: through the row, and twice through the mean of its squares. -/
def grad (x g : Fin 1024 → EReal) (j : Fin 1024) : EReal := (g j * scale x + x j * spread x g) + spread x g * x j

theorem sq_nonneg' (a : EReal) : 0 ≤ a * a := by
  induction a with
  | bot => simp
  | top => simp
  | coe r => rw [← EReal.coe_mul]; exact EReal.coe_nonneg.mpr (mul_self_nonneg r)

theorem div_coe (a : EReal) {b : ℝ} (hb : b ≠ 0) : Ideal.div a (b : EReal) = a * ((b⁻¹ : ℝ) : EReal) := by
  unfold Ideal.div
  rw [if_neg (by exact_mod_cast hb), EReal.coe_inv]

/-- A sum of products by one positive real is the product of the sum. -/
theorem sum_mul_pos {ι : Type} (s : Finset ι) (f : ι → EReal) (p : ℝ) (hp : 0 < p) :
    ∑ k ∈ s, f k * (p : EReal) = (∑ k ∈ s, f k) * (p : EReal) := by
  classical
  induction s using Finset.induction_on with
  | empty => simp
  | insert a s ha ih =>
    rw [Finset.sum_insert ha, Finset.sum_insert ha, ih,
      EReal.right_distrib_of_nonneg_of_ne_top (EReal.coe_nonneg.mpr hp.le) (EReal.coe_ne_top p)]

theorem mul_sub_pos (p : ℝ) (hp : 0 < p) (a b : EReal) : (p : EReal) * (a - b) = (p : EReal) * a + -((p : EReal) * b) := by
  rw [sub_eq_add_neg, EReal.left_distrib_of_nonneg_of_ne_top (EReal.coe_nonneg.mpr hp.le) (EReal.coe_ne_top p), ← mul_neg]

theorem add_self' (y : EReal) : y + y = y * ((2 : ℝ) : EReal) := by
  induction y with
  | bot => rw [EReal.bot_mul_coe_of_pos two_pos]; rfl
  | top => rw [EReal.top_mul_coe_of_pos two_pos]; rfl
  | coe r => rw [← EReal.coe_mul, ← EReal.coe_add, mul_two]

/-- The mean of the squares is infinite, or a positive real number; and then so is every square a real number. -/
theorem meanSq_cases (x : Fin 1024 → EReal) :
    meanSq x = ⊤ ∨ ((∃ s : ℝ, 0 < s ∧ meanSq x = (s : EReal)) ∧ ∀ j, ∃ r : ℝ, x j = (r : EReal)) := by
  obtain ⟨e, he, hE⟩ := eps_pos
  have h0 : 0 ≤ ∑ k, x k * x k := Finset.sum_nonneg fun k _ => sq_nonneg' (x k)
  unfold meanSq
  rw [len_eq, div_coe _ (by norm_num), hE]
  rcases eq_or_ne (∑ k, x k * x k) ⊤ with h | h
  · left
    rw [h, EReal.top_mul_coe_of_pos (by norm_num)]
    rfl
  · right
    refine ⟨?_, fun j => ?_⟩
    · have hb : (∑ k, x k * x k) ≠ ⊥ := fun hb => by rw [hb] at h0; exact absurd h0 (by decide)
      lift (∑ k, x k * x k) to ℝ using ⟨h, hb⟩ with S
      have hS : 0 ≤ S := EReal.coe_nonneg.mp h0
      exact ⟨S * 1024⁻¹ + e, by positivity, by rw [EReal.coe_add, EReal.coe_mul]⟩
    · have hle : x j * x j ≤ ∑ k, x k * x k :=
        Finset.single_le_sum (f := fun k => x k * x k) (fun k _ => sq_nonneg' (x k)) (Finset.mem_univ j)
      generalize x j = a at hle
      induction a with
      | bot => exact absurd (top_le_iff.mp (by simpa using hle)) h
      | top => exact absurd (top_le_iff.mp (by simpa using hle)) h
      | coe r => exact ⟨r, rfl⟩

/-- The other form is the derivative. -/
theorem grad_eq (x g : Fin 1024 → EReal) (j : Fin 1024) :
    scale x * (g j - (x j * scale x) * Ideal.div (∑ k, g k * (x k * scale x)) len) = grad x g j := by
  unfold grad spread
  rcases meanSq_cases x with h | ⟨⟨s, hs, h⟩, hx⟩
  · have hr : scale x = 0 := by unfold scale; rw [h]; rfl
    have hd : Ideal.div (0 : EReal) ⊤ = 0 := by unfold Ideal.div; rw [if_neg EReal.top_ne_zero, zero_mul]
    rw [hr, h, hd, len_eq, div_coe _ (by norm_num), div_coe _ (by norm_num)]
    simp
  · have hq : 0 < Real.sqrt s := Real.sqrt_pos.mpr hs
    have hr : scale x = (((Real.sqrt s)⁻¹ : ℝ) : EReal) := by
      unfold scale; rw [h, Ideal.rsqrt_coe, if_neg hs.not_gt, if_neg hs.ne']
    have hp : 0 < (Real.sqrt s)⁻¹ := inv_pos.mpr hq
    have hsq : (Real.sqrt s)⁻¹ * (Real.sqrt s)⁻¹ = s⁻¹ := by rw [← mul_inv, Real.mul_self_sqrt hs.le]
    obtain ⟨a, ha⟩ := hx j
    rw [hr, h, len_eq, negHalf_eq, div_coe _ (by norm_num), div_coe _ (by norm_num), div_coe _ hs.ne', ha]
    generalize (Real.sqrt s)⁻¹ = p at hp hsq ⊢
    have hsum : ∑ k, g k * (x k * (p : EReal)) = (∑ k, x k * g k) * (p : EReal) := by
      rw [← sum_mul_pos _ _ p hp]
      exact Finset.sum_congr rfl fun k _ => by rw [← mul_assoc, mul_comm (g k)]
    rw [hsum, mul_sub_pos p hp]
    generalize (∑ k, x k * g k) = T
    rw [add_assoc, mul_comm (g j)]
    congr 1
    have e1 : (p : EReal) * ((a : EReal) * (p : EReal) * (T * (p : EReal) * ((1024⁻¹ : ℝ) : EReal)))
        = T * ((p * a * p * p * 1024⁻¹ : ℝ) : EReal) := by
      simp only [EReal.coe_mul]; ac_rfl
    have e2 : T * (((-(1 / 2) : ℝ) : EReal) * ((p : EReal) * ((s⁻¹ : ℝ) : EReal))) * ((1024⁻¹ : ℝ) : EReal) * (a : EReal)
        = T * ((-(1 / 2) * p * s⁻¹ * 1024⁻¹ * a : ℝ) : EReal) := by
      simp only [EReal.coe_mul]; ac_rfl
    rw [mul_comm (a : EReal) (T * _ * _), e1, e2, add_self', mul_assoc T, ← EReal.coe_mul, ← mul_neg, ← EReal.coe_neg]
    congr 2
    rw [← hsq]
    ring

end Cert.NormGrad

end
-- ==== Proof.Kernel17Grad.lean ====
/-
  What the kernel of program "Kernel17" leaves over the extended reals: at each row of `x`, the gradient arriving past the
  normalisation plus the derivative of the normalised and scaled row.
-/
module

public import proofs.«01_k».proof.Proof.Kernel17Run
public import proofs.«01_k».proof.Proof.NormGrad
public import Idealize.ShloMosaic.Lib.ValueLayout
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.Kernel17Ideal.Grad

open Cert.Kernel17Ideal Cert.Kernel17Ideal.Gen Idealize.ShloMosaic Idealize.ShloMosaic.TcCoe Idealize.SL.Sem
open Idealize.ShloMosaic.Pipeline (Dat)
open Idealize.ShloMosaic.ValueIdx Cert.NormGrad

variable (m : (ℓ : Loc nD τ sig) → Buf (Elt Ideal) ℓ) (ρ : Dev nD → PrngReg)

/-- A column of one number per row, read at a place of the block it is spread over. -/
theorem spread_apply (v : FVec Ideal S256x1 .f32) (r : Fin 256) (q : Fin 1024) :
    broadcastTo S256x1024 v broadcasts_S256x1_S256x1024 (ix2 r q) = v (ix2 (n1 := 1) r 0) := by
  refine broadcastTo_apply v _ (ix2 r q) (ix2 (n1 := 1) r 0) fun ax => ?_
  match ax with
  | ⟨0, _⟩ => rfl
  | ⟨1, _⟩ => rfl

/-- A sum over the columns, kept as a column of its own. -/
theorem sum_apply (v : FVec Ideal S256x1024 .f32) (r : Fin 256) :
    shapeCast S256x1 (multiReduction .add [1] S256 v 0x00000000#32 reduces_S256x1024_S256 (.inl rfl) rfl) shapeCasts_S256_S256x1
      (ix2 (n1 := 1) r 0) = ∑ k : Fin 1024, v (ix2 r k) := by
  refine (shapeCast_apply _ _ _ (ix1 r) ?_).trans ((Ideal.multiReduction_add_single v _ _ _ _ (ix1 r)).trans ?_)
  · rw [Shape.rowMajor_val_two, Shape.rowMajor_val_one]
    show r.val = r.val * 1 + 0
    omega
  · refine Finset.sum_congr rfl fun k _ => congrArg v (funext fun a => ?_)
    match a with
    | ⟨0, _⟩ => rfl
    | ⟨1, _⟩ => rfl

theorem over_x : ∀ t : Fin grid0.N, t.val % 17 ≠ 16 → Scalar.cmpi .slt (BitVec.ofNat 32 (grid0.coords t 1).val) 16#32 = 1#1 := by
  decide +kernel

/-- The row of `x` a point reads. -/
theorem pay4_apply (t : Fin grid0.N) (h : t.val % 17 ≠ 16) (x1 x2 : Vec Ideal S1x256x1024 .f32) (r : Fin 256) (q : Fin 1024) :
    k0_pay4 (F := Ideal) (grid0.coords t) x1 x2 (ix2 r q) = x1 (ix3 (n0 := 1) 0 r q) := by
  unfold k0_pay4
  dsimp only
  rw [over_x t h]
  exact shapeCast_1ab_ab_apply x1 _ r q

theorem pay5_apply (t : Fin grid0.N) (h : t.val % 17 ≠ 16) (x1 x2 : Vec Ideal S1x256x1024 .f32) (r : Fin 256) :
    k0_pay5 (F := Ideal) (grid0.coords t) x1 x2 (ix2 (n1 := 1) r 0) = scale fun k => x1 (ix3 (n0 := 1) 0 r k) := by
  unfold k0_pay5
  show Ideal.rsqrt (Ideal.div (shapeCast S256x1 (multiReduction (F := Ideal) .add [1] S256 _ 0x00000000#32 reduces_S256x1024_S256 (.inl rfl) rfl) shapeCasts_S256_S256x1
      (ix2 (n1 := 1) r 0)) len + eps) = _
  rw [sum_apply]
  unfold scale meanSq
  refine congrArg (fun a => Ideal.rsqrt (Ideal.div a len + eps)) (Finset.sum_congr rfl fun k _ => ?_)
  show k0_pay4 (F := Ideal) (grid0.coords t) x1 x2 (ix2 r k) * k0_pay4 (F := Ideal) (grid0.coords t) x1 x2 (ix2 r k) = _
  rw [pay4_apply t h]

theorem pay6_apply (t : Fin grid0.N) (h : t.val % 17 ≠ 16) (x1 x2 : Vec Ideal S1x256x1024 .f32) (r : Fin 256) (q : Fin 1024) :
    k0_pay6 (F := Ideal) (grid0.coords t) x1 x2 (ix2 r q)
      = x1 (ix3 (n0 := 1) 0 r q) * scale fun k => x1 (ix3 (n0 := 1) 0 r k) := by
  unfold k0_pay6
  show k0_pay4 (F := Ideal) (grid0.coords t) x1 x2 (ix2 r q) * broadcastTo S256x1024 _ broadcasts_S256x1_S256x1024 (ix2 r q) = _
  rw [spread_apply, pay4_apply t h, pay5_apply t h]

/-- The gain of a column: the first row of the block of the table. -/
theorem gain_apply (x3 : Vec Ideal S1x1x8x1024 .f32) (r : Fin 256) (q : Fin 1024) :
    broadcastTo S256x1024 (extractStridedSlice S1x1024 ![0, 0] (shapeCast S8x1024 x3 shapeCasts_S1x1x8x1024_S8x1024)
      slices_S8x1024_o0_0_S1x1024) broadcasts_S1x1024_S256x1024 (ix2 r q) = x3 (ix4 (n0 := 1) (n1 := 1) (n2 := 8) 0 0 0 q) := by
  refine (broadcastTo_1b_ab_apply _ _ r q).trans ((extractStridedSlice_apply _ _ _ _ (ix2 (n0 := 8) 0 q) fun a => ?_).trans ?_)
  · match a with
    | ⟨0, _⟩ => rfl
    | ⟨1, _⟩ => show q.val = 0 + q.val; omega
  · refine shapeCast_apply x3 _ _ _ ?_
    rw [Shape.rowMajor_val_four, Shape.rowMajor_val_two]
    show ((0 * 1 + 0) * 8 + 0) * 1024 + q.val = 0 * 1024 + q.val
    omega

/-- The block stored at a place, from the scale of its row, the scaled row, and the two gradients. -/
theorem pay3_apply (v13 : FVec Ideal S256x1 .f32) (v15 v18 : FVec Ideal S256x1024 .f32) (x3 : Vec Ideal S1x1x8x1024 .f32)
    (x4 : Vec Ideal S1x256x1024 .bf16) (r : Fin 256) (q : Fin 1024) :
    k0_pay3 (F := Ideal) v13 v15 v18 x3 x4 (ix3 (n0 := 1) 0 r q)
      = x4 (ix3 (n0 := 1) 0 r q) + v13 (ix2 (n1 := 1) r 0)
        * (v18 (ix2 r q) * x3 (ix4 (n0 := 1) (n1 := 1) (n2 := 8) 0 0 0 q) - v15 (ix2 r q)
          * Ideal.div (∑ k : Fin 1024, v18 (ix2 r k) * x3 (ix4 (n0 := 1) (n1 := 1) (n2 := 8) 0 0 0 k) * v15 (ix2 r k)) len) := by
  have e4 : shapeCast S256x1024 x4 shapeCasts_S1x256x1024_S256x1024 (ix2 r q) = x4 (ix3 (n0 := 1) 0 r q) :=
    shapeCast_1ab_ab_apply x4 _ r q
  have eg := fun k => gain_apply x3 r k
  unfold k0_pay3
  refine (shapeCast_ab_1ab_apply _ _ 0 r q).trans ?_
  generalize broadcastTo S256x1024 (extractStridedSlice S1x1024 ![0, 0] (shapeCast S8x1024 x3 shapeCasts_S1x1x8x1024_S8x1024)
      slices_S8x1024_o0_0_S1x1024) broadcasts_S1x1024_S256x1024 = G at eg ⊢
  refine congrArg₂ (fun a b : EReal => a + b) e4 (congrArg₂ (fun a b : EReal => a * b) (spread_apply v13 r q)
    (congrArg₂ (fun a b : EReal => a - b) (congrArg (fun a : EReal => v18 (ix2 r q) * a) (eg q))
      (congrArg (fun a : EReal => v15 (ix2 r q) * a) ?_)))
  refine (spread_apply _ r q).trans (congrArg (fun a : EReal => Ideal.div a len) ((sum_apply _ r).trans ?_))
  refine Finset.sum_congr rfl fun k _ => ?_
  exact congrArg (fun a : EReal => v18 (ix2 r k) * a * v15 (ix2 r k)) (eg k)

/-- What a point over the rows of `x` stores at a place of its block. -/
theorem stored_apply (t : Fin grid0.N) (h : t.val % 17 ≠ 16) (x0 : Vec Ideal S1x256x1024 .bf16) (x1 x2 : Vec Ideal S1x256x1024 .f32)
    (x3 : Vec Ideal S1x1x8x1024 .f32) (x4 : Vec Ideal S1x256x1024 .bf16) (r : Fin 256) (q : Fin 1024) :
    stored (grid0.coords t) x0 x1 x2 x3 x4 (ix3 (n0 := 1) 0 r q)
      = x4 (ix3 (n0 := 1) 0 r q) + grad (fun k => x1 (ix3 (n0 := 1) 0 r k))
          (fun k => x0 (ix3 (n0 := 1) 0 r k) * x3 (ix4 (n0 := 1) (n1 := 1) (n2 := 8) 0 0 0 k)) q := by
  have e7 : ∀ k, k0_pay7 (F := Ideal) x0 (ix2 r k) = x0 (ix3 (n0 := 1) 0 r k) := fun k => shapeCast_1ab_ab_apply x0 _ r k
  have e5 := pay5_apply t h x1 x2 r
  have e6 := fun k => pay6_apply t h x1 x2 r k
  unfold stored
  rw [pay3_apply, ← grad_eq]
  generalize k0_pay5 (F := Ideal) (grid0.coords t) x1 x2 = A at e5 ⊢
  generalize k0_pay6 (F := Ideal) (grid0.coords t) x1 x2 = B at e6 ⊢
  generalize k0_pay7 (F := Ideal) x0 = D at e7 ⊢
  simp only [e5, e6, e7]

/-- The gradient arriving at the normalised rows: those of `x`, then those of the context. -/
abbrev dh (c : Dev nD) : S2x4352x1024.Idx → EReal := m ((c : Thread nD τ).loc main_arg0)
/-- The rows of `x`. -/
abbrev xs (c : Dev nD) : S2x4096x1024.Idx → EReal := m ((c : Thread nD τ).loc main_arg1)
/-- The table of gains and shifts, of each batch entry and of its two streams. -/
abbrev tab (c : Dev nD) : S2x2x8x1024.Idx → EReal := m ((c : Thread nD τ).loc main_arg3)
/-- The gradient arriving past the normalisation. -/
abbrev dxo (c : Dev nD) : S2x4096x1024.Idx → EReal := m ((c : Thread nD τ).loc main_arg4)

/-- A row of `x` among the rows of `x` and the context. -/
abbrev among (r : Fin 4096) : Fin 4352 := ⟨r.val, by have := r.isLt; omega⟩

/-- The gradient of `x`. -/
def whole (d : S2x4352x1024.Idx → EReal) (x : S2x4096x1024.Idx → EReal) (w : S2x2x8x1024.Idx → EReal) (o : S2x4096x1024.Idx → EReal) :
    S2x4096x1024.Idx → EReal := fun i =>
  o i + grad (fun k => x (ix3 (n0 := 2) (i 0) (i 1) k))
    (fun k => d (ix3 (n0 := 2) (i 0) (among (i 1)) k) * w (ix4 (n0 := 2) (n1 := 2) (n2 := 8) (i 0) 0 0 k)) (i 2)

/-- Which blocks a point reads and writes. -/
theorem index_at : ∀ t : Fin cfg0.N, t.val % 17 ≠ 16 →
    ((win0_0.index t 0 = t.val / 17 ∧ win0_0.index t 1 = t.val % 17 ∧ win0_0.index t 2 = 0)
    ∧ (win0_1.index t 0 = t.val / 17 ∧ win0_1.index t 1 = t.val % 17 ∧ win0_1.index t 2 = 0))
    ∧ (win0_3.index t 0 = t.val / 17 ∧ win0_3.index t 1 = 0 ∧ win0_3.index t 2 = 0 ∧ win0_3.index t 3 = 0)
    ∧ (win0_4.index t 0 = t.val / 17 ∧ win0_4.index t 1 = t.val % 17 ∧ win0_4.index t 2 = 0) := by
  decide +kernel
theorem index_out : ∀ t : Fin cfg0.N, (cfg0.win 5).flush t = true →
    win0_5.index t 0 = (holder t).val / 17 ∧ win0_5.index t 1 = (holder t).val % 17 ∧ win0_5.index t 2 = 0 := by
  decide +kernel
theorem holder_stores : ∀ t : Fin cfg0.N, (holder t).val % 17 ≠ 16 := by decide +kernel

theorem dh_block (c : Dev nD) (t : Fin cfg0.N) (h : t.val % 17 ≠ 16) (r : Fin 256) (k : Fin 1024) (i : S2x4352x1024.Idx)
    (hi0 : (i 0).val = t.val / 17) (hi1 : (i 1).val = 256 * (t.val % 17) + r.val) (hi2 : (i 2).val = k.val) :
    (iblk m c 0 t : Vec Ideal S1x256x1024 .bf16) (ix3 (n0 := 1) 0 r k) = dh m c i := by
  have e := (index_at t h).1.1
  unfold iblk
  rw [View.read_apply]
  show V m c main_arg0 _ = m (c.tc.loc main_arg0) _
  unfold V
  congr 1
  funext a
  apply Fin.ext
  match a with
  | ⟨0, _⟩ => show win0_0.index t 0 * 1 + 1 * 0 = (i 0).val; rw [e.1, hi0]; omega
  | ⟨1, _⟩ => show win0_0.index t 1 * 256 + 1 * r.val = (i 1).val; rw [e.2.1, hi1]; omega
  | ⟨2, _⟩ => show win0_0.index t 2 * 1024 + 1 * k.val = (i 2).val; rw [e.2.2, hi2]; omega

theorem xs_block (c : Dev nD) (t : Fin cfg0.N) (h : t.val % 17 ≠ 16) (r : Fin 256) (k : Fin 1024) (i : S2x4096x1024.Idx)
    (hi0 : (i 0).val = t.val / 17) (hi1 : (i 1).val = 256 * (t.val % 17) + r.val) (hi2 : (i 2).val = k.val) :
    (iblk m c 1 t : Vec Ideal S1x256x1024 .f32) (ix3 (n0 := 1) 0 r k) = xs m c i := by
  have e := (index_at t h).1.2
  unfold iblk
  rw [View.read_apply]
  show V m c main_arg1 _ = m (c.tc.loc main_arg1) _
  unfold V
  congr 1
  funext a
  apply Fin.ext
  match a with
  | ⟨0, _⟩ => show win0_1.index t 0 * 1 + 1 * 0 = (i 0).val; rw [e.1, hi0]; omega
  | ⟨1, _⟩ => show win0_1.index t 1 * 256 + 1 * r.val = (i 1).val; rw [e.2.1, hi1]; omega
  | ⟨2, _⟩ => show win0_1.index t 2 * 1024 + 1 * k.val = (i 2).val; rw [e.2.2, hi2]; omega

theorem tab_block (c : Dev nD) (t : Fin cfg0.N) (h : t.val % 17 ≠ 16) (k : Fin 1024) (i : S2x2x8x1024.Idx)
    (hi0 : (i 0).val = t.val / 17) (hi1 : (i 1).val = 0) (hi2 : (i 2).val = 0) (hi3 : (i 3).val = k.val) :
    (iblk m c 3 t : Vec Ideal S1x1x8x1024 .f32) (ix4 (n0 := 1) (n1 := 1) (n2 := 8) 0 0 0 k) = tab m c i := by
  have e := (index_at t h).2.1
  unfold iblk
  rw [View.read_apply]
  show V m c main_arg3 _ = m (c.tc.loc main_arg3) _
  unfold V
  congr 1
  funext a
  apply Fin.ext
  match a with
  | ⟨0, _⟩ => show win0_3.index t 0 * 1 + 1 * 0 = (i 0).val; rw [e.1, hi0]; omega
  | ⟨1, _⟩ => show win0_3.index t 1 * 1 + 1 * 0 = (i 1).val; rw [e.2.1, hi1]
  | ⟨2, _⟩ => show win0_3.index t 2 * 8 + 1 * 0 = (i 2).val; rw [e.2.2.1, hi2]
  | ⟨3, _⟩ => show win0_3.index t 3 * 1024 + 1 * k.val = (i 3).val; rw [e.2.2.2, hi3]; omega

theorem dxo_block (c : Dev nD) (t : Fin cfg0.N) (h : t.val % 17 ≠ 16) (r : Fin 256) (k : Fin 1024) (i : S2x4096x1024.Idx)
    (hi0 : (i 0).val = t.val / 17) (hi1 : (i 1).val = 256 * (t.val % 17) + r.val) (hi2 : (i 2).val = k.val) :
    (iblk m c 4 t : Vec Ideal S1x256x1024 .bf16) (ix3 (n0 := 1) 0 r k) = dxo m c i := by
  have e := (index_at t h).2.2
  unfold iblk
  rw [View.read_apply]
  show V m c main_arg4 _ = m (c.tc.loc main_arg4) _
  unfold V
  congr 1
  funext a
  apply Fin.ext
  match a with
  | ⟨0, _⟩ => show win0_4.index t 0 * 1 + 1 * 0 = (i 0).val; rw [e.1, hi0]; omega
  | ⟨1, _⟩ => show win0_4.index t 1 * 256 + 1 * r.val = (i 1).val; rw [e.2.1, hi1]; omega
  | ⟨2, _⟩ => show win0_4.index t 2 * 1024 + 1 * k.val = (i 2).val; rw [e.2.2, hi2]; omega

/-- A point's block is a block of the whole gradient. -/
theorem block_eq (c : Dev nD) (t : Fin cfg0.N) (h : t.val % 17 ≠ 16) (y : S1x256x1024.Idx) (i : S2x4096x1024.Idx)
    (e0 : (i 0).val = t.val / 17) (e1 : (i 1).val = 256 * (t.val % 17) + (y 1).val) (e2 : (i 2).val = (y 2).val) :
    storedAt m c t y = whole (dh m c) (xs m c) (tab m c) (dxo m c) i := by
  have ey : y = ix3 (n0 := 1) (n1 := 256) (n2 := 1024) 0 (y 1) (y 2) := by
    funext a
    match a with
    | ⟨0, _⟩ => exact Fin.ext (Nat.lt_one_iff.mp (y 0).isLt)
    | ⟨1, _⟩ => rfl
    | ⟨2, _⟩ => rfl
  have e2' : i 2 = (y 2 : Fin 1024) := Fin.ext e2
  unfold whole storedAt
  refine (congrArg _ ey).trans ((stored_apply t h _ _ _ _ _ (y 1) (y 2)).trans ?_)
  rw [e2', dxo_block m c t h (y 1) (y 2) i e0 e1 e2]
  refine congrArg₂ (fun (a b : Fin 1024 → EReal) => dxo m c i + grad a b (y 2)) (funext fun k => ?_) (funext fun k => ?_)
  · exact xs_block m c t h (y 1) k _ e0 e1 rfl
  · refine congrArg₂ (fun a b : EReal => a * b) ?_ ?_
    · exact dh_block m c t h (y 1) k _ e0 e1 rfl
    · exact tab_block m c t h k _ e0 rfl rfl rfl

/-- The array is the whole gradient. -/
theorem final (c : Dev nD) : (dats m 0 c).arrAt 5 cfg0.N = whole (dh m c) (xs m c) (tab m c) (dxo m c) := by
  refine (dats m 0 c).arrAt_eq_of_covers 5 _ (by decide +kernel) fun t hf y => ?_
  blk_simp
  rw [after_5]
  refine block_eq m c (holder t) (holder_stores t) y _ ?_ ?_ ?_
  · blk_simp; rw [(index_out t hf).1]
  · blk_simp; rw [(index_out t hf).2.1]; omega
  · blk_simp; rw [(index_out t hf).2.2]; omega

/-- The run: the result is the whole gradient and the arguments stay. -/
theorem run : θ_run defs (onTc (τ := τ) (main (F := Ideal))) ⟨m, fun _ => 0, ρ⟩ fun r => ∀ c : Dev nD,
      r.2.mem ((c : Thread nD τ).loc main_v0_0) = whole (dh m c) (xs m c) (tab m c) (dxo m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(grad_array m h.1 c).trans (final m c), args_kept m h.1 c⟩) (run_grid m ρ)

end Cert.Kernel17Ideal.Grad

end
-- ==== Proof.Reference17Grad.lean ====
/-
  The reference of program "Reference17" computes the gradient arriving past the normalisation plus the derivative of the
  normalised and scaled rows of `x`, and the kernel of "Kernel17" the same array.
-/
module

public import proofs.«01_k».proof.Proof.Kernel17Grad
public import proofs.«01_k».proof.Proof.Gen.Reference17Ideal.Run
public import proofs.«01_k».proof.Proof.Gen.Reference17Ideal.Read
public import proofs.«01_k».proof.Defs
public import Idealize.ShloMosaic.Lib.Quiescent

@[expose] public section

noncomputable section

namespace Cert.Reference17Ideal.Grad

open Cert.Reference17Ideal Cert.Reference17Ideal.Read Idealize.ShloMosaic Idealize.ShloMosaic.TcCoe Idealize.SL.Sem
open Idealize.ShloMosaic.ValueIdx Cert.NormGrad
open Cert.Kernel17Ideal.Grad (whole among)

variable (x0 : (⟨S2x4352x1024, .bf16⟩ : BufTy).Contents (Elt Ideal)) (x1 : (⟨S2x4096x1024, .f32⟩ : BufTy).Contents (Elt Ideal))
    (x3 : (⟨S2x2x8x1024, .f32⟩ : BufTy).Contents (Elt Ideal)) (x4 : (⟨S2x4096x1024, .bf16⟩ : BufTy).Contents (Elt Ideal))

/-- One row of `x`. -/
abbrev row (b : Fin 2) (r : Fin 4096) : Fin 1024 → EReal := fun k => x1 (ix3 (n0 := 2) b r k)
/-- The gradient arriving at the scaled row. -/
abbrev above (b : Fin 2) (r : Fin 4096) : Fin 1024 → EReal := fun k =>
  x0 (ix3 (n0 := 2) b (among r) k) * x3 (ix4 (n0 := 2) (n1 := 2) (n2 := 8) b 0 0 k)

theorem v13_at (b : Fin 2) (r : Fin 4096) : val_main_v13 (F := Ideal) x1 (ix3 (n2 := 1) b r 0) = meanSq (row x1 b r) := by
  rw [val_main_v13_apply, val_main_v11_apply, val_main_v9_apply, val_main_v8_apply, val_main_v10_apply, val_main_v12_apply]
  show Ideal.div (Ideal.ofBits .f32 0x00000000#32 + _) len + eps = _
  rw [Ideal.ofBits_zero_f32, zero_add]
  unfold meanSq
  refine congrArg (fun a : EReal => Ideal.div a len + eps) (Finset.sum_congr rfl fun k _ => ?_)
  have e : idx_main_v8 (idx_main_v9 (ix3 (n2 := 1) b r 0)) k = ix3 (n0 := 2) b r k := by
    funext a; fin_cases a <;> rfl
  rw [e]
  rfl

theorem v14_at (b : Fin 2) (r : Fin 4096) : val_main_v14 (F := Ideal) x1 (ix3 (n2 := 1) b r 0) = scale (row x1 b r) := by
  rw [val_main_v14_apply, v13_at]
  rfl

theorem v25_at (b : Fin 2) (r : Fin 4096) (k : Fin 1024) :
    val_main_v25 (F := Ideal) x0 x3 (ix3 (n0 := 2) b r k) = above x0 x3 b r k := by
  rw [val_main_v25_apply, val_main_v1_apply, val_main_v0_apply, val_main_v24_apply, val_main_v4_apply, val_main_v3_apply]
  refine congrArg₂ (fun a b : EReal => a * b) (congrArg x0 ?_) (congrArg x3 ?_)
  · funext a; fin_cases a <;> rfl
  · funext a
    have hb := b.isLt
    have hk := k.isLt
    fin_cases a <;> apply Fin.ext
    · show ((b.val * 1 + 0) * 1024 + k.val) / 1024 = b.val; omega
    · rfl
    · rfl
    · show ((b.val * 1 + 0) * 1024 + k.val) % 1024 = k.val; omega

theorem v35_at (b : Fin 2) (r : Fin 4096) (k : Fin 1024) :
    val_main_v35 (F := Ideal) x0 x1 x3 (ix3 (n0 := 2) b r k) = spread (row x1 b r) (above x0 x3 b r) := by
  rw [val_main_v35_apply, val_main_v34_apply]
  show Ideal.ofBits .f32 0x00000000#32 + _ = _
  rw [Ideal.ofBits_zero_f32, zero_add, Fin.sum_univ_one]
  have e : idx_main_v34 (idx_main_v35 (ix3 (n0 := 2) b r k)) 0 = ix3 (n2 := 1) b r 0 := by funext a; fin_cases a <;> rfl
  rw [e, val_main_v33_apply, val_main_v31_apply, val_main_v32_apply, val_main_v28_apply, val_main_v27_apply, val_main_v17_apply,
    val_main_v16_apply, val_main_v15_apply, v14_at, v13_at]
  show Ideal.div ((Ideal.ofBits .f32 0x00000000#32 + _) * (negHalf * Ideal.div _ _)) len = _
  rw [Ideal.ofBits_zero_f32, zero_add]
  unfold spread
  refine congrArg (fun a : EReal => Ideal.div (a * (negHalf * Ideal.div (scale (row x1 b r)) (meanSq (row x1 b r)))) len)
    (Finset.sum_congr rfl fun j _ => ?_)
  have e' : idx_main_v27 (idx_main_v28 (ix3 (n2 := 1) b r 0)) j = ix3 (n0 := 2) b r j := by
    have hb := b.isLt
    have hr := r.isLt
    funext a
    fin_cases a <;> apply Fin.ext
    · show (((b.val * 4096 + r.val) * 1 + 0) / 4096) = b.val; omega
    · show (((b.val * 4096 + r.val) * 1 + 0) % 4096) = r.val; omega
    · rfl
  rw [e', val_main_v26_apply, v25_at]
  rfl

theorem v40_at (b : Fin 2) (r : Fin 4096) (k : Fin 1024) :
    val_main_v40 (F := Ideal) x0 x1 x3 x4 (ix3 (n0 := 2) b r k) = whole x0 x1 x3 x4 (ix3 (n0 := 2) b r k) := by
  have e : idx_main_v29 (ix3 (n0 := 2) b r k) = ix3 (n2 := 1) b r 0 := by funext a; fin_cases a <;> rfl
  rw [val_main_v40_apply, val_main_v39_apply, val_main_v37_apply, val_main_v30_apply, val_main_v36_apply, val_main_v38_apply,
    val_main_v29_apply, e, v14_at, v25_at, v35_at]
  rfl

/-- The reference's last stage is the whole gradient. -/
theorem stage_eq : val_main_v40 (F := Ideal) x0 x1 x3 x4 = whole x0 x1 x3 x4 := by
  funext i
  have ei : i = ix3 (n0 := 2) (n1 := 4096) (n2 := 1024) (i 0) (i 1) (i 2) := by funext a; fin_cases a <;> rfl
  exact (congrArg _ ei).trans ((v40_at x0 x1 x3 x4 (i 0) (i 1) (i 2)).trans (congrArg _ ei.symm))

/-- The run: the result is the whole gradient and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
          = whole (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v40_eq _ _)).trans (stage_eq _ _ _ _), (h c).2⟩) (Value.run m ρ)

/-- The frame: the arguments stay, and there is no semaphore. -/
theorem frame : Cert.quiescent_Reference17Ideal := fun m ρ _ =>
  (θ_run defs _ _).mono (fun r h => ⟨fun c => (h c).2, Idealize.ShloMosaic.sem_eq_zero_of_no_sems (by decide) r.2⟩) (run m ρ)

end Cert.Reference17Ideal.Grad

namespace Cert.Proof

open Idealize.ShloMosaic Idealize.ShloMosaic.TcCoe Idealize.SL.Sem

/-- Kernel and reference leave the same result. -/
theorem algebraic17 : Cert.algebraic_Kernel17Ideal_Reference17Ideal := by
  intro m g m' g' _ hm
  refine ⟨fun c => Cert.Kernel17Ideal.Grad.whole (Cert.Kernel17Ideal.Grad.dh m c) (Cert.Kernel17Ideal.Grad.xs m c)
    (Cert.Kernel17Ideal.Grad.tab m c) (Cert.Kernel17Ideal.Grad.dxo m c), Cert.Kernel17Ideal.Grad.run m g, ?_⟩
  refine (θ_run _ _ _).mono (fun _ h c => ⟨?_, (h c).2⟩) (Cert.Reference17Ideal.Grad.run m' g')
  obtain ⟨e0, e1, _, e3, e4⟩ := hm c
  refine (h c).1.trans ?_
  rw [e0, e1, e3, e4]

end Cert.Proof

end
-- ==== Proof.Kernel18Point.lean ====
/-
  One point of the kernel of program "Kernel18", with what it leaves in the blocks of its first three results: the gradients
  of the two merged inputs and of the gates. The kernel also keeps a running sum in a fourth result, which the claim does
  not read; what that buffer holds is left open.
-/
module

public import proofs.«01_k».proof.Proof.Gen.Kernel18Ideal.Frame
public import proofs.«01_k».proof.Proof.Gen.Kernel18Ideal.Skeleton
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.Kernel18Ideal.Grad

open Cert.Kernel18Ideal Cert.Kernel18Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Res (F : FTy → Type) [FloatOps F] := MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The point clears the running sum: it is the first of its batch entry. -/
abbrev Clears (i : grid0.Coords) : Prop := k0_cond1 i = 1#1
/-- The point is over the rows of the context, where the gates have no gradient. -/
abbrev Past (i : grid0.Coords) : Prop := k0_cond2 i = 1#1
/-- The point is over the rows of `x`. -/
abbrev Stores (i : grid0.Coords) : Prop := k0_cond3 i = 1#1

theorem clears_iff : ∀ t : Fin grid0.N, Clears (grid0.coords t) ↔ t.val % 17 = 0 := by decide +kernel
theorem past_iff : ∀ t : Fin grid0.N, Past (grid0.coords t) ↔ t.val % 17 = 16 := by decide +kernel
theorem stores_iff : ∀ t : Fin grid0.N, Stores (grid0.coords t) ↔ t.val % 17 ≠ 16 := by decide +kernel

/-- The block of the first input's gradient a point stores: `x0` is the gradient arriving, `x1` the gates, `x4` the bias. -/
def storedP (x0 : Vec F S1x256x1024 .bf16) (x1 : Vec F S1x256x2048 .bf16) (x4 : Vec F S1x2048 .f32) : Vec F S1x256x1024 .bf16 := k0_pay10 (F := F) x1 x4 x0
/-- The block of the second input's gradient. -/
def storedS (x0 : Vec F S1x256x1024 .bf16) (x1 : Vec F S1x256x2048 .bf16) (x4 : Vec F S1x2048 .f32) : Vec F S1x256x1024 .bf16 := k0_pay11 (F := F) x1 x4 x0
/-- The block of the gates' gradient, from the two inputs `x2` and `x3` as well. -/
def storedG (x0 : Vec F S1x256x1024 .bf16) (x1 : Vec F S1x256x2048 .bf16) (x2 x3 : Vec F S1x256x1024 .bf16) (x4 : Vec F S1x2048 .f32) : Vec F S1x256x2048 .bf16 :=
  k0_pay4 (F := F) (k0_pay7 (F := F) x0) (k0_pay9 (F := F) x1 x4) (k0_pay12 (F := F) x1 x4 x0 x2) x3
/-- The block of the gates' gradient over the rows of the context: zeros. -/
def noneG : Vec F S1x256x2048 .bf16 := k0_pay2 (F := F)

set_option maxHeartbeats 1600000 in
/-- The first point of a batch entry clears the running sum, and stores its three blocks. -/
theorem run_first (c : Dev nD) (i : grid0.Coords) (arg2 : Memref sig .tc .vmem S1x256x1024 .bf16) (harg2 : arg2.IsWhole) (arg3 : Memref sig .tc .vmem S1x256x2048 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x2048 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x2048 .bf16) (harg9 : arg9.IsWhole) (arg10 : Memref sig .tc .vmem S1x8x2048 .f32) (harg10 : arg10.IsWhole) (hc0 : Clears i) (hc1 : ¬Past i) (hc2 : Stores i)
    (x0 : Vec F S1x256x1024 .bf16) (x1 : Vec F S1x256x2048 .bf16) (x2 x3 : Vec F S1x256x1024 .bf16) (x4 : Vec F S1x2048 .f32) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (storedP x0 x1 x4) ∗ owns (c : Thread nD τ) arg8 fullShare (storedS x0 x1 x4) ∗ owns (c : Thread nD τ) arg9 fullShare (storedG x0 x1 x2 x3 x4) ∗ (∃ d, owns (c : Thread nD τ) arg10 fullShare d)) -∗ K ⟨⟩))
          ⊢ wp frame (wpE (defs₀ (F := F)) Variants.none c none) E (cc0_merge_bwd (F := F) i arg2 harg2 arg3 harg3 arg4 harg4 arg5 harg5 arg6 harg6 arg7 harg7 arg8 harg8 arg9 harg9 arg10 harg10) K := by
  intro E K
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (View.cover_of_tiledL _ S1x256x1024.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  isplitl [H6]
  · iexists _; isplitr; swap; · iexact H6
    ipureintro
    rw [View.read_writes_eq_canon _ _ _ (View.cover_of_tiledL _ S1x256x1024.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  isplitl [H7]
  · iexists _; isplitr; swap; · iexact H7
    ipureintro
    rw [View.read_writes_eq_canon _ _ _ (View.cover_of_tiledL _ S1x256x2048.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  iexists _, _; isplitr; swap; · iexact H8
  ipureintro; rfl

set_option maxHeartbeats 1600000 in
/-- The later points over the rows of `x` store theirs. -/
theorem run_later (c : Dev nD) (i : grid0.Coords) (arg2 : Memref sig .tc .vmem S1x256x1024 .bf16) (harg2 : arg2.IsWhole) (arg3 : Memref sig .tc .vmem S1x256x2048 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x2048 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x2048 .bf16) (harg9 : arg9.IsWhole) (arg10 : Memref sig .tc .vmem S1x8x2048 .f32) (harg10 : arg10.IsWhole) (hc0 : ¬Clears i) (hc1 : ¬Past i) (hc2 : Stores i)
    (x0 : Vec F S1x256x1024 .bf16) (x1 : Vec F S1x256x2048 .bf16) (x2 x3 : Vec F S1x256x1024 .bf16) (x4 : Vec F S1x2048 .f32) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (storedP x0 x1 x4) ∗ owns (c : Thread nD τ) arg8 fullShare (storedS x0 x1 x4) ∗ owns (c : Thread nD τ) arg9 fullShare (storedG x0 x1 x2 x3 x4) ∗ (∃ d, owns (c : Thread nD τ) arg10 fullShare d)) -∗ K ⟨⟩))
          ⊢ wp frame (wpE (defs₀ (F := F)) Variants.none c none) E (cc0_merge_bwd (F := F) i arg2 harg2 arg3 harg3 arg4 harg4 arg5 harg5 arg6 harg6 arg7 harg7 arg8 harg8 arg9 harg9 arg10 harg10) K := by
  intro E K
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (View.cover_of_tiledL _ S1x256x1024.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  isplitl [H6]
  · iexists _; isplitr; swap; · iexact H6
    ipureintro
    rw [View.read_writes_eq_canon _ _ _ (View.cover_of_tiledL _ S1x256x1024.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  isplitl [H7]
  · iexists _; isplitr; swap; · iexact H7
    ipureintro
    rw [View.read_writes_eq_canon _ _ _ (View.cover_of_tiledL _ S1x256x2048.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  iexists _, _; isplitr; swap; · iexact H8
  ipureintro; rfl

set_option maxHeartbeats 1600000 in
/-- The last point, over the rows of the context, leaves the first two blocks as they were and stores zeros in the third. -/
theorem run_keeps (c : Dev nD) (i : grid0.Coords) (arg2 : Memref sig .tc .vmem S1x256x1024 .bf16) (harg2 : arg2.IsWhole) (arg3 : Memref sig .tc .vmem S1x256x2048 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x2048 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x2048 .bf16) (harg9 : arg9.IsWhole) (arg10 : Memref sig .tc .vmem S1x8x2048 .f32) (harg10 : arg10.IsWhole) (hc0 : ¬Clears i) (hc1 : Past i) (hc2 : ¬Stores i)
    (x0 : Vec F S1x256x1024 .bf16) (x1 : Vec F S1x256x2048 .bf16) (x2 x3 : Vec F S1x256x1024 .bf16) (x4 : Vec F S1x2048 .f32) (x5 x6 : Vec F S1x256x1024 .bf16) :
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare noneG ∗ (∃ d, owns (c : Thread nD τ) arg10 fullShare d)) -∗ K ⟨⟩))
          ⊢ wp frame (wpE (defs₀ (F := F)) Variants.none c none) E (cc0_merge_bwd (F := F) i arg2 harg2 arg3 harg3 arg4 harg4 arg5 harg5 arg6 harg6 arg7 harg7 arg8 harg8 arg9 harg9 arg10 harg10) K := by
  intro E K
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro
    rw [View.read_writes_eq_canon _ _ _ (View.cover_of_tiledL _ S1x256x2048.size (by sl_kernel_rfl))]
    sl_unfold_words
    rw [View.canon_unit_zero hz3]
    try simp only [View.readAt_eq_ld, harg2.read_unread, harg3.read_unread, harg4.read_unread, harg5.read_unread, harg6.read_unread,
      View.ld_unit_zero (S := S1x256x1024) hz3, View.ld_unit_zero (S := S1x256x2048) hz3, View.ld_unit_zero (S := S1x2048) hz2]
    try rfl
  iexists _, _; isplitr; swap; · iexact H8
  ipureintro; rfl

end Cert.Kernel18Ideal.Grad

end
-- ==== Proof.Kernel18Run.lean ====
/-
  The arrays the kernel of program "Kernel18" leaves as its first three results, block by block. The points of a batch entry
  are sixteen over the rows of `x`, each of which stores its own block of 256 rows of each, and one over the rows of the
  context, which stores zeros in the third and nothing in the first two: their block of the sixteenth stays in the buffer
  through it and is written back after it.
-/
module

public import proofs.«01_k».proof.Proof.Kernel18Point
public import proofs.«01_k».proof.Proof.Gen.Kernel18
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import proofs.«01_k».proof.Defs
public import Idealize.ShloMosaic.Lib.Pipeline.ValueKit.Geometry
public import Idealize.ShloMosaic.Lib.Pipeline.ValueKit.Acc

@[expose] public section

set_option maxRecDepth 16384

noncomputable section

namespace Cert.Kernel18Ideal.Grad

open Cert.Kernel18Ideal Cert.Kernel18Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The block of the first input's gradient that point `t` stores, -/
def pAt (c : Dev nD) (t : Fin cfg0.N) : Vec F S1x256x1024 .bf16 := storedP (iblk m c 0 t) (X0_1 m c t) (iblk m c 4 t)
/-- of the second's, -/
def sAt (c : Dev nD) (t : Fin cfg0.N) : Vec F S1x256x1024 .bf16 := storedS (iblk m c 0 t) (X0_1 m c t) (iblk m c 4 t)
/-- and of the gates'. -/
def gAt (c : Dev nD) (t : Fin cfg0.N) : Vec F S1x256x2048 .bf16 :=
  if t.val % 17 = 16 then noneG else storedG (iblk m c 0 t) (X0_1 m c t) (iblk m c 2 t) (iblk m c 3 t) (iblk m c 4 t)

/-- The point whose blocks the first two buffers hold after point `t`: itself, or before it the last one over the rows of `x`. -/
def holder (t : Fin cfg0.N) : Fin cfg0.N := if t.val % 17 = 16 then ⟨t.val - 1, by omega⟩ else t

/-- The fourth result, the running sum, is left open. -/
def openWindow : Fin 9 → Bool := fun w => w.val == 8

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => pAt m c (holder t)
    | ⟨6, _⟩ => sAt m c (holder t)
    | ⟨7, _⟩ => gAt m c t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = pAt m c (holder t) := by dsimp only [dats]
theorem after_6 (c : Dev nD) (t : Fin cfg0.N) : (dats m 0 c).after 6 t = sAt m c (holder t) := by dsimp only [dats]
theorem after_7 (c : Dev nD) (t : Fin cfg0.N) : (dats m 0 c).after 7 t = gAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The windows of the first two results rest at a point over the rows of the context, and only there. -/
theorem rests_5 : ∀ t : Fin cfg0.N, cfg0.idle 5 (grid0.coords t) = decide (t.val % 17 = 16) := by decide +kernel
theorem rests_6 : ∀ t : Fin cfg0.N, cfg0.idle 6 (grid0.coords t) = decide (t.val % 17 = 16) := by decide +kernel
/-- The third's never does. -/
theorem rests_7 : ∀ t : Fin cfg0.N, cfg0.idle 7 (grid0.coords t) = false := by decide +kernel
/-- They are written back after a point that is followed by no other for the same rows. -/
theorem flushes_5 : ∀ t : Fin cfg0.N, t.val % 17 = 16 → (cfg0.win 5).flush t = true := by decide +kernel
theorem flushes_6 : ∀ t : Fin cfg0.N, t.val % 17 = 16 → (cfg0.win 6).flush t = true := by decide +kernel
/-- At a point over the rows of the context the buffer still holds the block stored before. -/
theorem kept_5 : ∀ t : Fin cfg0.N, t.val % 17 = 16 → cfg0.fresh 5 t.val = false := by decide +kernel
theorem kept_6 : ∀ t : Fin cfg0.N, t.val % 17 = 16 → cfg0.fresh 6 t.val = false := by decide +kernel

theorem holder_rest (t : Fin cfg0.N) (h : t.val % 17 = 16) : holder t = ⟨t.val - 1, by omega⟩ := if_pos h
theorem holder_store (t : Fin cfg0.N) (h : t.val % 17 ≠ 16) : holder t = t := if_neg h

theorem carry_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t h0 hi _
  rw [rests_5] at hi
  have h : t.val % 17 = 16 := of_decide_eq_true hi
  rw [after_5, after_5, holder_rest t h, holder_store _ (show (t.val - 1) % 17 ≠ 16 by omega)]

theorem before_5 (c : Dev nD) (t : Fin cfg0.N) (h : t.val % 17 = 16) (d) :
    (dats m 0 c).before 5 t d = pAt m c (holder t) := by
  rw [Dat.before_out_traj _ 5 rfl (fun _ _ => rfl) (carry_5 m c) t.val t rfl d, if_neg (by rw [kept_5 t h]; exact Bool.false_ne_true),
    after_5, holder_rest t h, holder_store _ (show (t.val - 1) % 17 ≠ 16 by omega)]

theorem carry_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h0 hi _
  rw [rests_6] at hi
  have h : t.val % 17 = 16 := of_decide_eq_true hi
  rw [after_6, after_6, holder_rest t h, holder_store _ (show (t.val - 1) % 17 ≠ 16 by omega)]

theorem before_6 (c : Dev nD) (t : Fin cfg0.N) (h : t.val % 17 = 16) (d) :
    (dats m 0 c).before 6 t d = sAt m c (holder t) := by
  rw [Dat.before_out_traj _ 6 rfl (fun _ _ => rfl) (carry_6 m c) t.val t rfl d, if_neg (by rw [kept_6 t h]; exact Bool.false_ne_true),
    after_6, holder_rest t h, holder_store _ (show (t.val - 1) % 17 ≠ 16 by omega)]

abbrev buf_0 (t : Fin cfg0.N) : Memref sig .tc .vmem S1x256x1024 .bf16 := win0_0.stage (cfg0.slots t 0)
abbrev buf_1 (t : Fin cfg0.N) : Memref sig .tc .vmem S1x256x2048 .bf16 := win0_1.stage (cfg0.slots t 1)
abbrev buf_2 (t : Fin cfg0.N) : Memref sig .tc .vmem S1x256x1024 .bf16 := win0_2.stage (cfg0.slots t 2)
abbrev buf_3 (t : Fin cfg0.N) : Memref sig .tc .vmem S1x256x1024 .bf16 := win0_3.stage (cfg0.slots t 3)
abbrev buf_4 (t : Fin cfg0.N) : Memref sig .tc .vmem S1x2048 .f32 := win0_4.stage (cfg0.slots t 4)
abbrev buf_5 (t : Fin cfg0.N) : Memref sig .tc .vmem S1x256x1024 .bf16 := win0_5.stage (cfg0.slots t 5)
abbrev buf_6 (t : Fin cfg0.N) : Memref sig .tc .vmem S1x256x1024 .bf16 := win0_6.stage (cfg0.slots t 6)
abbrev buf_7 (t : Fin cfg0.N) : Memref sig .tc .vmem S1x256x2048 .bf16 := win0_7.stage (cfg0.slots t 7)
abbrev buf_8 (t : Fin cfg0.N) : Memref sig .tc .vmem S1x8x2048 .f32 := win0_8.stage (cfg0.slots t 8)

/-- What a point finds, -/
def bodyPre (c : Dev nD) (t : Fin cfg0.N) : sProp (Res F) :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d))
    ∗ (∃ d, owns (c : Thread nD τ) (buf_7 t) fullShare ((dats m 0 c).before 7 t d))
    ∗ (∃ d, owns (c : Thread nD τ) (buf_8 t) fullShare d))

/-- and what it leaves. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (buf_8 t) fullShare d))

theorem leaves_0 (c : Dev nD) (t : Fin cfg0.N) :
    (dats m 0 c).leavesExact 0 t = owns (c : Thread nD τ) (buf_0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (buf_1 t) fullShare (X0_1 m c t) := by
  unfold Dat.leavesExact; rw [show cfg0.idle 1 (grid0.coords t) = false from rfl, after_1]
theorem leaves_2 (c : Dev nD) (t : Fin cfg0.N) :
    (dats m 0 c).leavesExact 2 t = owns (c : Thread nD τ) (buf_2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (buf_3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (buf_4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (buf_5 t) fullShare (pAt m c (holder t)) := by
  unfold Dat.leavesExact
  rw [rests_5]
  by_cases h : t.val % 17 = 16
  · rw [decide_eq_true h, flushes_5 t h, after_5]
  · rw [decide_eq_false h, after_5]
theorem leaves_6 (c : Dev nD) (t : Fin cfg0.N) :
    (dats m 0 c).leavesExact 6 t = owns (c : Thread nD τ) (buf_6 t) fullShare (sAt m c (holder t)) := by
  unfold Dat.leavesExact
  rw [rests_6]
  by_cases h : t.val % 17 = 16
  · rw [decide_eq_true h, flushes_6 t h, after_6]
  · rw [decide_eq_false h, after_6]
theorem leaves_7 (c : Dev nD) (t : Fin cfg0.N) :
    (dats m 0 c).leavesExact 7 t = owns (c : Thread nD τ) (buf_7 t) fullShare (gAt m c t) := by
  unfold Dat.leavesExact; rw [rests_7, after_7]

set_option maxHeartbeats 2400000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4, leaves_5, leaves_6, leaves_7]
  rw [show (dats m 0 c).Φ t.succ = (dats m 0 c).Φ t.castSucc from rfl,
    show (dats m 0 c).owesAt () t.succ = (dats m 0 c).owesAt () t.castSucc from rfl]
  by_cases h1 : t.val % 17 = 16
  · simp only [before_5 m c t h1, before_6 m c t h1, show gAt m c t = noneG from if_pos h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_keeps c (grid0.coords t) _ _ _ _ _ _ _ _ _ _ _ _ _ _ _ _ _ _ (fun h => by have := (clears_iff t).mp h; omega) ((past_iff t).mpr h1) (fun h => (stores_iff t).mp h h1) (iblk m c 0 t) (X0_1 m c t) (iblk m c 2 t) (iblk m c 3 t) (iblk m c 4 t) (pAt m c (holder t)) (sAt m c (holder t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [holder_store t h1, show gAt m c t = storedG (iblk m c 0 t) (X0_1 m c t) (iblk m c 2 t) (iblk m c 3 t) (iblk m c 4 t) from if_neg h1]
    unfold pAt sAt
    by_cases h0 : t.val % 17 = 0
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run_first c (grid0.coords t) _ _ _ _ _ _ _ _ _ _ _ _ _ _ _ _ _ _ ((clears_iff t).mpr h0) (fun h => h1 ((past_iff t).mp h)) ((stores_iff t).mpr h1) (iblk m c 0 t) (X0_1 m c t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((run_later c (grid0.coords t) _ _ _ _ _ _ _ _ _ _ _ _ _ _ _ _ _ _ (fun h => h0 ((clears_iff t).mp h)) (fun h => h1 ((past_iff t).mp h)) ((stores_iff t).mpr h1) (iblk m c 0 t) (X0_1 m c t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem table_row (t : Fin cfg0.N) :
    defs₀ (F := F) .tc cfg0.body (cfg0.bodyArgs t (cfg0.slots t)) = bodyAt0 t := by
  unfold defs₀; rw [Defs.onTc_tc]

theorem body (c : Dev nD) : BodyObligation (dats m 0 c) (defs₀ (F := F)) Variants.none () Set.univ openWindow := fun t => by
  rw [bigSep_W0, bigSep_W0, table_row]
  exact triple_restated (body_at m c t) rfl .rfl fun _ => .rfl

set_option backward.isDefEq.respectTransparency.types false in
/-- The run, over the whole grid. -/
theorem run_grid : θ_run defs (onTc (τ := τ) (main (F := F))) (s₀ m ρ)
    (fun r => (Pipeline.RDat.FramePost (cfgs 0) (fun c => (dats m 0 c).toRForget openWindow) (V m)) r ∧ r.2.sem = fun _ => 0) :=
  Pipeline.θ_run_frame_forget (Q' := _) cfgs (dats m) (0 : Fin 1) launch0 defs₀ Variants.none openWindow m ρ main
    (hbody := fun c => (body m c).loose) (hshare := fun c => (dats m 0 c).share_full fun _ => rfl)
    (howed := fun _ _ => rfl) (V := V m) (hmain := hmain m Variants.none) (hA := A_eq m) (hΦ := fun _ _ => rfl)

/-- The arguments stay. -/
theorem args_kept {r : PUnit × MemSt nD τ sig (Elt F)}
    (h : Pipeline.RDat.FramePost (cfgs 0) (fun c => (dats m 0 c).toRForget openWindow) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c))⟩

/-- The first result is what its blocks make of it. -/
theorem p_array {r : PUnit × MemSt nD τ sig (Elt F)}
    (h : Pipeline.RDat.FramePost (cfgs 0) (fun c => (dats m 0 c).toRForget openWindow) (V m) r) (c : Dev nD) :
    r.2.mem ((c.tc : Thread nD τ).loc main_v0_0) = (dats m 0 c).arrAt 5 cfg0.N :=
  ((dats m 0 c).toRForget_arrAt_iff (fgt := openWindow) (w := 5) rfl _ _).mp ((h c).1 5)

/-- The second result is what its blocks make of it. -/
theorem s_array {r : PUnit × MemSt nD τ sig (Elt F)}
    (h : Pipeline.RDat.FramePost (cfgs 0) (fun c => (dats m 0 c).toRForget openWindow) (V m) r) (c : Dev nD) :
    r.2.mem ((c.tc : Thread nD τ).loc main_v0_1) = (dats m 0 c).arrAt 6 cfg0.N :=
  ((dats m 0 c).toRForget_arrAt_iff (fgt := openWindow) (w := 6) rfl _ _).mp ((h c).1 6)

/-- The third result is what its blocks make of it. -/
theorem g_array {r : PUnit × MemSt nD τ sig (Elt F)}
    (h : Pipeline.RDat.FramePost (cfgs 0) (fun c => (dats m 0 c).toRForget openWindow) (V m) r) (c : Dev nD) :
    r.2.mem ((c.tc : Thread nD τ).loc main_v0_2) = (dats m 0 c).arrAt 7 cfg0.N :=
  ((dats m 0 c).toRForget_arrAt_iff (fgt := openWindow) (w := 7) rfl _ _).mp ((h c).1 7)

/-- A run leaves the arguments as they were, and every semaphore at zero. -/
theorem quiet : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c => args_kept m h.1 c, h.2⟩) (run_grid m ρ)

/-- The frame. -/
theorem frame : Cert.quiescent_Kernel18Ideal := fun m ρ _ => quiet (F := Ideal) m ρ

set_option smartUnfolding false in
/-- And that of the kernel as it is compiled, which has the same text. -/
theorem frame_compiled : Cert.quiescent_Kernel18 := fun m ρ _ => quiet (F := Bits) m ρ

end Cert.Kernel18Ideal.Grad

end
-- ==== Proof.Kernel18Grad.lean ====
/-
  What the kernel of program "Kernel18" leaves over the extended reals. With `σ` the logistic function and `g = σ(gate + bias)`,
  a merged input's gradient is the arriving gradient times its gate, and a gate's is `d * input * g * (1 - g)`; over the rows of
  the context the gates have none.
-/
module

public import proofs.«01_k».proof.Proof.Kernel18Run
public import Idealize.ShloMosaic.Lib.ValueLayout
public import Idealize.ShloMosaic.Lib.IdealHost
public import Idealize.ShloMosaic.Lib.Pipeline.Value
public import Idealize.ShloMosaic.Lib.Pipeline.TableIdle
public import Idealize.ShloMosaic.Lib.ValueIdx
public import Idealize.ShloMosaic.PureOps.Ideal.Laws
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.Kernel18Ideal.Grad

open Cert.Kernel18Ideal Cert.Kernel18Ideal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The logistic function `1 / (1 + e⁻ˣ)`. -/
def logistic (x : EReal) : EReal := Ideal.div 1 (1 + Ideal.exp (-x))
/-- A gate's gradient, from the arriving gradient `d`, the input `p` behind the gate and the gate's value `g`. -/
def bent (d p g : EReal) : EReal := d * p * g * (1 - g)

/-- Column `q` of the first half. -/
abbrev lo (q : Fin 1024) : Fin 2048 := ⟨q.val, by have := q.isLt; omega⟩
/-- Column `q` of the second half. -/
abbrev up (q : Fin 1024) : Fin 2048 := ⟨1024 + q.val, by have := q.isLt; omega⟩

/-- The gates of a block: the logistic function of gate plus bias. -/
theorem pay6_apply (x1 : Vec Ideal S1x256x2048 .bf16) (x4 : Vec Ideal S1x2048 .f32) (r : Fin 256) (q : Fin 2048) :
    k0_pay6 (F := Ideal) x1 x4 (ix2 r q) = logistic (x1 (ix3 (n0 := 1) 0 r q) + x4 (ix2 (n0 := 1) 0 q)) := by
  have e0 : shapeCast S256x2048 x1 shapeCasts_S1x256x2048_S256x2048 (ix2 r q) = x1 (ix3 (n0 := 1) 0 r q) :=
    shapeCast_1ab_ab_apply x1 _ r q
  have e3 : broadcastTo S256x2048 x4 broadcasts_S1x2048_S256x2048 (ix2 r q) = x4 (ix2 (n0 := 1) 0 q) :=
    broadcastTo_1b_ab_apply x4 _ r q
  unfold k0_pay6
  show Ideal.div (Ideal.ofBits .f32 0x3F800000#32) (Ideal.ofBits .f32 0x3F800000#32
      + Ideal.exp (Ideal.ofBits .f32 0x00000000#32
        - (shapeCast S256x2048 x1 shapeCasts_S1x256x2048_S256x2048 (ix2 r q)
          + broadcastTo S256x2048 x4 broadcasts_S1x2048_S256x2048 (ix2 r q)))) = _
  rw [e0, e3, Ideal.ofBits_one_f32, Ideal.ofBits_zero_f32, zero_sub]
  rfl

theorem pay8_apply (x1 : Vec Ideal S1x256x2048 .bf16) (x4 : Vec Ideal S1x2048 .f32) (r : Fin 256) (q : Fin 1024) :
    k0_pay8 (F := Ideal) x1 x4 (ix2 r q) = logistic (x1 (ix3 (n0 := 1) 0 r (lo q)) + x4 (ix2 (n0 := 1) 0 (lo q))) := by
  unfold k0_pay8
  refine (extractStridedSlice_apply _ _ _ _ (ix2 (n0 := 256) (n1 := 2048) r (lo q)) fun a => ?_).trans (pay6_apply x1 x4 _ _)
  match a with
  | ⟨0, _⟩ => exact (Nat.zero_add _).symm
  | ⟨1, _⟩ => exact (Nat.zero_add _).symm

theorem pay9_apply (x1 : Vec Ideal S1x256x2048 .bf16) (x4 : Vec Ideal S1x2048 .f32) (r : Fin 256) (q : Fin 1024) :
    k0_pay9 (F := Ideal) x1 x4 (ix2 r q) = logistic (x1 (ix3 (n0 := 1) 0 r (up q)) + x4 (ix2 (n0 := 1) 0 (up q))) := by
  unfold k0_pay9
  refine (extractStridedSlice_apply _ _ _ _ (ix2 (n0 := 256) (n1 := 2048) r (up q)) fun a => ?_).trans (pay6_apply x1 x4 _ _)
  match a with
  | ⟨0, _⟩ => exact (Nat.zero_add _).symm
  | ⟨1, _⟩ => rfl

theorem pay7_apply (x0 : Vec Ideal S1x256x1024 .bf16) (r : Fin 256) (q : Fin 1024) :
    k0_pay7 (F := Ideal) x0 (ix2 r q) = x0 (ix3 (n0 := 1) 0 r q) := shapeCast_1ab_ab_apply x0 _ r q

theorem storedP_apply (x0 : Vec Ideal S1x256x1024 .bf16) (x1 : Vec Ideal S1x256x2048 .bf16) (x4 : Vec Ideal S1x2048 .f32)
    (r : Fin 256) (q : Fin 1024) : storedP x0 x1 x4 (ix3 (n0 := 1) 0 r q)
      = x0 (ix3 (n0 := 1) 0 r q) * logistic (x1 (ix3 (n0 := 1) 0 r (lo q)) + x4 (ix2 (n0 := 1) 0 (lo q))) := by
  have e7 := pay7_apply x0 r q
  have e8 := pay8_apply x1 x4 r q
  unfold storedP k0_pay10
  refine (shapeCast_ab_1ab_apply _ _ 0 r q).trans ?_
  exact congrArg₂ (fun a b : EReal => a * b) e7 e8

theorem storedS_apply (x0 : Vec Ideal S1x256x1024 .bf16) (x1 : Vec Ideal S1x256x2048 .bf16) (x4 : Vec Ideal S1x2048 .f32)
    (r : Fin 256) (q : Fin 1024) : storedS x0 x1 x4 (ix3 (n0 := 1) 0 r q)
      = x0 (ix3 (n0 := 1) 0 r q) * logistic (x1 (ix3 (n0 := 1) 0 r (up q)) + x4 (ix2 (n0 := 1) 0 (up q))) := by
  have e7 := pay7_apply x0 r q
  have e9 := pay9_apply x1 x4 r q
  unfold storedS k0_pay11
  refine (shapeCast_ab_1ab_apply _ _ 0 r q).trans ?_
  exact congrArg₂ (fun a b : EReal => a * b) e7 e9

theorem pay12_apply (x1 : Vec Ideal S1x256x2048 .bf16) (x4 : Vec Ideal S1x2048 .f32) (x0 x2 : Vec Ideal S1x256x1024 .bf16)
    (r : Fin 256) (q : Fin 1024) : k0_pay12 (F := Ideal) x1 x4 x0 x2 (ix2 r q)
      = bent (x0 (ix3 (n0 := 1) 0 r q)) (x2 (ix3 (n0 := 1) 0 r q))
          (logistic (x1 (ix3 (n0 := 1) 0 r (lo q)) + x4 (ix2 (n0 := 1) 0 (lo q)))) := by
  have e7 := pay7_apply x0 r q
  have e2 : shapeCast S256x1024 x2 shapeCasts_S1x256x1024_S256x1024 (ix2 r q) = x2 (ix3 (n0 := 1) 0 r q) :=
    shapeCast_1ab_ab_apply x2 _ r q
  have e8 := pay8_apply x1 x4 r q
  unfold k0_pay12
  generalize k0_pay7 (F := Ideal) x0 = D at e7 ⊢
  generalize k0_pay8 (F := Ideal) x1 x4 = G at e8 ⊢
  show D (ix2 r q) * shapeCast S256x1024 x2 shapeCasts_S1x256x1024_S256x1024 (ix2 r q) * G (ix2 r q)
    * (Ideal.ofBits .f32 0x3F800000#32 - G (ix2 r q)) = _
  rw [e7, e2, e8, Ideal.ofBits_one_f32]
  rfl

theorem pay3_lo (v24 v26 v44 : FVec Ideal S256x1024 .f32) (v45 : Vec Ideal S1x256x1024 .bf16) (r : Fin 256) (q : Fin 1024) :
    k0_pay3 (F := Ideal) v24 v26 v44 v45 (ix2 r (lo q)) = v44 (ix2 r q) := by
  unfold k0_pay3
  exact concatenate_pair_apply_left (t := S256x2048) (s₁ := S256x1024) (s₂ := S256x1024) 1 v44 _
    concatenates_S256x1024_S256x1024_S256x2048_d1 (ix2 r (lo q)) rfl (ix2 r q) fun b => match b with
      | ⟨0, _⟩ => rfl
      | ⟨1, _⟩ => rfl

theorem pay3_up (v24 v26 v44 : FVec Ideal S256x1024 .f32) (v45 : Vec Ideal S1x256x1024 .bf16) (r : Fin 256) (q : Fin 1024) :
    k0_pay3 (F := Ideal) v24 v26 v44 v45 (ix2 r (up q)) = bent (v24 (ix2 r q)) (v45 (ix3 (n0 := 1) 0 r q)) (v26 (ix2 r q)) := by
  have e3 : shapeCast S256x1024 v45 shapeCasts_S1x256x1024_S256x1024 (ix2 r q) = v45 (ix3 (n0 := 1) 0 r q) :=
    shapeCast_1ab_ab_apply v45 _ r q
  unfold k0_pay3
  refine (concatenate_pair_apply_right (t := S256x2048) (s₁ := S256x1024) (s₂ := S256x1024) 1 v44 _
    concatenates_S256x1024_S256x1024_S256x2048_d1 (ix2 r (up q)) rfl rfl (ix2 r q) (fun b hb => ?_) ?_).trans ?_
  · match b with
    | ⟨0, _⟩ => rfl
    | ⟨1, _⟩ => exact absurd rfl hb
  · show q.val + 1024 = 1024 + q.val
    omega
  · show v24 (ix2 r q) * shapeCast S256x1024 v45 shapeCasts_S1x256x1024_S256x1024 (ix2 r q) * v26 (ix2 r q)
      * (Ideal.ofBits .f32 0x3F800000#32 - v26 (ix2 r q)) = _
    rw [e3, Ideal.ofBits_one_f32]
    rfl

theorem storedG_lo (x0 : Vec Ideal S1x256x1024 .bf16) (x1 : Vec Ideal S1x256x2048 .bf16) (x2 x3 : Vec Ideal S1x256x1024 .bf16)
    (x4 : Vec Ideal S1x2048 .f32) (r : Fin 256) (q : Fin 1024) : storedG x0 x1 x2 x3 x4 (ix3 (n0 := 1) 0 r (lo q))
      = bent (x0 (ix3 (n0 := 1) 0 r q)) (x2 (ix3 (n0 := 1) 0 r q))
          (logistic (x1 (ix3 (n0 := 1) 0 r (lo q)) + x4 (ix2 (n0 := 1) 0 (lo q)))) := by
  have e12 := pay12_apply x1 x4 x0 x2 r q
  unfold storedG k0_pay4
  refine (shapeCast_ab_1ab_apply _ _ 0 r (lo q)).trans ?_
  exact (pay3_lo _ _ _ _ r q).trans e12

theorem storedG_up (x0 : Vec Ideal S1x256x1024 .bf16) (x1 : Vec Ideal S1x256x2048 .bf16) (x2 x3 : Vec Ideal S1x256x1024 .bf16)
    (x4 : Vec Ideal S1x2048 .f32) (r : Fin 256) (q : Fin 1024) : storedG x0 x1 x2 x3 x4 (ix3 (n0 := 1) 0 r (up q))
      = bent (x0 (ix3 (n0 := 1) 0 r q)) (x3 (ix3 (n0 := 1) 0 r q))
          (logistic (x1 (ix3 (n0 := 1) 0 r (up q)) + x4 (ix2 (n0 := 1) 0 (up q)))) := by
  have e7 := pay7_apply x0 r q
  have e9 := pay9_apply x1 x4 r q
  unfold storedG k0_pay4
  refine (shapeCast_ab_1ab_apply _ _ 0 r (up q)).trans ((pay3_up _ _ _ _ r q).trans ?_)
  rw [e7, e9]

theorem noneG_apply (y : S1x256x2048.Idx) : noneG (F := Ideal) y = (0 : EReal) := by
  show Ideal.ofBits .bf16 0x0000#16 = _
  exact Ideal.ofBits_zero_bf16

/-- The gradient arriving at the merged rows. -/
abbrev dm (c : Dev nD) : S2x4096x1024.Idx → EReal := m ((c : Thread nD τ).loc main_arg0)
/-- The projection, whose columns 4096 to 6143 are the gates. -/
abbrev proj (c : Dev nD) : S2x4352x9216.Idx → EReal := m ((c : Thread nD τ).loc main_arg1)
/-- The two merged inputs. -/
abbrev ps (c : Dev nD) : S2x4096x1024.Idx → EReal := m ((c : Thread nD τ).loc main_arg2)
abbrev ss (c : Dev nD) : S2x4096x1024.Idx → EReal := m ((c : Thread nD τ).loc main_arg3)
/-- The gates' bias. -/
abbrev bias (c : Dev nD) : S1x2048.Idx → EReal := m ((c : Thread nD τ).loc main_arg4)

/-- A row of `x` among the rows of `x` and the context. -/
abbrev among (r : Fin 4096) : Fin 4352 := ⟨r.val, by have := r.isLt; omega⟩
/-- The column of the projection that holds gate `q`. -/
abbrev gateCol (q : Fin 2048) : Fin 9216 := ⟨4096 + q.val, by have := q.isLt; omega⟩
/-- The value of gate `q` at a row. -/
def gate (w : S2x4352x9216.Idx → EReal) (β : S1x2048.Idx → EReal) (b : Fin 2) (r : Fin 4096) (q : Fin 2048) : EReal :=
  logistic (w (ix3 (n0 := 2) b (among r) (gateCol q)) + β (ix2 (n0 := 1) 0 q))

/-- The first input's gradient. -/
def wholeP (d : S2x4096x1024.Idx → EReal) (w : S2x4352x9216.Idx → EReal) (β : S1x2048.Idx → EReal) : S2x4096x1024.Idx → EReal :=
  fun i => d i * gate w β (i 0) (i 1) (lo (i 2))
/-- The second input's gradient. -/
def wholeS (d : S2x4096x1024.Idx → EReal) (w : S2x4352x9216.Idx → EReal) (β : S1x2048.Idx → EReal) : S2x4096x1024.Idx → EReal :=
  fun i => d i * gate w β (i 0) (i 1) (up (i 2))
/-- The gates' gradient: in the first half from the first input, in the second from the second, over the context zero. -/
def wholeG (d : S2x4096x1024.Idx → EReal) (w : S2x4352x9216.Idx → EReal) (p s : S2x4096x1024.Idx → EReal)
    (β : S1x2048.Idx → EReal) : S2x4352x2048.Idx → EReal := fun i =>
  if h : (i 1).val < 4096 then
    if h' : (i 2).val < 1024 then
      bent (d (ix3 (n0 := 2) (i 0) ⟨(i 1).val, h⟩ ⟨(i 2).val, h'⟩)) (p (ix3 (n0 := 2) (i 0) ⟨(i 1).val, h⟩ ⟨(i 2).val, h'⟩))
        (gate w β (i 0) ⟨(i 1).val, h⟩ (i 2))
    else
      bent (d (ix3 (n0 := 2) (i 0) ⟨(i 1).val, h⟩ ⟨(i 2).val - 1024, Nat.sub_lt_left_of_lt_add (Nat.le_of_not_lt h') (i 2).isLt⟩))
        (s (ix3 (n0 := 2) (i 0) ⟨(i 1).val, h⟩ ⟨(i 2).val - 1024, Nat.sub_lt_left_of_lt_add (Nat.le_of_not_lt h') (i 2).isLt⟩))
        (gate w β (i 0) ⟨(i 1).val, h⟩ (i 2))
  else 0

theorem wholeG_lo (d : S2x4096x1024.Idx → EReal) (w : S2x4352x9216.Idx → EReal) (p s : S2x4096x1024.Idx → EReal)
    (β : S1x2048.Idx → EReal) (b : Fin 2) (r : Fin 4096) (q : Fin 1024) :
    wholeG d w p s β (ix3 (n0 := 2) b (among r) (lo q)) = bent (d (ix3 (n0 := 2) b r q)) (p (ix3 (n0 := 2) b r q)) (gate w β b r (lo q)) := by
  unfold wholeG
  rw [dif_pos (show ((ix3 (n0 := 2) b (among r) (lo q) : S2x4352x2048.Idx) 1).val < 4096 from r.isLt),
    dif_pos (show ((ix3 (n0 := 2) b (among r) (lo q) : S2x4352x2048.Idx) 2).val < 1024 from q.isLt)]

theorem wholeG_up (d : S2x4096x1024.Idx → EReal) (w : S2x4352x9216.Idx → EReal) (p s : S2x4096x1024.Idx → EReal)
    (β : S1x2048.Idx → EReal) (b : Fin 2) (r : Fin 4096) (q : Fin 1024) :
    wholeG d w p s β (ix3 (n0 := 2) b (among r) (up q)) = bent (d (ix3 (n0 := 2) b r q)) (s (ix3 (n0 := 2) b r q)) (gate w β b r (up q)) := by
  unfold wholeG
  rw [dif_pos (show ((ix3 (n0 := 2) b (among r) (up q) : S2x4352x2048.Idx) 1).val < 4096 from r.isLt),
    dif_neg (show ¬((ix3 (n0 := 2) b (among r) (up q) : S2x4352x2048.Idx) 2).val < 1024 from by
      show ¬(1024 + q.val < 1024)
      omega)]
  have e : ∀ h, (⟨1024 + q.val - 1024, h⟩ : Fin 1024) = q := fun h => Fin.ext (Nat.add_sub_cancel_left 1024 q.val)
  show bent (d (ix3 (n0 := 2) b r ⟨1024 + q.val - 1024, _⟩)) (s (ix3 (n0 := 2) b r ⟨1024 + q.val - 1024, _⟩)) _ = _
  rw [e]

theorem wholeG_past (d : S2x4096x1024.Idx → EReal) (w : S2x4352x9216.Idx → EReal) (p s : S2x4096x1024.Idx → EReal)
    (β : S1x2048.Idx → EReal) (i : S2x4352x2048.Idx) (h : ¬(i 1).val < 4096) : wholeG d w p s β i = 0 := by
  unfold wholeG
  rw [dif_neg h]

/-- Which blocks a point reads and writes. -/
theorem index_at : ∀ t : Fin cfg0.N, t.val % 17 ≠ 16 →
    ((win0_0.index t 0 = t.val / 17 ∧ win0_0.index t 1 = t.val % 17 ∧ win0_0.index t 2 = 0)
    ∧ (win0_1.index t 0 = t.val / 17 ∧ win0_1.index t 1 = t.val % 17 ∧ win0_1.index t 2 = 2))
    ∧ ((win0_2.index t 0 = t.val / 17 ∧ win0_2.index t 1 = t.val % 17 ∧ win0_2.index t 2 = 0)
    ∧ (win0_3.index t 0 = t.val / 17 ∧ win0_3.index t 1 = t.val % 17 ∧ win0_3.index t 2 = 0))
    ∧ (win0_4.index t 0 = 0 ∧ win0_4.index t 1 = 0) := by
  decide +kernel
theorem index_5 : ∀ t : Fin cfg0.N, (cfg0.win 5).flush t = true →
    win0_5.index t 0 = (holder t).val / 17 ∧ win0_5.index t 1 = (holder t).val % 17 ∧ win0_5.index t 2 = 0 := by
  decide +kernel
theorem index_6 : ∀ t : Fin cfg0.N, (cfg0.win 6).flush t = true →
    win0_6.index t 0 = (holder t).val / 17 ∧ win0_6.index t 1 = (holder t).val % 17 ∧ win0_6.index t 2 = 0 := by
  decide +kernel
theorem index_7 : ∀ t : Fin cfg0.N,
    win0_7.index t 0 = t.val / 17 ∧ win0_7.index t 1 = t.val % 17 ∧ win0_7.index t 2 = 0 := by
  decide +kernel
theorem holder_stores : ∀ t : Fin cfg0.N, (holder t).val % 17 ≠ 16 := by decide +kernel

theorem dm_block (c : Dev nD) (t : Fin cfg0.N) (h : t.val % 17 ≠ 16) (r : Fin 256) (k : Fin 1024) (i : S2x4096x1024.Idx)
    (hi0 : (i 0).val = t.val / 17) (hi1 : (i 1).val = 256 * (t.val % 17) + r.val) (hi2 : (i 2).val = k.val) :
    (iblk m c 0 t : Vec Ideal S1x256x1024 .bf16) (ix3 (n0 := 1) 0 r k) = dm m c i := by
  have e := (index_at t h).1.1
  unfold iblk
  rw [View.read_apply]
  show V m c main_arg0 _ = m (c.tc.loc main_arg0) _
  unfold V
  congr 1
  funext a
  apply Fin.ext
  match a with
  | ⟨0, _⟩ => show win0_0.index t 0 * 1 + 1 * 0 = (i 0).val; rw [e.1, hi0]; omega
  | ⟨1, _⟩ => show win0_0.index t 1 * 256 + 1 * r.val = (i 1).val; rw [e.2.1, hi1]; omega
  | ⟨2, _⟩ => show win0_0.index t 2 * 1024 + 1 * k.val = (i 2).val; rw [e.2.2, hi2]; omega

theorem ps_block (c : Dev nD) (t : Fin cfg0.N) (h : t.val % 17 ≠ 16) (r : Fin 256) (k : Fin 1024) (i : S2x4096x1024.Idx)
    (hi0 : (i 0).val = t.val / 17) (hi1 : (i 1).val = 256 * (t.val % 17) + r.val) (hi2 : (i 2).val = k.val) :
    (iblk m c 2 t : Vec Ideal S1x256x1024 .bf16) (ix3 (n0 := 1) 0 r k) = ps m c i := by
  have e := (index_at t h).2.1.1
  unfold iblk
  rw [View.read_apply]
  show V m c main_arg2 _ = m (c.tc.loc main_arg2) _
  unfold V
  congr 1
  funext a
  apply Fin.ext
  match a with
  | ⟨0, _⟩ => show win0_2.index t 0 * 1 + 1 * 0 = (i 0).val; rw [e.1, hi0]; omega
  | ⟨1, _⟩ => show win0_2.index t 1 * 256 + 1 * r.val = (i 1).val; rw [e.2.1, hi1]; omega
  | ⟨2, _⟩ => show win0_2.index t 2 * 1024 + 1 * k.val = (i 2).val; rw [e.2.2, hi2]; omega

theorem ss_block (c : Dev nD) (t : Fin cfg0.N) (h : t.val % 17 ≠ 16) (r : Fin 256) (k : Fin 1024) (i : S2x4096x1024.Idx)
    (hi0 : (i 0).val = t.val / 17) (hi1 : (i 1).val = 256 * (t.val % 17) + r.val) (hi2 : (i 2).val = k.val) :
    (iblk m c 3 t : Vec Ideal S1x256x1024 .bf16) (ix3 (n0 := 1) 0 r k) = ss m c i := by
  have e := (index_at t h).2.1.2
  unfold iblk
  rw [View.read_apply]
  show V m c main_arg3 _ = m (c.tc.loc main_arg3) _
  unfold V
  congr 1
  funext a
  apply Fin.ext
  match a with
  | ⟨0, _⟩ => show win0_3.index t 0 * 1 + 1 * 0 = (i 0).val; rw [e.1, hi0]; omega
  | ⟨1, _⟩ => show win0_3.index t 1 * 256 + 1 * r.val = (i 1).val; rw [e.2.1, hi1]; omega
  | ⟨2, _⟩ => show win0_3.index t 2 * 1024 + 1 * k.val = (i 2).val; rw [e.2.2, hi2]; omega

theorem proj_block (c : Dev nD) (t : Fin cfg0.N) (h : t.val % 17 ≠ 16) (r : Fin 256) (q : Fin 2048) (i : S2x4352x9216.Idx)
    (hi0 : (i 0).val = t.val / 17) (hi1 : (i 1).val = 256 * (t.val % 17) + r.val) (hi2 : (i 2).val = 4096 + q.val) :
    (X0_1 m c t : Vec Ideal S1x256x2048 .bf16) (ix3 (n0 := 1) 0 r q) = proj m c i := by
  have e := (index_at t h).1.2
  unfold X0_1 Pipeline.Window.fill
  rw [dif_pos (moved0_1 t _)]
  unfold iblk
  rw [View.read_apply]
  show V m c main_arg1 _ = m (c.tc.loc main_arg1) _
  unfold V
  congr 1
  funext a
  apply Fin.ext
  match a with
  | ⟨0, _⟩ => show win0_1.index t 0 * 1 + 1 * 0 = (i 0).val; rw [e.1, hi0]; omega
  | ⟨1, _⟩ => show win0_1.index t 1 * 256 + 1 * r.val = (i 1).val; rw [e.2.1, hi1]; omega
  | ⟨2, _⟩ => show win0_1.index t 2 * 2048 + 1 * q.val = (i 2).val; rw [e.2.2, hi2]; omega

theorem bias_block (c : Dev nD) (t : Fin cfg0.N) (h : t.val % 17 ≠ 16) (q : Fin 2048) :
    (iblk m c 4 t : Vec Ideal S1x2048 .f32) (ix2 (n0 := 1) 0 q) = bias m c (ix2 (n0 := 1) 0 q) := by
  have e := (index_at t h).2.2
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [e.1]
  | ⟨1, _⟩ => show win0_4.index t 1 * 2048 + 1 * q.val = q.val; rw [e.2]; omega

/-- The gates a point computes. -/
theorem gate_block (c : Dev nD) (t : Fin cfg0.N) (h : t.val % 17 ≠ 16) (r : Fin 256) (q : Fin 2048) (b : Fin 2) (R : Fin 4096)
    (hb : b.val = t.val / 17) (hR : R.val = 256 * (t.val % 17) + r.val) :
    ∀ (x1 : Vec Ideal S1x256x2048 .bf16) (x4 : Vec Ideal S1x2048 .f32), x1 = X0_1 m c t → x4 = iblk m c 4 t →
    logistic (x1 (ix3 (n0 := 1) 0 r q) + x4 (ix2 (n0 := 1) 0 q)) = gate (proj m c) (bias m c) b R q := by
  rintro _ _ rfl rfl
  unfold gate
  refine congrArg logistic (congrArg₂ (fun a b : EReal => a + b) ?_ (bias_block m c t h q))
  exact proj_block m c t h r q _ hb hR rfl

/-- A point's block is a block of the first input's gradient. -/
theorem block_P (c : Dev nD) (t : Fin cfg0.N) (h : t.val % 17 ≠ 16) (y : S1x256x1024.Idx) (i : S2x4096x1024.Idx)
    (e0 : (i 0).val = t.val / 17) (e1 : (i 1).val = 256 * (t.val % 17) + (y 1).val) (e2 : (i 2).val = (y 2).val) :
    pAt m c t y = wholeP (dm m c) (proj m c) (bias m c) i := by
  have ey : y = ix3 (n0 := 1) (n1 := 256) (n2 := 1024) 0 (y 1) (y 2) := by
    funext a
    match a with
    | ⟨0, _⟩ => exact Fin.ext (Nat.lt_one_iff.mp (y 0).isLt)
    | ⟨1, _⟩ => rfl
    | ⟨2, _⟩ => rfl
  have e2' : i 2 = (y 2 : Fin 1024) := Fin.ext e2
  unfold wholeP pAt
  refine (congrArg _ ey).trans ((storedP_apply _ _ _ (y 1) (y 2)).trans ?_)
  rw [e2']
  exact congrArg₂ (fun a b : EReal => a * b) (dm_block m c t h (y 1) (y 2) i e0 e1 e2)
    (gate_block m c t h (y 1) (lo (y 2)) (i 0) (i 1) e0 e1 _ _ rfl rfl)

/-- A point's block is a block of the second input's gradient. -/
theorem block_S (c : Dev nD) (t : Fin cfg0.N) (h : t.val % 17 ≠ 16) (y : S1x256x1024.Idx) (i : S2x4096x1024.Idx)
    (e0 : (i 0).val = t.val / 17) (e1 : (i 1).val = 256 * (t.val % 17) + (y 1).val) (e2 : (i 2).val = (y 2).val) :
    sAt m c t y = wholeS (dm m c) (proj m c) (bias m c) i := by
  have ey : y = ix3 (n0 := 1) (n1 := 256) (n2 := 1024) 0 (y 1) (y 2) := by
    funext a
    match a with
    | ⟨0, _⟩ => exact Fin.ext (Nat.lt_one_iff.mp (y 0).isLt)
    | ⟨1, _⟩ => rfl
    | ⟨2, _⟩ => rfl
  have e2' : i 2 = (y 2 : Fin 1024) := Fin.ext e2
  unfold wholeS sAt
  refine (congrArg _ ey).trans ((storedS_apply _ _ _ (y 1) (y 2)).trans ?_)
  rw [e2']
  exact congrArg₂ (fun a b : EReal => a * b) (dm_block m c t h (y 1) (y 2) i e0 e1 e2)
    (gate_block m c t h (y 1) (up (y 2)) (i 0) (i 1) e0 e1 _ _ rfl rfl)

/-- A point's block is a block of the gates' gradient. -/
theorem block_G (c : Dev nD) (t : Fin cfg0.N) (y : S1x256x2048.Idx) (i : S2x4352x2048.Idx)
    (e0 : (i 0).val = t.val / 17) (e1 : (i 1).val = 256 * (t.val % 17) + (y 1).val) (e2 : (i 2).val = (y 2).val) :
    gAt m c t y = wholeG (dm m c) (proj m c) (ps m c) (ss m c) (bias m c) i := by
  have y1 : (y 1).val < 256 := (y 1).isLt
  have y2 : (y 2).val < 2048 := (y 2).isLt
  have ht : t.val < 34 := t.isLt
  unfold gAt
  by_cases h : t.val % 17 = 16
  · rw [if_pos h, noneG_apply, wholeG_past _ _ _ _ _ i (by rw [e1, h]; omega)]
  · rw [if_neg h]
    have hr : (i 1).val < 4096 := by rw [e1]; omega
    have part : ∀ (q' : Fin 2048), (i 2).val = q'.val →
        y = ix3 (n0 := 1) (n1 := 256) (n2 := 2048) 0 (y 1) q' ∧ i = ix3 (n0 := 2) (i 0) (among ⟨(i 1).val, hr⟩) q' := fun q' hq => by
      refine ⟨funext fun a => ?_, funext fun a => ?_⟩
      · match a with
        | ⟨0, _⟩ => exact Fin.ext (Nat.lt_one_iff.mp (y 0).isLt)
        | ⟨1, _⟩ => rfl
        | ⟨2, _⟩ => exact Fin.ext (e2.symm.trans hq)
      · match a with
        | ⟨0, _⟩ => rfl
        | ⟨1, _⟩ => rfl
        | ⟨2, _⟩ => exact Fin.ext hq
    by_cases hq : (y 2).val < 1024
    · obtain ⟨ey, ei⟩ := part (lo ⟨(y 2).val, hq⟩) e2
      refine (congrArg _ ey).trans ((storedG_lo _ _ _ _ _ (y 1) ⟨(y 2).val, hq⟩).trans (Eq.trans ?_ ((congrArg _ ei).trans (wholeG_lo _ _ _ _ _ (i 0) ⟨(i 1).val, hr⟩ ⟨(y 2).val, hq⟩)).symm))
      rw [gate_block m c t h (y 1) _ (i 0) ⟨(i 1).val, hr⟩ e0 e1 (X0_1 m c t) (iblk m c 4 t) rfl rfl]
      exact congrArg₂ (fun a b : EReal => bent a b _) (dm_block m c t h (y 1) ⟨(y 2).val, hq⟩ _ e0 e1 rfl) (ps_block m c t h (y 1) ⟨(y 2).val, hq⟩ _ e0 e1 rfl)
    · have hq' : (y 2).val - 1024 < 1024 := by omega
      obtain ⟨ey, ei⟩ := part (up ⟨(y 2).val - 1024, hq'⟩) (by show (i 2).val = 1024 + ((y 2).val - 1024); omega)
      refine (congrArg _ ey).trans ((storedG_up _ _ _ _ _ (y 1) ⟨(y 2).val - 1024, hq'⟩).trans (Eq.trans ?_ ((congrArg _ ei).trans (wholeG_up _ _ _ _ _ (i 0) ⟨(i 1).val, hr⟩ ⟨(y 2).val - 1024, hq'⟩)).symm))
      rw [gate_block m c t h (y 1) _ (i 0) ⟨(i 1).val, hr⟩ e0 e1 (X0_1 m c t) (iblk m c 4 t) rfl rfl]
      exact congrArg₂ (fun a b : EReal => bent a b _) (dm_block m c t h (y 1) ⟨(y 2).val - 1024, hq'⟩ _ e0 e1 rfl) (ss_block m c t h (y 1) ⟨(y 2).val - 1024, hq'⟩ _ e0 e1 rfl)

theorem final_P (c : Dev nD) : (dats m 0 c).arrAt 5 cfg0.N = wholeP (dm m c) (proj m c) (bias m c) := by
  refine (dats m 0 c).arrAt_eq_of_covers 5 _ (by decide +kernel) fun t hf y => ?_
  blk_simp
  rw [after_5]
  refine block_P m c (holder t) (holder_stores t) y _ ?_ ?_ ?_
  · blk_simp; rw [(index_5 t hf).1]
  · blk_simp; rw [(index_5 t hf).2.1]; omega
  · blk_simp; rw [(index_5 t hf).2.2]; omega

theorem final_S (c : Dev nD) : (dats m 0 c).arrAt 6 cfg0.N = wholeS (dm m c) (proj m c) (bias m c) := by
  refine (dats m 0 c).arrAt_eq_of_covers 6 _ (by decide +kernel) fun t hf y => ?_
  blk_simp
  rw [after_6]
  refine block_S m c (holder t) (holder_stores t) y _ ?_ ?_ ?_
  · blk_simp; rw [(index_6 t hf).1]
  · blk_simp; rw [(index_6 t hf).2.1]; omega
  · blk_simp; rw [(index_6 t hf).2.2]; omega

theorem final_G (c : Dev nD) : (dats m 0 c).arrAt 7 cfg0.N = wholeG (dm m c) (proj m c) (ps m c) (ss m c) (bias m c) := by
  refine (dats m 0 c).arrAt_eq_of_covers 7 _ (by decide +kernel) fun t hf y => ?_
  blk_simp
  rw [after_7]
  refine block_G m c t y _ ?_ ?_ ?_
  · blk_simp; rw [(index_7 t).1]
  · blk_simp; rw [(index_7 t).2.1]; omega
  · blk_simp; rw [(index_7 t).2.2]; omega

/-- The run: the three results are the three gradients and the arguments stay. -/
theorem run : θ_run defs (onTc (τ := τ) (main (F := Ideal))) ⟨m, fun _ => 0, ρ⟩ fun r => ∀ c : Dev nD,
      r.2.mem ((c : Thread nD τ).loc main_v0_0) = wholeP (dm m c) (proj m c) (bias m c)
      ∧ r.2.mem ((c : Thread nD τ).loc main_v0_1) = wholeS (dm m c) (proj m c) (bias m c)
      ∧ r.2.mem ((c : Thread nD τ).loc main_v0_2) = wholeG (dm m c) (proj m c) (ps m c) (ss m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(p_array m h.1 c).trans (final_P m c), (s_array m h.1 c).trans (final_S m c),
    (g_array m h.1 c).trans (final_G m c), args_kept m h.1 c⟩) (run_grid m ρ)

end Cert.Kernel18Ideal.Grad

end
-- ==== Proof.Reference18Grad.lean ====
/-
  The reference of program "Kernel18", the derivative of the gated merge taken plainly, is what the kernel leaves.
-/
module

public import proofs.«01_k».proof.Proof.Kernel18Grad
public import proofs.«01_k».proof.Proof.Gen.Reference18Ideal.Run
public import proofs.«01_k».proof.Proof.Gen.Reference18Ideal.Read
public import proofs.«01_k».proof.Defs
public import Idealize.ShloMosaic.Lib.KernelVsHost

@[expose] public section

set_option maxRecDepth 16384

noncomputable section

namespace Cert.Reference18Ideal.Grad

open Cert.Reference18Ideal Cert.Reference18Ideal.Read Idealize.ShloMosaic Idealize.ShloMosaic.TcCoe Idealize.SL.Sem
open Idealize.ShloMosaic.ValueIdx
open Cert.Kernel18Ideal.Grad (logistic bent lo up among gateCol gate wholeP wholeS wholeG wholeG_lo wholeG_up wholeG_past)

variable (x0 : (⟨S2x4096x1024, .bf16⟩ : BufTy).Contents (Elt Ideal)) (x1 : (⟨S2x4352x9216, .bf16⟩ : BufTy).Contents (Elt Ideal))
    (x2 x3 : (⟨S2x4096x1024, .bf16⟩ : BufTy).Contents (Elt Ideal)) (x4 : (⟨S1x2048, .f32⟩ : BufTy).Contents (Elt Ideal))

/-- The reference's gates. -/
theorem gate_at (b : Fin 2) (r : Fin 4096) (q : Fin 2048) :
    val_main_v14 (F := Ideal) x1 x4 (ix3 (n0 := 2) b r q) = gate x1 x4 b r q := by
  rw [val_main_v14_apply, val_main_v13_apply, val_main_v12_apply, val_main_v11_apply, val_main_v10_apply, val_main_v9_apply,
    val_main_v8_apply, val_main_v7_apply, val_main_v6_apply, val_main_v5_apply, val_main_v2_apply, val_main_v0_apply]
  have e1 : idx_main_v0 (idx_main_v5 (ix3 (n0 := 2) b r q)) = ix3 (n0 := 2) b (among r) (gateCol q) := by
    funext a; fin_cases a <;> rfl
  have e4 : idx_main_v6 (idx_main_v7 (ix3 (n0 := 2) b r q)) = ix2 (n0 := 1) 0 q := by
    funext a; fin_cases a <;> rfl
  rw [e1, e4]
  show Ideal.div (Ideal.ofBits .f32 0x3F800000#32) (Ideal.ofBits .f32 0x3F800000#32
    + Ideal.exp (-(x1 (ix3 (n0 := 2) b (among r) (gateCol q)) + x4 (ix2 (n0 := 1) 0 q)))) = _
  rw [Ideal.ofBits_one_f32]
  rfl

theorem p_at (b : Fin 2) (r : Fin 4096) (q : Fin 1024) :
    val_main_v32 (F := Ideal) x0 x1 x4 (ix3 (n0 := 2) b r q) = wholeP x0 x1 x4 (ix3 (n0 := 2) b r q) := by
  rw [val_main_v32_apply, val_main_v26_apply, val_main_v18_apply, val_main_v1_apply]
  have e : idx_main_v18 (ix3 (n0 := 2) b r q) = ix3 (n0 := 2) b r (lo q) := by funext a; fin_cases a <;> rfl
  rw [e, gate_at]
  exact mul_comm (gate x1 x4 b r (lo q)) (x0 (ix3 (n0 := 2) b r q) : EReal)

theorem s_at (b : Fin 2) (r : Fin 4096) (q : Fin 1024) :
    val_main_v33 (F := Ideal) x0 x1 x4 (ix3 (n0 := 2) b r q) = wholeS x0 x1 x4 (ix3 (n0 := 2) b r q) := by
  rw [val_main_v33_apply, val_main_v23_apply, val_main_v20_apply, val_main_v1_apply]
  have e : idx_main_v20 (ix3 (n0 := 2) b r q) = ix3 (n0 := 2) b r (up q) := by funext a; fin_cases a <;> rfl
  rw [e, gate_at]
  exact mul_comm (gate x1 x4 b r (up q)) (x0 (ix3 (n0 := 2) b r q) : EReal)

/-- The slope of the gate. -/
theorem slope_at (b : Fin 2) (r : Fin 4096) (q : Fin 2048) :
    val_main_v17 (F := Ideal) x1 x4 (ix3 (n0 := 2) b r q) = gate x1 x4 b r q * (1 - gate x1 x4 b r q) := by
  rw [val_main_v17_apply, val_main_v16_apply, val_main_v15_apply, gate_at]
  show gate x1 x4 b r q * (Ideal.ofBits .f32 0x3F800000#32 - gate x1 x4 b r q) = _
  rw [Ideal.ofBits_one_f32]

/-- The two gradients of the gates' values, laid side by side with zeros around. -/
theorem sum_lo (b : Fin 2) (r : Fin 4096) (q : Fin 1024) :
    val_main_v29 (F := Ideal) x0 x2 x3 (ix3 (n0 := 2) b r (lo q)) = (x0 (ix3 (n0 := 2) b r q) : EReal) * x2 (ix3 (n0 := 2) b r q) := by
  have e25 : val_main_v25 (F := Ideal) x0 x3 (ix3 (n0 := 2) b r (lo q)) = Ideal.ofBits .f32 0x00000000#32 := by
    unfold val_main_v25
    refine (pad_apply_of_not_inside _ _ _ _ _ _ _ _ 2 ?_).trans rfl
    rintro ⟨h, -, -⟩
    have h' : 1024 ≤ q.val := h
    have := q.isLt
    omega
  have e28 : val_main_v28 (F := Ideal) x0 x2 (ix3 (n0 := 2) b r (lo q)) = (x0 (ix3 (n0 := 2) b r q) : EReal) * x2 (ix3 (n0 := 2) b r q) := by
    unfold val_main_v28
    refine (pad_apply_of_inside _ _ _ _ _ _ _ _ (ix3 (n0 := 2) b r q) fun a => ?_).trans rfl
    match a with
    | ⟨0, _⟩ => show b.val = 0 + b.val * (0 + 1); omega
    | ⟨1, _⟩ => show r.val = 0 + r.val * (0 + 1); omega
    | ⟨2, _⟩ => show q.val = 0 + q.val * (0 + 1); omega
  rw [val_main_v29_apply]
  refine (congrArg₂ (fun a b : EReal => a + b) e25 e28).trans ?_
  show Ideal.ofBits .f32 0x00000000#32 + _ = _
  rw [Ideal.ofBits_zero_f32, zero_add]

theorem sum_up (b : Fin 2) (r : Fin 4096) (q : Fin 1024) :
    val_main_v29 (F := Ideal) x0 x2 x3 (ix3 (n0 := 2) b r (up q)) = (x0 (ix3 (n0 := 2) b r q) : EReal) * x3 (ix3 (n0 := 2) b r q) := by
  have e25 : val_main_v25 (F := Ideal) x0 x3 (ix3 (n0 := 2) b r (up q)) = (x0 (ix3 (n0 := 2) b r q) : EReal) * x3 (ix3 (n0 := 2) b r q) := by
    unfold val_main_v25
    refine (pad_apply_of_inside _ _ _ _ _ _ _ _ (ix3 (n0 := 2) b r q) fun a => ?_).trans rfl
    match a with
    | ⟨0, _⟩ => show b.val = 0 + b.val * (0 + 1); omega
    | ⟨1, _⟩ => show r.val = 0 + r.val * (0 + 1); omega
    | ⟨2, _⟩ => show 1024 + q.val = 1024 + q.val * (0 + 1); omega
  have e28 : val_main_v28 (F := Ideal) x0 x2 (ix3 (n0 := 2) b r (up q)) = Ideal.ofBits .f32 0x00000000#32 := by
    unfold val_main_v28
    refine (pad_apply_of_not_inside _ _ _ _ _ _ _ _ 2 ?_).trans rfl
    rintro ⟨-, -, h⟩
    have h' : (1024 + q.val - 0) / (0 + 1) < 1024 := h
    omega
  rw [val_main_v29_apply]
  refine (congrArg₂ (fun a b : EReal => a + b) e25 e28).trans ?_
  show _ + Ideal.ofBits .f32 0x00000000#32 = _
  rw [Ideal.ofBits_zero_f32, add_zero]

/-- Over the rows of `x`, before the zeros of the context are put under them. -/
theorem v31_at (b : Fin 2) (r : Fin 4096) (q : Fin 2048) :
    val_main_v34 (F := Ideal) x0 x1 x2 x3 x4 (ix3 (n0 := 2) b (among r) q) = val_main_v30 (F := Ideal) x0 x1 x2 x3 x4 (ix3 (n0 := 2) b r q) := by
  rw [val_main_v34_apply]
  show val_main_v31 (F := Ideal) x0 x1 x2 x3 x4 (ix3 (n0 := 2) b (among r) q) = _
  unfold val_main_v31
  refine pad_apply_of_inside _ _ _ _ _ _ _ _ (ix3 (n0 := 2) b r q) fun a => ?_
  match a with
  | ⟨0, _⟩ => show b.val = 0 + b.val * (0 + 1); omega
  | ⟨1, _⟩ => show r.val = 0 + r.val * (0 + 1); omega
  | ⟨2, _⟩ => show q.val = 0 + q.val * (0 + 1); omega

theorem g_lo (b : Fin 2) (r : Fin 4096) (q : Fin 1024) :
    val_main_v34 (F := Ideal) x0 x1 x2 x3 x4 (ix3 (n0 := 2) b (among r) (lo q)) = wholeG x0 x1 x2 x3 x4 (ix3 (n0 := 2) b (among r) (lo q)) := by
  rw [v31_at, val_main_v30_apply, sum_lo, slope_at, wholeG_lo]
  exact (mul_assoc (_ : EReal) _ _).symm

theorem g_up (b : Fin 2) (r : Fin 4096) (q : Fin 1024) :
    val_main_v34 (F := Ideal) x0 x1 x2 x3 x4 (ix3 (n0 := 2) b (among r) (up q)) = wholeG x0 x1 x2 x3 x4 (ix3 (n0 := 2) b (among r) (up q)) := by
  rw [v31_at, val_main_v30_apply, sum_up, slope_at, wholeG_up]
  exact (mul_assoc (_ : EReal) _ _).symm

theorem g_past (i : S2x4352x2048.Idx) (h : ¬(i 1).val < 4096) :
    val_main_v34 (F := Ideal) x0 x1 x2 x3 x4 i = wholeG x0 x1 x2 x3 x4 i := by
  rw [wholeG_past _ _ _ _ _ i h, val_main_v34_apply]
  show val_main_v31 (F := Ideal) x0 x1 x2 x3 x4 i = _
  unfold val_main_v31
  refine (pad_apply_of_not_inside _ _ _ _ _ _ _ _ 1 ?_).trans Ideal.ofBits_zero_f32
  rintro ⟨-, -, h'⟩
  have h'' : ((i 1).val - 0) / (0 + 1) < 4096 := h'
  omega

theorem stage_P : val_main_v32 (F := Ideal) x0 x1 x4 = wholeP x0 x1 x4 := by
  funext i
  have ei : i = ix3 (n0 := 2) (n1 := 4096) (n2 := 1024) (i 0) (i 1) (i 2) := by funext a; fin_cases a <;> rfl
  exact (congrArg _ ei).trans ((p_at x0 x1 x4 (i 0) (i 1) (i 2)).trans (congrArg _ ei.symm))

theorem stage_S : val_main_v33 (F := Ideal) x0 x1 x4 = wholeS x0 x1 x4 := by
  funext i
  have ei : i = ix3 (n0 := 2) (n1 := 4096) (n2 := 1024) (i 0) (i 1) (i 2) := by funext a; fin_cases a <;> rfl
  exact (congrArg _ ei).trans ((s_at x0 x1 x4 (i 0) (i 1) (i 2)).trans (congrArg _ ei.symm))

theorem stage_G : val_main_v34 (F := Ideal) x0 x1 x2 x3 x4 = wholeG x0 x1 x2 x3 x4 := by
  funext i
  by_cases h : (i 1).val < 4096
  · have h2 : (i 2).val < 2048 := (i 2).isLt
    have part : ∀ q' : Fin 2048, (i 2).val = q'.val → i = ix3 (n0 := 2) (i 0) (among ⟨(i 1).val, h⟩) q' := fun q' hq => funext fun a => by
      match a with
      | ⟨0, _⟩ => rfl
      | ⟨1, _⟩ => rfl
      | ⟨2, _⟩ => exact Fin.ext hq
    by_cases h' : (i 2).val < 1024
    · have ei := part (lo ⟨(i 2).val, h'⟩) rfl
      exact (congrArg _ ei).trans ((g_lo x0 x1 x2 x3 x4 (i 0) ⟨(i 1).val, h⟩ ⟨(i 2).val, h'⟩).trans (congrArg _ ei.symm))
    · have hq : (i 2).val - 1024 < 1024 := by omega
      have ei := part (up ⟨(i 2).val - 1024, hq⟩) (by show (i 2).val = 1024 + ((i 2).val - 1024); omega)
      exact (congrArg _ ei).trans ((g_up x0 x1 x2 x3 x4 (i 0) ⟨(i 1).val, h⟩ ⟨(i 2).val - 1024, hq⟩).trans (congrArg _ ei.symm))
  · exact g_past x0 x1 x2 x3 x4 i h

/-- The run: the results are the three gradients and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
          = wholeP (m ((c.tc : Thread nD τ).loc main_arg0)) (m ((c.tc : Thread nD τ).loc main_arg1))
              (m ((c.tc : Thread nD τ).loc main_arg4))
      ∧ r.2.mem ((c.tc : Thread nD τ).loc main_v33)
          = wholeS (m ((c.tc : Thread nD τ).loc main_arg0)) (m ((c.tc : Thread nD τ).loc main_arg1))
              (m ((c.tc : Thread nD τ).loc main_arg4))
      ∧ r.2.mem ((c.tc : Thread nD τ).loc main_v34)
          = wholeG (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (val_main_v32_eq _ _ _)).trans (stage_P _ _ _),
    ((h c).2.1.trans (val_main_v33_eq _ _ _)).trans (stage_S _ _ _),
    ((h c).2.2.1.trans (val_main_v34_eq _ _ _ _ _)).trans (stage_G _ _ _ _ _), (h c).2.2.2⟩) (Value.run m ρ)

/-- The frame: the arguments stay, and there is no semaphore. -/
theorem frame : Cert.quiescent_Reference18Ideal := fun m ρ _ =>
  (θ_run defs _ _).mono (fun r h => ⟨fun c => (h c).2.2.2, Idealize.ShloMosaic.sem_eq_zero_of_no_sems (by decide) r.2⟩) (run m ρ)

end Cert.Reference18Ideal.Grad

namespace Cert.Proof

open Idealize.ShloMosaic Idealize.ShloMosaic.TcCoe Idealize.SL.Sem
open Cert.Kernel18Ideal.Grad (wholeP wholeS wholeG dm proj ps ss bias)

/-- Kernel and reference leave the same three results. -/
theorem algebraic18 : Cert.algebraic_Kernel18Ideal_Reference18Ideal := by
  intro m g m' g' _ hm
  refine ⟨fun c => wholeP (dm m c) (proj m c) (bias m c), fun c => wholeS (dm m c) (proj m c) (bias m c),
    fun c => wholeG (dm m c) (proj m c) (ps m c) (ss m c) (bias m c), Cert.Kernel18Ideal.Grad.run m g, ?_⟩
  refine (θ_run _ _ _).mono (fun _ h c => ?_) (Cert.Reference18Ideal.Grad.run m' g')
  obtain ⟨e0, e1, e2, e3, e4⟩ := hm c
  refine ⟨(h c).1.trans ?_, (h c).2.1.trans ?_, (h c).2.2.1.trans ?_, (h c).2.2.2⟩
  · rw [e0, e1, e4]
  · rw [e0, e1, e4]
  · rw [e0, e1, e2, e3, e4]

end Cert.Proof

end
-- ==== Proof.Kernel19Step.lean ====
/-
  What the kernel of program "Kernel19" computes over the extended reals: `y = f + b + d x`, the scan's two directions with
  the skipped input, and the gated group norm `u s w` of it: `u = y z σ(z)`, `s` one over the root of the mean of the
  squares of `u` over a group of 512 columns, plus a small constant. Each point computes 512 positions of one example, whole.
-/
module

public import proofs.«01_k».proof.Proof.Gen.Kernel19Ideal.Value
public import Idealize.ShloMosaic.Lib.Pipeline.ValueKit.Geometry
public import Idealize.ShloMosaic.Lib.Pipeline.ValueKit.Acc
public import Idealize.ShloMosaic.Lib.KernelVsHost
public import Idealize.ShloMosaic.Lib.IdealHost
public import Idealize.ShloMosaic.Lib.ValueLayout

@[expose] public section

set_option maxRecDepth 16384

noncomputable section

namespace Cert.Kernel19Ideal.Step

open Cert.Kernel19Ideal Cert.Kernel19Ideal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The number of columns of a group, and the small constant under the root. -/
def len : EReal := Ideal.ofBits .f32 0x44000000#32
def eps : EReal := Ideal.ofBits .f32 0x358637BD#32
/-- The logistic function `1 / (1 + e⁻ˣ)`. -/
def logistic (x : EReal) : EReal := Ideal.div 1 (1 + Ideal.exp (-x))
/-- What a group is scaled by. -/
def scale (u : Fin 512 → EReal) : EReal := Ideal.rsqrt (Ideal.div (∑ k, u k * u k) len + eps)
/-- Column `j` of the group of column `q`. -/
abbrev fellow (q : Fin 2048) (j : Fin 512) : Fin 2048 := ⟨512 * (q.val / 512) + j.val, by have := q.isLt; have := j.isLt; omega⟩
/-- Column `j` of the group that starts at column `o`. -/
abbrev col (o : ℕ) (ho : o ≤ 1536) (j : Fin 512) : Fin 2048 := ⟨o + j.val, by have := j.isLt; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- A column of one number per row, read at a place of the block it is spread over. -/
theorem spread_apply (v : FVec Ideal S512x1 .f32) (r : Fin 512) (q : Fin 512) :
    broadcastTo S512x512 v broadcasts_S512x1_S512x512 (ix2 r q) = v (ix2 (n1 := 1) r 0) := by
  refine broadcastTo_apply v _ (ix2 r q) (ix2 (n1 := 1) r 0) fun ax => ?_
  match ax with
  | ⟨0, _⟩ => rfl
  | ⟨1, _⟩ => rfl

/-- A sum over the columns, kept as a column of its own. -/
theorem sum_apply (v : FVec Ideal S512x512 .f32) (r : Fin 512) :
    shapeCast S512x1 (multiReduction .add [1] S512 v 0x00000000#32 reduces_S512x512_S512 (.inl rfl) rfl) shapeCasts_S512_S512x1
      (ix2 (n1 := 1) r 0) = ∑ k : Fin 512, v (ix2 r k) := by
  refine (shapeCast_apply _ _ _ (ix1 r) ?_).trans ((Ideal.multiReduction_add_single v _ _ _ _ (ix1 r)).trans ?_)
  · rw [Shape.rowMajor_val_two, Shape.rowMajor_val_one]
    show r.val = r.val * 1 + 0
    omega
  · refine Finset.sum_congr rfl fun k _ => congrArg v (funext fun a => ?_)
    match a with
    | ⟨0, _⟩ => rfl
    | ⟨1, _⟩ => rfl

theorem slice_apply (u : FVec Ideal S512x2048 .f32) (o : ℕ) (ho : o ≤ 1536) (h : S512x2048.Slices ![0, o] S512x512) (r q : Fin 512) :
    extractStridedSlice S512x512 ![0, o] u h (ix2 r q) = u (ix2 r (col o ho q)) := by
  refine extractStridedSlice_apply _ _ _ _ _ fun a => ?_
  match a with
  | ⟨0, _⟩ => exact (Nat.zero_add _).symm
  | ⟨1, _⟩ => rfl

/-- A group, scaled. -/
theorem group_apply (u : FVec Ideal S512x2048 .f32) (o : ℕ) (ho : o ≤ 1536) (h : S512x2048.Slices ![0, o] S512x512) (r q : Fin 512) :
    mulf (extractStridedSlice S512x512 ![0, o] u h) (broadcastTo S512x512 (rsqrt (addf (divf
      (shapeCast S512x1 (multiReduction .add [1] S512 (mulf (extractStridedSlice S512x512 ![0, o] u h) (extractStridedSlice S512x512 ![0, o] u h))
        0x00000000#32 reduces_S512x512_S512 (.inl rfl) rfl) shapeCasts_S512_S512x1)
      (broadcast S512x1 (Scalar.ofBits (F := Ideal) .f32 0x44000000#32))) (broadcast S512x1 (Scalar.ofBits (F := Ideal) .f32 0x358637BD#32))))
      broadcasts_S512x1_S512x512) (ix2 r q)
      = u (ix2 r (col o ho q)) * scale fun j => u (ix2 r (col o ho j)) := by
  refine congrArg₂ (fun a b : EReal => a * b) (slice_apply u o ho h r q) ((spread_apply _ r q).trans ?_)
  show Ideal.rsqrt (Ideal.div (shapeCast S512x1 (multiReduction (F := Ideal) .add [1] S512 _ 0x00000000#32 reduces_S512x512_S512 (.inl rfl) rfl) shapeCasts_S512_S512x1
      (ix2 (n1 := 1) r 0)) len + eps) = _
  rw [sum_apply]
  unfold scale
  refine congrArg (fun a => Ideal.rsqrt (Ideal.div a len + eps)) (Finset.sum_congr rfl fun k _ => ?_)
  exact congrArg₂ (fun a b : EReal => a * b) (slice_apply u o ho h r k) (slice_apply u o ho h r k)

theorem pay1_apply (v0 v2 : Vec Ideal S1x512x2048 .f32) (v5 : Vec Ideal S1x2048 .f32) (v6 : Vec Ideal S1x512x2048 .bf16)
    (r : Fin 512) (q : Fin 2048) : k0_pay1 (F := Ideal) v0 v2 v5 v6 (ix2 r q)
      = (v0 (ix3 (n0 := 1) 0 r q) + v2 (ix3 (n0 := 1) 0 r q) : EReal) + v5 (ix2 (n0 := 1) 0 q) * v6 (ix3 (n0 := 1) 0 r q) := by
  unfold k0_pay1
  refine congrArg₂ (fun a b : EReal => a + b) (congrArg₂ (fun a b : EReal => a + b) (shapeCast_1ab_ab_apply v0 _ r q) (shapeCast_1ab_ab_apply v2 _ r q))
    (congrArg₂ (fun a b : EReal => a * b) (broadcastTo_1b_ab_apply v5 _ r q) (shapeCast_1ab_ab_apply v6 _ r q))

theorem pay3_apply (v0 v2 : Vec Ideal S1x512x2048 .f32) (v5 : Vec Ideal S1x2048 .f32) (v6 v16 : Vec Ideal S1x512x2048 .bf16)
    (r : Fin 512) (q : Fin 2048) (z : EReal) (hz : v16 (ix3 (n0 := 1) 0 r q) = z) : k0_pay3 (F := Ideal) v0 v2 v5 v6 v16 (ix2 r q)
      = k0_pay1 (F := Ideal) v0 v2 v5 v6 (ix2 r q) * (z * logistic z) := by
  have e : shapeCast S512x2048 v16 shapeCasts_S1x512x2048_S512x2048 (ix2 r q) = z := (shapeCast_1ab_ab_apply v16 _ r q).trans hz
  unfold k0_pay3
  show k0_pay1 (F := Ideal) v0 v2 v5 v6 (ix2 r q) * (shapeCast S512x2048 v16 shapeCasts_S1x512x2048_S512x2048 (ix2 r q)
    * Ideal.div (Ideal.ofBits .f32 0x3F800000#32) (Ideal.ofBits .f32 0x3F800000#32 + Ideal.exp (Ideal.ofBits .f32 0x00000000#32
      - shapeCast S512x2048 v16 shapeCasts_S1x512x2048_S512x2048 (ix2 r q)))) = _
  rw [e, Ideal.ofBits_one_f32, Ideal.ofBits_zero_f32, zero_sub]
  rfl

theorem part0_apply (v0 v2 : Vec Ideal S1x512x2048 .f32) (v5 : Vec Ideal S1x2048 .f32) (v6 v16 : Vec Ideal S1x512x2048 .bf16)
    (v73 : Vec Ideal S1x2048 .f32) (r q : Fin 512) :
    k0_pay6 (F := Ideal) (k0_pay3 v0 v2 v5 v6 v16) (k0_pay4 v0 v2 v5 v6 v16) (k0_pay5 v0 v2 v5 v6 v16) (Scalar.ofBits .f32 0x358637BD#32) v73
        (ix3 (n0 := 1) 0 r (col 0 (by decide) q))
      = ((k0_pay3 (F := Ideal) v0 v2 v5 v6 v16 (ix2 r (col 0 (by decide) q))
          * scale fun j => k0_pay3 (F := Ideal) v0 v2 v5 v6 v16 (ix2 r (col 0 (by decide) j)) : EReal)) * v73 (ix2 (n0 := 1) 0 (col 0 (by decide) q)) := by
  unfold k0_pay6 k0_pay5 k0_pay4
  refine (shapeCast_ab_1ab_apply _ _ 0 r _).trans (congrArg₂ (fun a b : EReal => a * b) ?_ (broadcastTo_1b_ab_apply v73 _ r _))
  refine (concatenate_apply_piece (1 : Fin S512x2048.rank) _ _ (ix2 r (col 0 (by decide) q)) 0 (by show 0 < 4; decide) S512x512 _ rfl rfl 0
    (by simp only [List.take_succ_cons, List.take_zero, List.map_cons, List.map_nil, List.sum_cons, List.sum_nil]) (ix2 r q) (fun b hb => ?_) ?_).trans (group_apply _ 0 (by decide) _ r q)
  · match b with
    | ⟨0, _⟩ => rfl
    | ⟨1, _⟩ => exact absurd rfl hb
  · rfl

theorem part1_apply (v0 v2 : Vec Ideal S1x512x2048 .f32) (v5 : Vec Ideal S1x2048 .f32) (v6 v16 : Vec Ideal S1x512x2048 .bf16)
    (v73 : Vec Ideal S1x2048 .f32) (r q : Fin 512) :
    k0_pay6 (F := Ideal) (k0_pay3 v0 v2 v5 v6 v16) (k0_pay4 v0 v2 v5 v6 v16) (k0_pay5 v0 v2 v5 v6 v16) (Scalar.ofBits .f32 0x358637BD#32) v73
        (ix3 (n0 := 1) 0 r (col 512 (by decide) q))
      = ((k0_pay3 (F := Ideal) v0 v2 v5 v6 v16 (ix2 r (col 512 (by decide) q))
          * scale fun j => k0_pay3 (F := Ideal) v0 v2 v5 v6 v16 (ix2 r (col 512 (by decide) j)) : EReal)) * v73 (ix2 (n0 := 1) 0 (col 512 (by decide) q)) := by
  unfold k0_pay6 k0_pay5 k0_pay4
  refine (shapeCast_ab_1ab_apply _ _ 0 r _).trans (congrArg₂ (fun a b : EReal => a * b) ?_ (broadcastTo_1b_ab_apply v73 _ r _))
  refine (concatenate_apply_piece (1 : Fin S512x2048.rank) _ _ (ix2 r (col 512 (by decide) q)) 1 (by show 1 < 4; decide) S512x512 _ rfl rfl 512
    (by simp only [List.take_succ_cons, List.take_zero, List.map_cons, List.map_nil, List.sum_cons, List.sum_nil]; decide +kernel) (ix2 r q) (fun b hb => ?_) ?_).trans (group_apply _ 512 (by decide) _ r q)
  · match b with
    | ⟨0, _⟩ => rfl
    | ⟨1, _⟩ => exact absurd rfl hb
  · rfl

theorem part2_apply (v0 v2 : Vec Ideal S1x512x2048 .f32) (v5 : Vec Ideal S1x2048 .f32) (v6 v16 : Vec Ideal S1x512x2048 .bf16)
    (v73 : Vec Ideal S1x2048 .f32) (r q : Fin 512) :
    k0_pay6 (F := Ideal) (k0_pay3 v0 v2 v5 v6 v16) (k0_pay4 v0 v2 v5 v6 v16) (k0_pay5 v0 v2 v5 v6 v16) (Scalar.ofBits .f32 0x358637BD#32) v73
        (ix3 (n0 := 1) 0 r (col 1024 (by decide) q))
      = ((k0_pay3 (F := Ideal) v0 v2 v5 v6 v16 (ix2 r (col 1024 (by decide) q))
          * scale fun j => k0_pay3 (F := Ideal) v0 v2 v5 v6 v16 (ix2 r (col 1024 (by decide) j)) : EReal)) * v73 (ix2 (n0 := 1) 0 (col 1024 (by decide) q)) := by
  unfold k0_pay6 k0_pay5 k0_pay4
  refine (shapeCast_ab_1ab_apply _ _ 0 r _).trans (congrArg₂ (fun a b : EReal => a * b) ?_ (broadcastTo_1b_ab_apply v73 _ r _))
  refine (concatenate_apply_piece (1 : Fin S512x2048.rank) _ _ (ix2 r (col 1024 (by decide) q)) 2 (by show 2 < 4; decide) S512x512 _ rfl rfl 1024
    (by simp only [List.take_succ_cons, List.take_zero, List.map_cons, List.map_nil, List.sum_cons, List.sum_nil]; decide +kernel) (ix2 r q) (fun b hb => ?_) ?_).trans (group_apply _ 1024 (by decide) _ r q)
  · match b with
    | ⟨0, _⟩ => rfl
    | ⟨1, _⟩ => exact absurd rfl hb
  · rfl

theorem part3_apply (v0 v2 : Vec Ideal S1x512x2048 .f32) (v5 : Vec Ideal S1x2048 .f32) (v6 v16 : Vec Ideal S1x512x2048 .bf16)
    (v73 : Vec Ideal S1x2048 .f32) (r q : Fin 512) :
    k0_pay6 (F := Ideal) (k0_pay3 v0 v2 v5 v6 v16) (k0_pay4 v0 v2 v5 v6 v16) (k0_pay5 v0 v2 v5 v6 v16) (Scalar.ofBits .f32 0x358637BD#32) v73
        (ix3 (n0 := 1) 0 r (col 1536 (by decide) q))
      = ((k0_pay3 (F := Ideal) v0 v2 v5 v6 v16 (ix2 r (col 1536 (by decide) q))
          * scale fun j => k0_pay3 (F := Ideal) v0 v2 v5 v6 v16 (ix2 r (col 1536 (by decide) j)) : EReal)) * v73 (ix2 (n0 := 1) 0 (col 1536 (by decide) q)) := by
  unfold k0_pay6 k0_pay5 k0_pay4
  refine (shapeCast_ab_1ab_apply _ _ 0 r _).trans (congrArg₂ (fun a b : EReal => a * b) ?_ (broadcastTo_1b_ab_apply v73 _ r _))
  refine (concatenate_apply_piece (1 : Fin S512x2048.rank) _ _ (ix2 r (col 1536 (by decide) q)) 3 (by show 3 < 4; decide) S512x512 _ rfl rfl 1536
    (by simp only [List.take_succ_cons, List.take_zero, List.map_cons, List.map_nil, List.sum_cons, List.sum_nil]; decide +kernel) (ix2 r q) (fun b hb => ?_) ?_).trans (group_apply _ 1536 (by decide) _ r q)
  · match b with
    | ⟨0, _⟩ => rfl
    | ⟨1, _⟩ => exact absurd rfl hb
  · rfl

/-- What a point stores for the normalised rows. -/
theorem pay6_apply (v0 v2 : Vec Ideal S1x512x2048 .f32) (v5 : Vec Ideal S1x2048 .f32) (v6 v16 : Vec Ideal S1x512x2048 .bf16)
    (v73 : Vec Ideal S1x2048 .f32) (r : Fin 512) (q : Fin 2048) :
    k0_pay6 (F := Ideal) (k0_pay3 v0 v2 v5 v6 v16) (k0_pay4 v0 v2 v5 v6 v16) (k0_pay5 v0 v2 v5 v6 v16) (Scalar.ofBits .f32 0x358637BD#32) v73
        (ix3 (n0 := 1) 0 r q)
      = ((k0_pay3 (F := Ideal) v0 v2 v5 v6 v16 (ix2 r q)
          * scale fun j => k0_pay3 (F := Ideal) v0 v2 v5 v6 v16 (ix2 r (fellow q j)) : EReal)) * v73 (ix2 (n0 := 1) 0 q) := by
  have hq := q.isLt
  have key : ∀ (o : ℕ) (ho : o ≤ 1536), o = 512 * (q.val / 512) → ∃ k : Fin 512, q = col o ho k ∧ ∀ j, fellow q j = col o ho j := by
    intro o ho e
    refine ⟨⟨q.val - o, by omega⟩, Fin.ext ?_, fun j => Fin.ext ?_⟩
    · show q.val = o + (q.val - o); omega
    · show 512 * (q.val / 512) + j.val = o + j.val; omega
  rcases (by omega : 0 = 512 * (q.val / 512) ∨ 512 = 512 * (q.val / 512) ∨ 1024 = 512 * (q.val / 512) ∨ 1536 = 512 * (q.val / 512)) with h | h | h | h
  · obtain ⟨k, e, f⟩ := key 0 (by decide) h
    simp only [f]
    rw [e]
    exact part0_apply v0 v2 v5 v6 v16 v73 r k
  · obtain ⟨k, e, f⟩ := key 512 (by decide) h
    simp only [f]
    rw [e]
    exact part1_apply v0 v2 v5 v6 v16 v73 r k
  · obtain ⟨k, e, f⟩ := key 1024 (by decide) h
    simp only [f]
    rw [e]
    exact part2_apply v0 v2 v5 v6 v16 v73 r k
  · obtain ⟨k, e, f⟩ := key 1536 (by decide) h
    simp only [f]
    rw [e]
    exact part3_apply v0 v2 v5 v6 v16 v73 r k

theorem out6_apply (c : Dev nD) (i : grid0.Coords) (a2 : Memref sig .tc .vmem S1x512x2048 .f32) (h2 : a2.IsWhole) (a3 : Memref sig .tc .vmem S1x512x2048 .f32) (h3 : a3.IsWhole) (a4 : Memref sig .tc .vmem S1x512x2048 .bf16) (h4 : a4.IsWhole) (a5 : Memref sig .tc .vmem S1x512x2048 .bf16) (h5 : a5.IsWhole) (a6 : Memref sig .tc .vmem S1x2048 .f32) (h6 : a6.IsWhole) (a7 : Memref sig .tc .vmem S1x2048 .f32) (h7 : a7.IsWhole) (a8 : Memref sig .tc .vmem S1x512x2048 .bf16) (h8 : a8.IsWhole) (a9 : Memref sig .tc .vmem S1x512x2048 .bf16) (h9 : a9.IsWhole)
    (x0 x1 : Vec Ideal S1x512x2048 .f32) (x2 x3 : Vec Ideal S1x512x2048 .bf16) (x4 x5 : Vec Ideal S1x2048 .f32) :
    out0_A_6 (F := Ideal) c i a2 h2 a3 h3 a4 h4 a5 h5 a6 h6 a7 h7 a8 h8 a9 h9 x0 x1 x2 x3 x4 x5 = k0_pay6 (k0_pay3 x0 x1 x4 x2 x3) (k0_pay4 x0 x1 x4 x2 x3) (k0_pay5 x0 x1 x4 x2 x3) (Scalar.ofBits .f32 0x358637BD#32) x5 := by
  unfold out0_A_6
  rw [View.read_writes_eq_canon _ _ _ (cover0_A_6 c i a2 h2 a3 h3 a4 h4 a5 h5 a6 h6 a7 h7 a8 h8 a9 h9 x0 x1 x2 x3 x4 x5)]
  unfold kernelRun0_A
  dsimp only
  rw [View.canon_unit_zero hz3]
  unfold kernelRun0_A.sl.r_3 kernelRun0_A.sl.r kernelRun0_A.sl.r_1 kernelRun0_A.sl.r_2 kernelRun0_A.sl.cst_20
  dsimp only
  simp only [View.readAt_eq_ld, h2.read_unread, h3.read_unread, h4.read_unread, h5.read_unread, h6.read_unread, h7.read_unread,
    View.ld_unit_zero (S := S1x512x2048) hz3, View.ld_unit_zero (S := S1x2048) hz2]

theorem out7_apply (c : Dev nD) (i : grid0.Coords) (a2 : Memref sig .tc .vmem S1x512x2048 .f32) (h2 : a2.IsWhole) (a3 : Memref sig .tc .vmem S1x512x2048 .f32) (h3 : a3.IsWhole) (a4 : Memref sig .tc .vmem S1x512x2048 .bf16) (h4 : a4.IsWhole) (a5 : Memref sig .tc .vmem S1x512x2048 .bf16) (h5 : a5.IsWhole) (a6 : Memref sig .tc .vmem S1x2048 .f32) (h6 : a6.IsWhole) (a7 : Memref sig .tc .vmem S1x2048 .f32) (h7 : a7.IsWhole) (a8 : Memref sig .tc .vmem S1x512x2048 .bf16) (h8 : a8.IsWhole) (a9 : Memref sig .tc .vmem S1x512x2048 .bf16) (h9 : a9.IsWhole)
    (x0 x1 : Vec Ideal S1x512x2048 .f32) (x2 x3 : Vec Ideal S1x512x2048 .bf16) (x4 x5 : Vec Ideal S1x2048 .f32) :
    out0_A_7 (F := Ideal) c i a2 h2 a3 h3 a4 h4 a5 h5 a6 h6 a7 h7 a8 h8 a9 h9 x0 x1 x2 x3 x4 x5 = k0_pay2 x0 x1 x4 x2 := by
  unfold out0_A_7
  rw [View.read_writes_eq_canon _ _ _ (cover0_A_7 c i a2 h2 a3 h3 a4 h4 a5 h5 a6 h6 a7 h7 a8 h8 a9 h9 x0 x1 x2 x3 x4 x5)]
  unfold kernelRun0_A
  dsimp only
  rw [View.canon_unit_zero hz3]
  simp only [View.readAt_eq_ld, h2.read_unread, h3.read_unread, h4.read_unread, h5.read_unread, h6.read_unread, h7.read_unread,
    View.ld_unit_zero (S := S1x512x2048) hz3, View.ld_unit_zero (S := S1x2048) hz2]

/-- The scan's two directions, the convolved input, the projection, the skip weights and the norm's weights. -/
abbrev forth (c : Dev nD) : S2x4352x2048.Idx → EReal := m ((c : Thread nD τ).loc main_arg0)
abbrev back (c : Dev nD) : S2x4352x2048.Idx → EReal := m ((c : Thread nD τ).loc main_arg1)
abbrev conv (c : Dev nD) : S2x4352x3072.Idx → EReal := m ((c : Thread nD τ).loc main_arg2)
abbrev proj (c : Dev nD) : S2x4352x9216.Idx → EReal := m ((c : Thread nD τ).loc main_arg3)
abbrev skip (c : Dev nD) : S1x2048.Idx → EReal := m ((c : Thread nD τ).loc main_arg4)
abbrev gain (c : Dev nD) : S1x2048.Idx → EReal := m ((c : Thread nD τ).loc main_arg5)

/-- A latent row among all rows. -/
abbrev among (r : Fin 4096) : Fin 4352 := ⟨r.val, lt_trans r.isLt (by decide)⟩

/-- Both directions of the scan and the skipped input. -/
def joined (x0 x1 : S2x4352x2048.Idx → EReal) (x2 : S2x4352x3072.Idx → EReal) (x4 : S1x2048.Idx → EReal) (b : Fin 2) (r : Fin 4096) (q : Fin 2048) : EReal :=
  (x0 (ix3 (n0 := 2) b (among r) q) + x1 (ix3 (n0 := 2) b (among r) q))
    + x4 (ix2 (n0 := 1) 0 q) * x2 (ix3 (n0 := 2) (n2 := 3072) b (among r) ⟨q.val, lt_trans q.isLt (by decide)⟩)

/-- The gate's input. -/
def gate (x3 : S2x4352x9216.Idx → EReal) (b : Fin 2) (r : Fin 4096) (q : Fin 2048) : EReal :=
  x3 (ix3 (n0 := 2) (n2 := 9216) b (among r) ⟨2048 + q.val, by have := q.isLt; omega⟩)

/-- The joined rows behind their gate. -/
def gated (x0 x1 : S2x4352x2048.Idx → EReal) (x2 : S2x4352x3072.Idx → EReal) (x3 : S2x4352x9216.Idx → EReal) (x4 : S1x2048.Idx → EReal)
    (b : Fin 2) (r : Fin 4096) (q : Fin 2048) : EReal :=
  joined x0 x1 x2 x4 b r q * (gate x3 b r q * logistic (gate x3 b r q))

/-- The two results: the normalised rows, and the joined rows. -/
def normed (x0 x1 : S2x4352x2048.Idx → EReal) (x2 : S2x4352x3072.Idx → EReal) (x3 : S2x4352x9216.Idx → EReal) (x4 x5 : S1x2048.Idx → EReal) :
    S2x4096x2048.Idx → EReal := fun i =>
  (gated x0 x1 x2 x3 x4 (i 0) (i 1) (i 2) * scale fun j => gated x0 x1 x2 x3 x4 (i 0) (i 1) (fellow (i 2) j)) * x5 (ix2 (n0 := 1) 0 (i 2))
def rows (x0 x1 : S2x4352x2048.Idx → EReal) (x2 : S2x4352x3072.Idx → EReal) (x4 : S1x2048.Idx → EReal) : S2x4096x2048.Idx → EReal := fun i =>
  joined x0 x1 x2 x4 (i 0) (i 1) (i 2)

/-- Which blocks a point reads and writes. -/
theorem index_at : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = t.val / 8 ∧ win0_3.index t 1 = t.val % 8 ∧ win0_3.index t 2 = 1)
    ∧ (win0_4.index t 0 = 0 ∧ win0_4.index t 1 = 0)
    ∧ (win0_5.index t 0 = 0 ∧ win0_5.index t 1 = 0)
    ∧ (win0_6.index t 0 = t.val / 8 ∧ win0_6.index t 1 = t.val % 8 ∧ win0_6.index t 2 = 0)
    ∧ (win0_7.index t 0 = t.val / 8 ∧ win0_7.index t 1 = t.val % 8 ∧ win0_7.index t 2 = 0) := by
  decide +kernel

theorem block_0 (c : Dev nD) (t : Fin cfg0.N) (r : Fin 512) (q : Fin 2048) (i : S2x4352x2048.Idx)
    (h0 : (i 0).val = t.val / 8) (h1 : (i 1).val = 512 * (t.val % 8) + r.val) (h2 : (i 2).val = q.val) :
    (X0_0 m c t : Vec Ideal S1x512x2048 .f32) (ix3 (n0 := 1) 0 r q) = forth m c i := by
  unfold X0_0 Pipeline.Window.fill
  rw [dif_pos (moved0_0 t _)]
  unfold iblk
  rw [View.read_apply]
  show V m c main_arg0 _ = m (c.tc.loc main_arg0) _
  unfold V
  congr 1
  funext a
  apply Fin.ext
  match a with
  | ⟨0, _⟩ => show win0_0.index t 0 * 1 + 1 * 0 = (i 0).val; rw [(index_at t).1.1, h0]; omega
  | ⟨1, _⟩ => show win0_0.index t 1 * 512 + 1 * r.val = (i 1).val; rw [(index_at t).1.2.1, h1]; omega
  | ⟨2, _⟩ => show win0_0.index t 2 * 2048 + 1 * q.val = (i 2).val; rw [(index_at t).1.2.2, h2]; omega

theorem block_1 (c : Dev nD) (t : Fin cfg0.N) (r : Fin 512) (q : Fin 2048) (i : S2x4352x2048.Idx)
    (h0 : (i 0).val = t.val / 8) (h1 : (i 1).val = 512 * (t.val % 8) + r.val) (h2 : (i 2).val = q.val) :
    (X0_1 m c t : Vec Ideal S1x512x2048 .f32) (ix3 (n0 := 1) 0 r q) = back m c i := by
  unfold X0_1 Pipeline.Window.fill
  rw [dif_pos (moved0_1 t _)]
  unfold iblk
  rw [View.read_apply]
  show V m c main_arg1 _ = m (c.tc.loc main_arg1) _
  unfold V
  congr 1
  funext a
  apply Fin.ext
  match a with
  | ⟨0, _⟩ => show win0_1.index t 0 * 1 + 1 * 0 = (i 0).val; rw [(index_at t).2.1.1, h0]; omega
  | ⟨1, _⟩ => show win0_1.index t 1 * 512 + 1 * r.val = (i 1).val; rw [(index_at t).2.1.2.1, h1]; omega
  | ⟨2, _⟩ => show win0_1.index t 2 * 2048 + 1 * q.val = (i 2).val; rw [(index_at t).2.1.2.2, h2]; omega

theorem block_2 (c : Dev nD) (t : Fin cfg0.N) (r : Fin 512) (q : Fin 2048) (i : S2x4352x3072.Idx)
    (h0 : (i 0).val = t.val / 8) (h1 : (i 1).val = 512 * (t.val % 8) + r.val) (h2 : (i 2).val = q.val) :
    (X0_2 m c t : Vec Ideal S1x512x2048 .bf16) (ix3 (n0 := 1) 0 r q) = conv m c i := by
  unfold X0_2 Pipeline.Window.fill
  rw [dif_pos (moved0_2 t _)]
  unfold iblk
  rw [View.read_apply]
  show V m c main_arg2 _ = m (c.tc.loc main_arg2) _
  unfold V
  congr 1
  funext a
  apply Fin.ext
  match a with
  | ⟨0, _⟩ => show win0_2.index t 0 * 1 + 1 * 0 = (i 0).val; rw [(index_at t).2.2.1.1, h0]; omega
  | ⟨1, _⟩ => show win0_2.index t 1 * 512 + 1 * r.val = (i 1).val; rw [(index_at t).2.2.1.2.1, h1]; omega
  | ⟨2, _⟩ => show win0_2.index t 2 * 2048 + 1 * q.val = (i 2).val; rw [(index_at t).2.2.1.2.2, h2]; omega

theorem block_3 (c : Dev nD) (t : Fin cfg0.N) (r : Fin 512) (q : Fin 2048) (i : S2x4352x9216.Idx)
    (h0 : (i 0).val = t.val / 8) (h1 : (i 1).val = 512 * (t.val % 8) + r.val) (h2 : (i 2).val = 2048 + q.val) :
    (X0_3 m c t : Vec Ideal S1x512x2048 .bf16) (ix3 (n0 := 1) 0 r q) = proj m c i := by
  unfold X0_3 Pipeline.Window.fill
  rw [dif_pos (moved0_3 t _)]
  unfold iblk
  rw [View.read_apply]
  show V m c main_arg3 _ = m (c.tc.loc main_arg3) _
  unfold V
  congr 1
  funext a
  apply Fin.ext
  match a with
  | ⟨0, _⟩ => show win0_3.index t 0 * 1 + 1 * 0 = (i 0).val; rw [(index_at t).2.2.2.1.1, h0]; omega
  | ⟨1, _⟩ => show win0_3.index t 1 * 512 + 1 * r.val = (i 1).val; rw [(index_at t).2.2.2.1.2.1, h1]; omega
  | ⟨2, _⟩ => show win0_3.index t 2 * 2048 + 1 * q.val = (i 2).val; rw [(index_at t).2.2.2.1.2.2, h2]; omega

theorem block_4 (c : Dev nD) (t : Fin cfg0.N) (q : Fin 2048) :
    (iblk m c 4 t : Vec Ideal S1x2048 .f32) (ix2 (n0 := 1) 0 q) = skip m c (ix2 (n0 := 1) 0 q) := by
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [(index_at t).2.2.2.2.1.1]
  | ⟨1, _⟩ => show win0_4.index t 1 * 2048 + 1 * q.val = q.val; rw [(index_at t).2.2.2.2.1.2]; omega

theorem block_5 (c : Dev nD) (t : Fin cfg0.N) (q : Fin 2048) :
    (iblk m c 5 t : Vec Ideal S1x2048 .f32) (ix2 (n0 := 1) 0 q) = gain m c (ix2 (n0 := 1) 0 q) := by
  unfold iblk
  rw [View.read_apply]
  show V m c main_arg5 _ = m (c.tc.loc main_arg5) _
  unfold V
  congr 1
  funext a
  apply Fin.ext
  match a with
  | ⟨0, _⟩ => show win0_5.index t 0 * 1 + 1 * 0 = 0; rw [(index_at t).2.2.2.2.2.1.1]
  | ⟨1, _⟩ => show win0_5.index t 1 * 2048 + 1 * q.val = q.val; rw [(index_at t).2.2.2.2.2.1.2]; omega

/-- The joined rows of a point. -/
theorem joined_at (c : Dev nD) (t : Fin cfg0.N) (r : Fin 512) (q : Fin 2048) (b : Fin 2) (R : Fin 4096)
    (h0 : b.val = t.val / 8) (h1 : R.val = 512 * (t.val % 8) + r.val) :
    k0_pay1 (F := Ideal) (X0_0 m c t) (X0_1 m c t) (iblk m c 4 t) (X0_2 m c t) (ix2 r q) = joined (forth m c) (back m c) (conv m c) (skip m c) b R q := by
  rw [pay1_apply]
  unfold joined
  have e0 := block_0 m c t r q (ix3 (n0 := 2) b (among R) q) h0 h1 rfl
  have e1 := block_1 m c t r q (ix3 (n0 := 2) b (among R) q) h0 h1 rfl
  have e2 := block_2 m c t r q (ix3 (n0 := 2) (n2 := 3072) b (among R) ⟨q.val, lt_trans q.isLt (by decide)⟩) h0 h1 rfl
  have e4 := block_4 m c t q
  exact congrArg₂ (fun a b : EReal => a + b) (congrArg₂ (fun a b : EReal => a + b) e0 e1) (congrArg₂ (fun a b : EReal => a * b) e4 e2)

/-- The gated rows of a point. -/
theorem gated_at (c : Dev nD) (t : Fin cfg0.N) (r : Fin 512) (q : Fin 2048) (b : Fin 2) (R : Fin 4096)
    (h0 : b.val = t.val / 8) (h1 : R.val = 512 * (t.val % 8) + r.val) :
    k0_pay3 (F := Ideal) (X0_0 m c t) (X0_1 m c t) (iblk m c 4 t) (X0_2 m c t) (X0_3 m c t) (ix2 r q)
      = gated (forth m c) (back m c) (conv m c) (proj m c) (skip m c) b R q := by
  have e3 := block_3 m c t r q (ix3 (n0 := 2) (n2 := 9216) b (among R) ⟨2048 + q.val, by have := q.isLt; omega⟩) h0 h1 rfl
  rw [pay3_apply _ _ _ _ _ r q _ e3, joined_at m c t r q b R h0 h1]
  rfl

theorem ix3_eq (i : S2x4096x2048.Idx) (b : Fin 2) (R : Fin 4096) (q : Fin 2048) (h0 : (i 0).val = b.val) (h1 : (i 1).val = R.val) (h2 : (i 2).val = q.val) :
    i = ix3 (n0 := 2) (n1 := 4096) (n2 := 2048) b R q := by
  funext a
  apply Fin.ext
  match a with
  | ⟨0, _⟩ => exact h0
  | ⟨1, _⟩ => exact h1
  | ⟨2, _⟩ => exact h2

theorem idx_eq (y : S1x512x2048.Idx) : y = ix3 (n0 := 1) (n1 := 512) (n2 := 2048) 0 (y 1) (y 2) := by
  have y0 : (y 0).val < 1 := (y 0).isLt
  funext a
  apply Fin.ext
  match a with
  | ⟨0, _⟩ => show (y 0).val = 0; omega
  | ⟨1, _⟩ => rfl
  | ⟨2, _⟩ => rfl

/-- What a point stores is the normalised rows, at its own places. -/
theorem normed_eq (c : Dev nD) (t : Fin cfg0.N) (y : S1x512x2048.Idx) (i : S2x4096x2048.Idx)
    (h0 : (i 0).val = t.val / 8) (h1 : (i 1).val = 512 * (t.val % 8) + (y 1).val) (h2 : (i 2).val = (y 2).val) :
    (outsAt0 m c t).1 y = normed (forth m c) (back m c) (conv m c) (proj m c) (skip m c) (gain m c) i := by
  unfold outsAt0
  dsimp only
  have e2 : y 2 = i 2 := Fin.ext h2.symm
  rw [out6_apply, idx_eq y, e2]
  refine (pay6_apply (X0_0 m c t) (X0_1 m c t) (iblk m c 4 t) (X0_2 m c t) (X0_3 m c t) (iblk m c 5 t) (y 1) (i 2)).trans ?_
  rw [ gated_at m c t (y 1) (i 2) (i 0) (i 1) h0 h1]
  unfold normed
  refine congrArg₂ (fun a b : EReal => a * b) (congrArg (fun f : Fin 512 → EReal => _ * scale f) (funext fun j => gated_at m c t (y 1) _ (i 0) (i 1) h0 h1))
    (block_5 m c t (i 2))

/-- And the joined rows. -/
theorem rows_eq (c : Dev nD) (t : Fin cfg0.N) (y : S1x512x2048.Idx) (i : S2x4096x2048.Idx)
    (h0 : (i 0).val = t.val / 8) (h1 : (i 1).val = 512 * (t.val % 8) + (y 1).val) (h2 : (i 2).val = (y 2).val) :
    (outsAt0 m c t).2 y = rows (forth m c) (back m c) (conv m c) (skip m c) i := by
  unfold outsAt0
  dsimp only
  have e2 : y 2 = i 2 := Fin.ext h2.symm
  rw [out7_apply, idx_eq y, e2]
  unfold k0_pay2 rows
  refine (shapeCast_ab_1ab_apply _ _ 0 (y 1) (i 2)).trans ?_
  exact joined_at m c t (y 1) (i 2) (i 0) (i 1) h0 h1

theorem final6 (c : Dev nD) : (dats m 0 c).arrAt 6 cfg0.N = normed (forth m c) (back m c) (conv m c) (proj m c) (skip m c) (gain m c) := by
  refine (dats m 0 c).arrAt_eq_of_covers 6 _ (by decide +kernel) fun t hf y => ?_
  have y0 : (y 0).val < 1 := (y 0).isLt
  blk_simp
  rw [after0_6]
  refine normed_eq m c t y _ ?_ ?_ ?_
  · blk_simp; rw [(index_at t).2.2.2.2.2.2.1.1]
  · blk_simp; rw [(index_at t).2.2.2.2.2.2.1.2.1]; omega
  · blk_simp; rw [(index_at t).2.2.2.2.2.2.1.2.2]; omega

theorem final7 (c : Dev nD) : (dats m 0 c).arrAt 7 cfg0.N = rows (forth m c) (back m c) (conv m c) (skip m c) := by
  refine (dats m 0 c).arrAt_eq_of_covers 7 _ (by decide +kernel) fun t hf y => ?_
  have y0 : (y 0).val < 1 := (y 0).isLt
  blk_simp
  rw [after0_7]
  refine rows_eq m c t y _ ?_ ?_ ?_
  · blk_simp; rw [(index_at t).2.2.2.2.2.2.2.1]
  · blk_simp; rw [(index_at t).2.2.2.2.2.2.2.2.1]; omega
  · blk_simp; rw [(index_at t).2.2.2.2.2.2.2.2.2]; omega

/-- The run: the results are the normalised and the joined rows and the arguments stay. -/
theorem run : θ_run defs (onTc (τ := τ) (main (F := Ideal))) ⟨m, fun _ => 0, ρ⟩ fun r => ∀ c : Dev nD,
      r.2.mem ((c : Thread nD τ).loc main_v0_0) = normed (forth m c) (back m c) (conv m c) (proj m c) (skip m c) (gain m c)
      ∧ r.2.mem ((c : Thread nD τ).loc main_v0_1) = rows (forth m c) (back m c) (conv m c) (skip m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (Value.run_blocks m ρ)

end Cert.Kernel19Ideal.Step

end
-- ==== Proof.Reference19Step.lean ====
/-
  The reference of program "Reference19" computes the joined rows and their gated group norm, and the kernel of "Kernel19" the
  same two arrays.
-/
module

public import proofs.«01_k».proof.Proof.Kernel19Step
public import proofs.«01_k».proof.Proof.Gen.Reference19Ideal.Run
public import proofs.«01_k».proof.Proof.Gen.Reference19Ideal.Read
public import proofs.«01_k».proof.Defs
public import Idealize.ShloMosaic.Lib.Quiescent

@[expose] public section

noncomputable section

namespace Cert.Reference19Ideal.Step

open Cert.Reference19Ideal Cert.Reference19Ideal.Read Idealize.ShloMosaic Idealize.ShloMosaic.TcCoe Idealize.SL.Sem
open Idealize.ShloMosaic.ValueIdx Cert.Kernel19Ideal.Step

variable (x0 x1 : (⟨S2x4352x2048, .f32⟩ : BufTy).Contents (Elt Ideal)) (x2 : (⟨S2x4352x3072, .bf16⟩ : BufTy).Contents (Elt Ideal))
    (x3 : (⟨S2x4352x9216, .bf16⟩ : BufTy).Contents (Elt Ideal)) (x4 x5 : (⟨S1x2048, .f32⟩ : BufTy).Contents (Elt Ideal))

/-- The joined rows. -/
theorem v10_at (b : Fin 2) (r : Fin 4096) (q : Fin 2048) :
    val_main_v10 (F := Ideal) x0 x1 x2 x4 (ix3 (n0 := 2) b r q) = joined x0 x1 x2 x4 b r q := by
  rw [val_main_v10_apply, val_main_v6_apply, val_main_v4_apply, val_main_v5_apply, val_main_v9_apply, val_main_v8_apply, val_main_v7_apply,
    val_main_v2_apply, val_main_v0_apply]
  unfold joined
  refine congrArg₂ (fun a b : EReal => a + b) (congrArg₂ (fun a b : EReal => a + b) (congrArg x0 ?_) (congrArg x1 ?_))
    (congrArg₂ (fun a b : EReal => a * b) (congrArg x4 ?_) (congrArg x2 ?_))
  all_goals
    funext a
    apply Fin.ext
    fin_cases a <;> first | rfl | (dsimp; omega)

/-- The gated rows. -/
theorem v12_at (b : Fin 2) (r : Fin 4096) (q : Fin 2048) :
    val_main_v12 (F := Ideal) x0 x1 x2 x3 x4 (ix3 (n0 := 2) b r q) = gated x0 x1 x2 x3 x4 b r q := by
  have e : val_main_v3 (F := Ideal) x3 (ix3 (n0 := 2) b r q) = gate x3 b r q := by
    rw [val_main_v3_apply, val_main_v1_apply]
    refine congrArg x3 ?_
    funext a
    apply Fin.ext
    fin_cases a <;> first | rfl | (dsimp; omega)
  rw [val_main_v12_apply, v10_at, val_main_v11_apply, val_main_call0_v5_apply, val_main_call0_v3_apply, val_main_call0_v1_apply,
    val_main_call0_v0_apply, e]
  show _ * (_ * Ideal.div (Ideal.ofBits .f32 0x3F800000#32) (Ideal.ofBits .f32 0x3F800000#32 + Ideal.exp (-gate x3 b r q))) = _
  rw [Ideal.ofBits_one_f32]
  rfl

/-- Where column `q` stands among the groups. -/
abbrev place (b : Fin 2) (r : Fin 4096) (g : Fin 4) (j : Fin 512) : S2x4096x4x512.Idx := ix4 (n0 := 2) (n1 := 4096) (n2 := 4) (n3 := 512) b r g j
abbrev group (q : Fin 2048) : Fin 4 := ⟨q.val / 512, by have := q.isLt; omega⟩
abbrev within (q : Fin 2048) : Fin 512 := ⟨q.val % 512, by omega⟩

theorem v13_at (b : Fin 2) (r : Fin 4096) (g : Fin 4) (j : Fin 512) (q : Fin 2048) (h : q.val = 512 * g.val + j.val) :
    val_main_v13 (F := Ideal) x0 x1 x2 x3 x4 (place b r g j) = gated x0 x1 x2 x3 x4 b r q := by
  rw [val_main_v13_apply, ← v12_at]
  refine congrArg _ ?_
  have hb := b.isLt
  have hr := r.isLt
  have hg := g.isLt
  have hj := j.isLt
  funext a
  fin_cases a <;> apply Fin.ext
  · show (((b.val * 4096 + r.val) * 4 + g.val) * 512 + j.val) / 8388608 = b.val; omega
  · show (((b.val * 4096 + r.val) * 4 + g.val) * 512 + j.val) / 2048 % 4096 = r.val; omega
  · show (((b.val * 4096 + r.val) * 4 + g.val) * 512 + j.val) % 2048 = q.val; omega

theorem v21_at (b : Fin 2) (r : Fin 4096) (q : Fin 2048) :
    val_main_v21 (F := Ideal) x0 x1 x2 x3 x4 (ix4 (n0 := 2) (n1 := 4096) (n2 := 4) (n3 := 1) b r (group q) 0)
      = scale fun j => gated x0 x1 x2 x3 x4 b r (fellow q j) := by
  rw [val_main_v21_apply, val_main_v20_apply, val_main_v18_apply, val_main_v16_apply, val_main_v15_apply, val_main_v17_apply, val_main_v19_apply]
  show Ideal.rsqrt (Ideal.div (Ideal.ofBits .f32 0x00000000#32 + _) len + eps) = _
  rw [Ideal.ofBits_zero_f32, zero_add]
  unfold scale
  refine congrArg (fun a : EReal => Ideal.rsqrt (Ideal.div a len + eps)) (Finset.sum_congr rfl fun j _ => ?_)
  have hb := b.isLt
  have hr := r.isLt
  have hq := q.isLt
  have e : idx_main_v15 (idx_main_v16 (ix4 (n0 := 2) (n1 := 4096) (n2 := 4) (n3 := 1) b r (group q) 0)) j = place b r (group q) j := by
    funext a
    fin_cases a <;> first | rfl | (apply Fin.ext; dsimp; omega)
  rw [e, val_main_v14_apply, v13_at x0 x1 x2 x3 x4 b r (group q) j (fellow q j) rfl]
  rfl

/-- The reference's first result is the normalised rows. -/
theorem stage28_eq : val_main_v28 (F := Ideal) x0 x1 x2 x3 x4 x5 = normed x0 x1 x2 x3 x4 x5 := by
  funext i
  obtain ⟨b, r, q, rfl⟩ : ∃ (b : Fin 2) (r : Fin 4096) (q : Fin 2048), i = ix3 b r q := ⟨i 0, i 1, i 2, by funext a; fin_cases a <;> rfl⟩
  have hb := b.isLt
  have hr := r.isLt
  have hq := q.isLt
  have e : idx_main_v24 (ix3 (n0 := 2) b r q) = place b r (group q) (within q) := by
    funext a
    fin_cases a <;> apply Fin.ext
    · show ((b.val * 4096 + r.val) * 2048 + q.val) / 8388608 = b.val; omega
    · show ((b.val * 4096 + r.val) * 2048 + q.val) / 2048 % 4096 = r.val; omega
    · show ((b.val * 4096 + r.val) * 2048 + q.val) / 512 % 4 = q.val / 512; omega
    · show ((b.val * 4096 + r.val) * 2048 + q.val) % 512 = q.val % 512; omega
  have e' : idx_main_v22 (place b r (group q) (within q)) = ix4 (n0 := 2) (n1 := 4096) (n2 := 4) (n3 := 1) b r (group q) 0 := by
    funext a; fin_cases a <;> rfl
  rw [val_main_v28_apply, val_main_v27_apply, val_main_v24_apply, e, val_main_v23_apply, val_main_v22_apply, e', v21_at,
    v13_at x0 x1 x2 x3 x4 b r (group q) (within q) q (by show q.val = 512 * (q.val / 512) + q.val % 512; omega), val_main_v26_apply, val_main_v25_apply]
  refine congrArg₂ (fun a b : EReal => a * b) rfl (congrArg x5 ?_)
  funext a
  fin_cases a <;> rfl

/-- The second is the joined rows. -/
theorem stage29_eq : val_main_v29 (F := Ideal) x0 x1 x2 x4 = rows x0 x1 x2 x4 := by
  funext i
  obtain ⟨b, r, q, rfl⟩ : ∃ (b : Fin 2) (r : Fin 4096) (q : Fin 2048), i = ix3 b r q := ⟨i 0, i 1, i 2, by funext a; fin_cases a <;> rfl⟩
  rw [val_main_v29_apply, v10_at]
  rfl

/-- The run: the results are the normalised and the joined rows and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
          = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v29)
          = rows (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1.trans (val_main_v28_eq _ _)).trans (stage28_eq ..),
    ((h c).2.1.trans (val_main_v29_eq ..)).trans (stage29_eq ..), (h c).2.2⟩) (Value.run m ρ)

/-- The frame: the arguments stay, and there is no semaphore. -/
theorem frame : Cert.quiescent_Reference19Ideal := fun m ρ _ =>
  (θ_run defs _ _).mono (fun r h => ⟨fun c => (h c).2.2, Idealize.ShloMosaic.sem_eq_zero_of_no_sems (by decide) r.2⟩) (run m ρ)

end Cert.Reference19Ideal.Step

namespace Cert.Proof

open Idealize.ShloMosaic Idealize.ShloMosaic.TcCoe Idealize.SL.Sem

/-- Kernel and reference leave the same results. -/
theorem algebraic19 : Cert.algebraic_Kernel19Ideal_Reference19Ideal := by
  intro m g m' g' _ hm
  refine ⟨fun c => Cert.Kernel19Ideal.Step.normed (Cert.Kernel19Ideal.Step.forth m c) (Cert.Kernel19Ideal.Step.back m c)
    (Cert.Kernel19Ideal.Step.conv m c) (Cert.Kernel19Ideal.Step.proj m c) (Cert.Kernel19Ideal.Step.skip m c) (Cert.Kernel19Ideal.Step.gain m c),
    fun c => Cert.Kernel19Ideal.Step.rows (Cert.Kernel19Ideal.Step.forth m c) (Cert.Kernel19Ideal.Step.back m c)
    (Cert.Kernel19Ideal.Step.conv m c) (Cert.Kernel19Ideal.Step.skip m c), Cert.Kernel19Ideal.Step.run m g, ?_⟩
  refine (θ_run _ _ _).mono (fun _ h c => ⟨?_, ?_, (h c).2.2⟩) (Cert.Reference19Ideal.Step.run m' g')
  · obtain ⟨e0, e1, e2, e3, e4, e5⟩ := hm c
    refine (h c).1.trans ?_
    rw [e0, e1, e2, e3, e4, e5]
  · obtain ⟨e0, e1, e2, e3, e4, e5⟩ := hm c
    refine (h c).2.1.trans ?_
    rw [e0, e1, e2, e4]

end Cert.Proof

end
-- ==== Proof.Kernel20Step.lean ====
/-
  What the kernel of program "Kernel20" computes over the extended reals: each row of `x`, and of the context, scaled by one
  over the root of the mean of its squares plus a small constant, times the gain and plus the shift of its table. Each point computes
  256 rows, 32 at a time: the first sixteen points of an example rows of `x`, the last the rows of the context.
-/
module

public import proofs.«01_k».proof.Proof.Gen.Kernel20Ideal.Value
public import proofs.«01_k».proof.Proof.NormGrad
public import Idealize.ShloMosaic.Lib.Pipeline.ReadBack
public import Idealize.ShloMosaic.Lib.Pipeline.ValueKit.Geometry
public import Idealize.ShloMosaic.Lib.Pipeline.ValueKit.Acc
public import Idealize.ShloMosaic.Lib.KernelVsHost
public import Idealize.ShloMosaic.Lib.IdealHost
public import Idealize.ShloMosaic.Lib.ValueLayout

@[expose] public section

set_option maxRecDepth 16384

noncomputable section

namespace Cert.Kernel20Ideal.Step

open Cert.Kernel20Ideal Cert.Kernel20Ideal.Gen Idealize.ShloMosaic Idealize.ShloMosaic.TcCoe Idealize.SL.Sem
open Idealize.ShloMosaic.Pipeline (Dat)
open Idealize.ShloMosaic.ValueIdx
open Cert.NormGrad (len eps meanSq scale)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- A row, normalised, at column `q`, times a gain and plus a shift. -/
def modulated (x : Fin 1024 → EReal) (g s : EReal) (q : Fin 1024) : EReal := x q * scale x * g + s

theorem modulated_congr {x x' : Fin 1024 → EReal} {g g' s s' : EReal} {q q' : Fin 1024} (hx : ∀ k, x k = x' k) (hg : g = g') (hs : s = s')
    (hq : q = q') : modulated x g s q = modulated x' g' s' q' := by
  rw [funext hx, hg, hs, hq]

/-! ## What a point stores -/

/-- A column of one number per row, read at a place of the block it is spread over. -/
theorem spread_apply (v : FVec Ideal S32x1 .f32) (r : Fin 32) (q : Fin 1024) :
    broadcastTo S32x1024 v broadcasts_S32x1_S32x1024 (ix2 r q) = v (ix2 (n1 := 1) r 0) := by
  refine broadcastTo_apply v _ (ix2 r q) (ix2 (n1 := 1) r 0) fun ax => ?_
  match ax with
  | ⟨0, _⟩ => rfl
  | ⟨1, _⟩ => rfl

/-- A sum over the columns, kept as a column of its own. -/
theorem sum_apply (v : FVec Ideal S32x1024 .f32) (r : Fin 32) :
    shapeCast S32x1 (multiReduction .add [1] S32 v 0x00000000#32 reduces_S32x1024_S32 (.inl rfl) rfl) shapeCasts_S32_S32x1
      (ix2 (n1 := 1) r 0) = ∑ k : Fin 1024, v (ix2 r k) := by
  refine (shapeCast_apply _ _ _ (ix1 r) ?_).trans ((Ideal.multiReduction_add_single v _ _ _ _ (ix1 r)).trans ?_)
  · rw [Shape.rowMajor_val_two, Shape.rowMajor_val_one]
    show r.val = r.val * 1 + 0
    omega
  · refine Finset.sum_congr rfl fun k _ => congrArg v (funext fun a => ?_)
    match a with
    | ⟨0, _⟩ => rfl
    | ⟨1, _⟩ => rfl

/-- The table's first row holds the gain, the second the shift. -/
theorem gain_apply (x : Vec Ideal S1x1x8x1024 .f32) (q : Fin 1024) :
    k0_pay2 (F := Ideal) x (ix2 (n0 := 1) 0 q) = x (ix4 (n0 := 1) (n1 := 1) (n2 := 8) 0 0 0 q) := by
  unfold k0_pay2 k0_pay1
  refine (extractStridedSlice_apply _ _ _ _ (ix2 (n0 := 8) 0 q) fun a => ?_).trans ?_
  · match a with
    | ⟨0, _⟩ => rfl
    | ⟨1, _⟩ => show q.val = 0 + q.val; omega
  · refine shapeCast_apply x _ _ _ ?_
    rw [Shape.rowMajor_val_four, Shape.rowMajor_val_two]
    show ((0 * 1 + 0) * 8 + 0) * 1024 + q.val = 0 * 1024 + q.val
    omega

theorem shift_apply (x : Vec Ideal S1x1x8x1024 .f32) (q : Fin 1024) :
    k0_pay3 (F := Ideal) x (ix2 (n0 := 1) 0 q) = x (ix4 (n0 := 1) (n1 := 1) (n2 := 8) 0 0 1 q) := by
  unfold k0_pay3 k0_pay1
  refine (extractStridedSlice_apply _ _ _ _ (ix2 (n0 := 8) 1 q) fun a => ?_).trans ?_
  · match a with
    | ⟨0, _⟩ => rfl
    | ⟨1, _⟩ => show q.val = 0 + q.val; omega
  · refine shapeCast_apply x _ _ _ ?_
    rw [Shape.rowMajor_val_four, Shape.rowMajor_val_two]
    show ((0 * 1 + 0) * 8 + 1) * 1024 + q.val = 1 * 1024 + q.val
    omega

/-- Thirty-two rows, normalised and modulated. -/
theorem pay4_apply (v2 v3 : FVec Ideal S1x1024 .f32) (v : Vec Ideal S1x32x1024 .f32) (r : Fin 32) (q : Fin 1024) :
    k0_pay4 (F := Ideal) v2 v3 v (ix3 (n0 := 1) 0 r q)
      = modulated (fun k => v (ix3 (n0 := 1) 0 r k)) (v2 (ix2 (n0 := 1) 0 q)) (v3 (ix2 (n0 := 1) 0 q)) q := by
  unfold k0_pay4 modulated
  refine (shapeCast_ab_1ab_apply _ _ 0 r q).trans (congrArg₂ (fun a b : EReal => a + b) (congrArg₂ (fun a b : EReal => a * b)
    (congrArg₂ (fun a b : EReal => a * b) (shapeCast_1ab_ab_apply v _ r q) ((spread_apply _ r q).trans ?_))
    (broadcastTo_1b_ab_apply v2 _ r q)) (broadcastTo_1b_ab_apply v3 _ r q))
  show Ideal.rsqrt (Ideal.div (shapeCast S32x1 (multiReduction (F := Ideal) .add [1] S32 _ 0x00000000#32 reduces_S32x1024_S32 (.inl rfl) rfl) shapeCasts_S32_S32x1
      (ix2 (n1 := 1) r 0)) len + eps) = _
  rw [sum_apply]
  unfold scale meanSq
  refine congrArg (fun a => Ideal.rsqrt (Ideal.div a len + eps)) (Finset.sum_congr rfl fun k _ => ?_)
  exact congrArg₂ (fun a b : EReal => a * b) (shapeCast_1ab_ab_apply v _ r k) (shapeCast_1ab_ab_apply v _ r k)

/-- The whole block of a point: its 256 rows, normalised and modulated. -/
def block (v2 v3 : FVec Ideal S1x1024 .f32) (x : Vec Ideal S1x256x1024 .f32) (y : S1x256x1024.Idx) : EReal :=
  modulated (fun k => x (ix3 (n0 := 1) 0 (y 1) k)) (v2 (ix2 (n0 := 1) 0 (y 2))) (v3 (ix2 (n0 := 1) 0 (y 2))) (y 2)

/-- Thirty-two rows of it, from row `o` on. -/
theorem piece_apply (o : ℕ) (inb : ∀ a, (![0, o, 0] : Fin 3 → ℕ) a + S1x32x1024.size a ≤ S1x256x1024.size a)
    (v2 v3 : FVec Ideal S1x1024 .f32) (x : Vec Ideal S1x256x1024 .f32) (z : S1x32x1024.Idx) :
    k0_pay4 (F := Ideal) v2 v3 (View.ld (S := S1x256x1024) x (Rect.unit (s := S1x256x1024) ![0, o, 0] S1x32x1024.size inb)) z
      = block v2 v3 x ((Rect.unit (s := S1x256x1024) ![0, o, 0] S1x32x1024.size inb).emb z) := by
  have z0 : (z 0).val < 1 := (z 0).isLt
  have ez : z = ix3 (n0 := 1) (n1 := 32) (n2 := 1024) 0 (z 1) (z 2) := by
    funext a
    apply Fin.ext
    match a with
    | ⟨0, _⟩ => show (z 0).val = 0; omega
    | ⟨1, _⟩ => rfl
    | ⟨2, _⟩ => rfl
  have e2 : (Rect.unit (s := S1x256x1024) ![0, o, 0] S1x32x1024.size inb).emb z 2 = (z 2 : Fin 1024) :=
    Fin.ext (by show 0 + 1 * (z 2).val = (z 2).val; omega)
  refine (congrArg _ ez).trans ((pay4_apply v2 v3 _ (z 1) (z 2)).trans ?_)
  unfold block
  rw [e2]
  refine congrArg (fun f : Fin 1024 → EReal => modulated f _ _ _) (funext fun k => ?_)
  show x _ = x _
  refine congrArg x (funext fun a => Fin.ext ?_)
  match a with
  | ⟨0, _⟩ => rfl
  | ⟨1, _⟩ => rfl
  | ⟨2, _⟩ => show 0 + 1 * k.val = k.val; omega

theorem outA_apply (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x1x8x1024 .f32) (h4 : a4.IsWhole) (a5 : Memref sig .tc .vmem S1x256x1024 .bf16) (h5 : a5.IsWhole)
    (hc0 : cond0_0 i) (hc1 : ¬cond0_1 i) (x0 x1 : Vec Ideal S1x256x1024 .f32) (x2 : Vec Ideal S1x1x8x1024 .f32) (y : S1x256x1024.Idx) :
    out0_A_3 (F := Ideal) c i a2 h2 a3 h3 a4 h4 a5 h5 hc0 hc1 x0 x1 x2 y = block (k0_pay2 x2) (k0_pay3 x2) x0 y := by
  unfold out0_A_3
  rw [View.read_writes_eq_canon _ _ _ (cover0_A_3 c i a2 h2 a3 h3 a4 h4 a5 h5 hc0 hc1 x0 x1 x2), ← List.append_nil (kernelRun0_A c i a2 h2 a3 h3 a4 h4 a5 h5 hc0 hc1 x0 x1 x2).1]
  refine View.canon_append_of_piecesOf (block (k0_pay2 x2) (k0_pay3 x2) x0) [] _ ?_ y (cover0_A_3 c i a2 h2 a3 h3 a4 h4 a5 h5 hc0 hc1 x0 x1 x2 y)
  unfold kernelRun0_A kernelRun0_A.sl.v0
  dsimp only
  simp only [View.readAt_eq_ld, h2.read_unread, h3.read_unread, h4.read_unread, View.ld_unit_zero (S := S1x1x8x1024) hz4]
  exact ⟨fun z => piece_apply 224 _ _ _ x0 z, fun z => piece_apply 192 _ _ _ x0 z, fun z => piece_apply 160 _ _ _ x0 z,
    fun z => piece_apply 128 _ _ _ x0 z, fun z => piece_apply 96 _ _ _ x0 z, fun z => piece_apply 64 _ _ _ x0 z,
    fun z => piece_apply 32 _ _ _ x0 z, fun z => piece_apply 0 _ _ _ x0 z, trivial⟩

theorem outB_apply (c : Dev nD) (i : grid0.Coords) (a2 : Memref sig .tc .vmem S1x256x1024 .f32) (h2 : a2.IsWhole) (a3 : Memref sig .tc .vmem S1x256x1024 .f32) (h3 : a3.IsWhole) (a4 : Memref sig .tc .vmem S1x1x8x1024 .f32) (h4 : a4.IsWhole) (a5 : Memref sig .tc .vmem S1x256x1024 .bf16) (h5 : a5.IsWhole)
    (hc0 : ¬cond0_0 i) (hc1 : cond0_1 i) (x0 x1 : Vec Ideal S1x256x1024 .f32) (x2 : Vec Ideal S1x1x8x1024 .f32) (y : S1x256x1024.Idx) :
    out0_B_3 (F := Ideal) c i a2 h2 a3 h3 a4 h4 a5 h5 hc0 hc1 x0 x1 x2 y = block (k0_pay2 x2) (k0_pay3 x2) x1 y := by
  unfold out0_B_3
  rw [View.read_writes_eq_canon _ _ _ (cover0_B_3 c i a2 h2 a3 h3 a4 h4 a5 h5 hc0 hc1 x0 x1 x2), ← List.append_nil (kernelRun0_B c i a2 h2 a3 h3 a4 h4 a5 h5 hc0 hc1 x0 x1 x2).1]
  refine View.canon_append_of_piecesOf (block (k0_pay2 x2) (k0_pay3 x2) x1) [] _ ?_ y (cover0_B_3 c i a2 h2 a3 h3 a4 h4 a5 h5 hc0 hc1 x0 x1 x2 y)
  unfold kernelRun0_B kernelRun0_B.sl.v0
  dsimp only
  simp only [View.readAt_eq_ld, h2.read_unread, h3.read_unread, h4.read_unread, View.ld_unit_zero (S := S1x1x8x1024) hz4]
  exact ⟨fun z => piece_apply 224 _ _ _ x1 z, fun z => piece_apply 192 _ _ _ x1 z, fun z => piece_apply 160 _ _ _ x1 z,
    fun z => piece_apply 128 _ _ _ x1 z, fun z => piece_apply 96 _ _ _ x1 z, fun z => piece_apply 64 _ _ _ x1 z,
    fun z => piece_apply 32 _ _ _ x1 z, fun z => piece_apply 0 _ _ _ x1 z, trivial⟩

/-! ## The array -/

/-- The rows of `x`, the context's, and the table. -/
abbrev xs (c : Dev nD) : S2x4096x1024.Idx → EReal := m ((c : Thread nD τ).loc main_arg0)
abbrev cs (c : Dev nD) : S2x256x1024.Idx → EReal := m ((c : Thread nD τ).loc main_arg1)
abbrev tab (c : Dev nD) : S2x2x8x1024.Idx → EReal := m ((c : Thread nD τ).loc main_arg2)

/-- A row of `x` or of the context, modulated by the table's part for it. -/
def latent (x : S2x4096x1024.Idx → EReal) (g : S2x2x8x1024.Idx → EReal) (b : Fin 2) (r : Fin 4096) (q : Fin 1024) : EReal :=
  modulated (fun k => x (ix3 (n0 := 2) b r k)) (g (ix4 (n0 := 2) (n1 := 2) (n2 := 8) b 0 0 q)) (g (ix4 (n0 := 2) (n1 := 2) (n2 := 8) b 0 1 q)) q
def context (x : S2x256x1024.Idx → EReal) (g : S2x2x8x1024.Idx → EReal) (b : Fin 2) (r : Fin 256) (q : Fin 1024) : EReal :=
  modulated (fun k => x (ix3 (n0 := 2) b r k)) (g (ix4 (n0 := 2) (n1 := 2) (n2 := 8) b 1 0 q)) (g (ix4 (n0 := 2) (n1 := 2) (n2 := 8) b 1 1 q)) q

/-- The result: the rows of `x`, and under them the context's. -/
def rows (x : S2x4096x1024.Idx → EReal) (z : S2x256x1024.Idx → EReal) (g : S2x2x8x1024.Idx → EReal) : S2x4352x1024.Idx → EReal := fun i =>
  if h : (i 1).val < 4096 then latent x g (i 0) ⟨(i 1).val, h⟩ (i 2)
  else context z g (i 0) ⟨(i 1).val - 4096, by have : (i 1).val < 4352 := (i 1).isLt; omega⟩ (i 2)

/-- Which blocks a point reads and writes. -/
theorem index_at : ∀ t : Fin cfg0.N,
    (win0_0.index t 0 = t.val / 17 ∧ (t.val % 17 ≤ 15 → win0_0.index t 1 = t.val % 17) ∧ win0_0.index t 2 = 0)
    ∧ (win0_1.index t 0 = t.val / 17 ∧ win0_1.index t 1 = 0 ∧ win0_1.index t 2 = 0)
    ∧ (win0_2.index t 0 = t.val / 17 ∧ win0_2.index t 1 = t.val % 17 / 16 ∧ win0_2.index t 2 = 0 ∧ win0_2.index t 3 = 0)
    ∧ (win0_3.index t 0 = t.val / 17 ∧ win0_3.index t 1 = t.val % 17 ∧ win0_3.index t 2 = 0) := by
  decide +kernel

theorem block_0 (c : Dev nD) (t : Fin cfg0.N) (h : t.val % 17 ≤ 15) (r : Fin 256) (q : Fin 1024) (i : S2x4096x1024.Idx)
    (h0 : (i 0).val = t.val / 17) (h1 : (i 1).val = 256 * (t.val % 17) + r.val) (h2 : (i 2).val = q.val) :
    (iblk m c 0 t : Vec Ideal S1x256x1024 .f32) (ix3 (n0 := 1) 0 r q) = xs m c i := by
  unfold iblk
  rw [View.read_apply]
  show V m c main_arg0 _ = m (c.tc.loc main_arg0) _
  unfold V
  congr 1
  funext a
  apply Fin.ext
  match a with
  | ⟨0, _⟩ => show win0_0.index t 0 * 1 + 1 * 0 = (i 0).val; rw [(index_at t).1.1, h0]; omega
  | ⟨1, _⟩ => show win0_0.index t 1 * 256 + 1 * r.val = (i 1).val; rw [(index_at t).1.2.1 h, h1]; omega
  | ⟨2, _⟩ => show win0_0.index t 2 * 1024 + 1 * q.val = (i 2).val; rw [(index_at t).1.2.2, h2]; omega

theorem block_1 (c : Dev nD) (t : Fin cfg0.N) (r : Fin 256) (q : Fin 1024) (i : S2x256x1024.Idx)
    (h0 : (i 0).val = t.val / 17) (h1 : (i 1).val = r.val) (h2 : (i 2).val = q.val) :
    (iblk m c 1 t : Vec Ideal S1x256x1024 .f32) (ix3 (n0 := 1) 0 r q) = cs m c i := by
  unfold iblk
  rw [View.read_apply]
  show V m c main_arg1 _ = m (c.tc.loc main_arg1) _
  unfold V
  congr 1
  funext a
  apply Fin.ext
  match a with
  | ⟨0, _⟩ => show win0_1.index t 0 * 1 + 1 * 0 = (i 0).val; rw [(index_at t).2.1.1, h0]; omega
  | ⟨1, _⟩ => show win0_1.index t 1 * 256 + 1 * r.val = (i 1).val; rw [(index_at t).2.1.2.1, h1]; omega
  | ⟨2, _⟩ => show win0_1.index t 2 * 1024 + 1 * q.val = (i 2).val; rw [(index_at t).2.1.2.2, h2]; omega

theorem block_2 (c : Dev nD) (t : Fin cfg0.N) (r : Fin 8) (q : Fin 1024) (i : S2x2x8x1024.Idx)
    (h0 : (i 0).val = t.val / 17) (h1 : (i 1).val = t.val % 17 / 16) (h2 : (i 2).val = r.val) (h3 : (i 3).val = q.val) :
    (iblk m c 2 t : Vec Ideal S1x1x8x1024 .f32) (ix4 (n0 := 1) (n1 := 1) 0 0 r q) = tab m c i := by
  unfold iblk
  rw [View.read_apply]
  show V m c main_arg2 _ = m (c.tc.loc main_arg2) _
  unfold V
  congr 1
  funext a
  apply Fin.ext
  match a with
  | ⟨0, _⟩ => show win0_2.index t 0 * 1 + 1 * 0 = (i 0).val; rw [(index_at t).2.2.1.1, h0]; omega
  | ⟨1, _⟩ => show win0_2.index t 1 * 1 + 1 * 0 = (i 1).val; rw [(index_at t).2.2.1.2.1, h1]; omega
  | ⟨2, _⟩ => show win0_2.index t 2 * 8 + 1 * r.val = (i 2).val; rw [(index_at t).2.2.1.2.2.1, h2]; omega
  | ⟨3, _⟩ => show win0_2.index t 3 * 1024 + 1 * q.val = (i 3).val; rw [(index_at t).2.2.1.2.2.2, h3]; omega

/-- What a point stores is the result, at its own places. -/
theorem rows_eq (c : Dev nD) (t : Fin cfg0.N) (y : S1x256x1024.Idx) (i : S2x4352x1024.Idx)
    (h0 : (i 0).val = t.val / 17) (h1 : (i 1).val = 256 * (t.val % 17) + (y 1).val) (h2 : (i 2).val = (y 2).val) :
    outsAt0 m c t.val t.isLt y = rows (xs m c) (cs m c) (tab m c) i := by
  have y1 : (y 1).val < 256 := (y 1).isLt
  have e2 : y 2 = i 2 := Fin.ext h2.symm
  have ht : t.val % 17 < 17 := Nat.mod_lt _ (by decide)
  unfold rows
  by_cases h : t.val % 17 ≤ 15
  · rw [outsAt0_A m c t h (by omega), outA_apply, dif_pos (by omega)]
    unfold block latent
    exact modulated_congr (fun k => block_0 m c t h (y 1) k _ h0 h1 rfl)
      ((gain_apply _ (y 2)).trans (block_2 m c t 0 (y 2) _ h0 (by show 0 = t.val % 17 / 16; omega) rfl h2))
      ((shift_apply _ (y 2)).trans (block_2 m c t 1 (y 2) _ h0 (by show 0 = t.val % 17 / 16; omega) rfl h2)) e2
  · rw [outsAt0_B m c t h (by omega), outB_apply, dif_neg (by omega)]
    unfold block context
    exact modulated_congr (fun k => block_1 m c t (y 1) k _ h0
      (by show (i 1).val - 4096 = (y 1).val; omega) rfl)
      ((gain_apply _ (y 2)).trans (block_2 m c t 0 (y 2) _ h0 (by show 1 = t.val % 17 / 16; omega) rfl h2))
      ((shift_apply _ (y 2)).trans (block_2 m c t 1 (y 2) _ h0 (by show 1 = t.val % 17 / 16; omega) rfl h2)) e2

theorem final3 (c : Dev nD) : (dats m 0 c).arrAt 3 cfg0.N = rows (xs m c) (cs m c) (tab m c) := by
  refine (dats m 0 c).arrAt_eq_of_covers 3 _ (by decide +kernel) fun t hf y => ?_
  have y0 : (y 0).val < 1 := (y 0).isLt
  blk_simp
  rw [after0_3]
  refine rows_eq m c t y _ ?_ ?_ ?_
  · blk_simp; rw [(index_at t).2.2.2.1]
  · blk_simp; rw [(index_at t).2.2.2.2.1]; omega
  · blk_simp; rw [(index_at t).2.2.2.2.2]; omega

/-- The run: the result is the modulated rows and the arguments stay. -/
theorem run : θ_run defs (onTc (τ := τ) (main (F := Ideal))) ⟨m, fun _ => 0, ρ⟩ fun r => ∀ c : Dev nD,
      r.2.mem ((c : Thread nD τ).loc main_v0) = rows (xs m c) (cs m c) (tab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Value.run_blocks m ρ)

end Cert.Kernel20Ideal.Step

end
-- ==== Proof.Reference20Step.lean ====
/-
  The reference of program "Reference20" normalises and modulates the rows of `x` and of the context and sets the one under the other,
  and the kernel of "Kernel20" computes the same array.
-/
module

public import proofs.«01_k».proof.Proof.Kernel20Step
public import proofs.«01_k».proof.Proof.Gen.Reference20Ideal.Run
public import proofs.«01_k».proof.Proof.Gen.Reference20Ideal.Read
public import proofs.«01_k».proof.Defs
public import Idealize.ShloMosaic.Lib.Quiescent

@[expose] public section

noncomputable section

namespace Cert.Reference20Ideal.Step

open Cert.Reference20Ideal Cert.Reference20Ideal.Read Idealize.ShloMosaic Idealize.ShloMosaic.TcCoe Idealize.SL.Sem
open Idealize.ShloMosaic.ValueIdx Cert.Kernel20Ideal.Step
open Cert.NormGrad (len eps meanSq scale)

variable (x0 : (⟨S2x4096x1024, .f32⟩ : BufTy).Contents (Elt Ideal)) (x1 : (⟨S2x256x1024, .f32⟩ : BufTy).Contents (Elt Ideal))
    (x2 : (⟨S2x2x8x1024, .f32⟩ : BufTy).Contents (Elt Ideal))

/-- The rows of `x`. -/
theorem v19_at (b : Fin 2) (r : Fin 4096) (q : Fin 1024) :
    val_main_v19 (F := Ideal) x0 x2 (ix3 (n0 := 2) b r q) = latent x0 x2 b r q := by
  have hb := b.isLt
  have hr := r.isLt
  have hq := q.isLt
  have eg : val_main_v15 (F := Ideal) x2 (ix3 (n0 := 2) b r q) = x2 (ix4 (n0 := 2) (n1 := 2) (n2 := 8) b 0 0 q) := by
    rw [val_main_v15_apply, val_main_v14_apply, val_main_v1_apply, val_main_v0_apply]
    refine congrArg x2 (funext fun a => Fin.ext ?_)
    match a with
    | ⟨0, _⟩ => show ((b.val * 8 + 0) * 1024 + q.val) / 8192 = b.val; omega
    | ⟨1, _⟩ => rfl
    | ⟨2, _⟩ => show ((b.val * 8 + 0) * 1024 + q.val) / 1024 % 8 = 0; omega
    | ⟨3, _⟩ => show ((b.val * 8 + 0) * 1024 + q.val) % 1024 = q.val; omega
  have es : val_main_v18 (F := Ideal) x2 (ix3 (n0 := 2) b r q) = x2 (ix4 (n0 := 2) (n1 := 2) (n2 := 8) b 0 1 q) := by
    rw [val_main_v18_apply, val_main_v17_apply, val_main_v1_apply, val_main_v0_apply]
    refine congrArg x2 (funext fun a => Fin.ext ?_)
    match a with
    | ⟨0, _⟩ => show ((b.val * 8 + 1) * 1024 + q.val) / 8192 = b.val; omega
    | ⟨1, _⟩ => rfl
    | ⟨2, _⟩ => show ((b.val * 8 + 1) * 1024 + q.val) / 1024 % 8 = 1; omega
    | ⟨3, _⟩ => show ((b.val * 8 + 1) * 1024 + q.val) % 1024 = q.val; omega
  have er : val_main_v12 (F := Ideal) x0 (ix3 (n0 := 2) b r q) = scale fun k => x0 (ix3 (n0 := 2) b r k) := by
    rw [val_main_v12_apply, val_main_v11_apply, val_main_v10_apply, val_main_v8_apply, val_main_v6_apply, val_main_v5_apply, val_main_v7_apply, val_main_v9_apply]
    show Ideal.rsqrt (Ideal.div (Ideal.ofBits .f32 0x00000000#32 + _) len + eps) = _
    rw [Ideal.ofBits_zero_f32, zero_add]
    unfold scale meanSq
    refine congrArg (fun a : EReal => Ideal.rsqrt (Ideal.div a len + eps)) (Finset.sum_congr rfl fun k _ => ?_)
    rw [val_main_v4_apply]
    have e : idx_main_v5 (idx_main_v6 (idx_main_v12 (ix3 (n0 := 2) b r q))) k = ix3 (n0 := 2) b r k := by
      funext a
      fin_cases a <;> rfl
    rw [e]
    rfl
  rw [val_main_v19_apply, val_main_v16_apply, val_main_v13_apply, eg, es, er]
  rfl

/-- The rows of the context. -/
theorem v35_at (b : Fin 2) (r : Fin 256) (q : Fin 1024) :
    val_main_v35 (F := Ideal) x1 x2 (ix3 (n0 := 2) b r q) = context x1 x2 b r q := by
  have hb := b.isLt
  have hr := r.isLt
  have hq := q.isLt
  have eg : val_main_v31 (F := Ideal) x2 (ix3 (n0 := 2) b r q) = x2 (ix4 (n0 := 2) (n1 := 2) (n2 := 8) b 1 0 q) := by
    rw [val_main_v31_apply, val_main_v30_apply, val_main_v3_apply, val_main_v2_apply]
    refine congrArg x2 (funext fun a => Fin.ext ?_)
    match a with
    | ⟨0, _⟩ => show ((b.val * 8 + 0) * 1024 + q.val) / 8192 = b.val; omega
    | ⟨1, _⟩ => rfl
    | ⟨2, _⟩ => show ((b.val * 8 + 0) * 1024 + q.val) / 1024 % 8 = 0; omega
    | ⟨3, _⟩ => show ((b.val * 8 + 0) * 1024 + q.val) % 1024 = q.val; omega
  have es : val_main_v34 (F := Ideal) x2 (ix3 (n0 := 2) b r q) = x2 (ix4 (n0 := 2) (n1 := 2) (n2 := 8) b 1 1 q) := by
    rw [val_main_v34_apply, val_main_v33_apply, val_main_v3_apply, val_main_v2_apply]
    refine congrArg x2 (funext fun a => Fin.ext ?_)
    match a with
    | ⟨0, _⟩ => show ((b.val * 8 + 1) * 1024 + q.val) / 8192 = b.val; omega
    | ⟨1, _⟩ => rfl
    | ⟨2, _⟩ => show ((b.val * 8 + 1) * 1024 + q.val) / 1024 % 8 = 1; omega
    | ⟨3, _⟩ => show ((b.val * 8 + 1) * 1024 + q.val) % 1024 = q.val; omega
  have er : val_main_v28 (F := Ideal) x1 (ix3 (n0 := 2) b r q) = scale fun k => x1 (ix3 (n0 := 2) b r k) := by
    rw [val_main_v28_apply, val_main_v27_apply, val_main_v26_apply, val_main_v24_apply, val_main_v22_apply, val_main_v21_apply, val_main_v23_apply, val_main_v25_apply]
    show Ideal.rsqrt (Ideal.div (Ideal.ofBits .f32 0x00000000#32 + _) len + eps) = _
    rw [Ideal.ofBits_zero_f32, zero_add]
    unfold scale meanSq
    refine congrArg (fun a : EReal => Ideal.rsqrt (Ideal.div a len + eps)) (Finset.sum_congr rfl fun k _ => ?_)
    rw [val_main_v20_apply]
    have e : idx_main_v21 (idx_main_v22 (idx_main_v28 (ix3 (n0 := 2) b r q))) k = ix3 (n0 := 2) b r k := by
      funext a
      fin_cases a <;> rfl
    rw [e]
    rfl
  rw [val_main_v35_apply, val_main_v32_apply, val_main_v29_apply, eg, es, er]
  rfl

/-- The reference's last stage is the modulated rows. -/
theorem stage_eq : val_main_v37 (F := Ideal) x0 x1 x2 = rows x0 x1 x2 := by
  funext i
  have h1 : (i 1).val < 4352 := (i 1).isLt
  rw [val_main_v37_apply]
  show val_main_v36 (F := Ideal) x0 x1 x2 i = _
  unfold val_main_v36 rows
  by_cases h : (i 1).val < 4096
  · rw [dif_pos h]
    refine (concatenate_apply_piece (1 : Fin S2x4352x1024.rank) _ _ i 0 (by show 0 < 2; decide) S2x4096x1024 _ rfl rfl 0
      (by simp only [List.take_succ_cons, List.take_zero, List.map_cons, List.map_nil, List.sum_cons, List.sum_nil])
      (ix3 (n0 := 2) (n1 := 4096) (n2 := 1024) (i 0) ⟨(i 1).val, h⟩ (i 2)) (fun b hb => ?_) ?_).trans (v19_at x0 x2 (i 0) ⟨(i 1).val, h⟩ (i 2))
    · match b with
      | ⟨0, _⟩ => rfl
      | ⟨1, _⟩ => exact absurd rfl hb
      | ⟨2, _⟩ => rfl
    · show 0 + (i 1).val = (i 1).val; omega
  · rw [dif_neg h]
    refine (concatenate_apply_piece (1 : Fin S2x4352x1024.rank) _ _ i 1 (by show 1 < 2; decide) S2x256x1024 _ rfl rfl 4096
      (by simp only [List.take_succ_cons, List.take_zero, List.map_cons, List.map_nil, List.sum_cons, List.sum_nil]; decide +kernel)
      (ix3 (n0 := 2) (n1 := 256) (n2 := 1024) (i 0) ⟨(i 1).val - 4096, by omega⟩ (i 2)) (fun b hb => ?_) ?_).trans
      (v35_at x1 x2 (i 0) ⟨(i 1).val - 4096, by omega⟩ (i 2))
    · match b with
      | ⟨0, _⟩ => rfl
      | ⟨1, _⟩ => exact absurd rfl hb
      | ⟨2, _⟩ => rfl
    · show 4096 + ((i 1).val - 4096) = (i 1).val; omega

/-- The run: the result is the modulated rows and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
          = rows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v37_eq ..)).trans (stage_eq ..), (h c).2⟩) (Value.run m ρ)

/-- The frame: the arguments stay, and there is no semaphore. -/
theorem frame : Cert.quiescent_Reference20Ideal := fun m ρ _ =>
  (θ_run defs _ _).mono (fun r h => ⟨fun c => (h c).2, Idealize.ShloMosaic.sem_eq_zero_of_no_sems (by decide) r.2⟩) (run m ρ)

end Cert.Reference20Ideal.Step

namespace Cert.Proof

open Idealize.ShloMosaic Idealize.ShloMosaic.TcCoe Idealize.SL.Sem

/-- Kernel and reference leave the same result. -/
theorem algebraic20 : Cert.algebraic_Kernel20Ideal_Reference20Ideal := by
  intro m g m' g' _ hm
  refine ⟨fun c => Cert.Kernel20Ideal.Step.rows (Cert.Kernel20Ideal.Step.xs m c) (Cert.Kernel20Ideal.Step.cs m c)
    (Cert.Kernel20Ideal.Step.tab m c), Cert.Kernel20Ideal.Step.run m g, ?_⟩
  refine (θ_run _ _ _).mono (fun _ h c => ⟨?_, (h c).2⟩) (Cert.Reference20Ideal.Step.run m' g')
  obtain ⟨e0, e1, e2⟩ := hm c
  refine (h c).1.trans ?_
  rw [e0, e1, e2]

end Cert.Proof

end
-- ==== Proof.Kernel21Step.lean ====
/-
  What the kernel of program "Kernel21" computes over the extended reals: the product `s wᵀ` plus a row `b`, for `s` the
  sixteen rows of the condition, each entry `x` taken as `x` times the logistic function of `x`.
-/
module

public import proofs.«01_k».proof.Proof.Products
public import proofs.«01_k».proof.Proof.Gen.Kernel21Ideal.Value
public import Idealize.ShloMosaic.Lib.KernelVsHost
public import Idealize.ShloMosaic.Lib.IdealHost
public import Idealize.ShloMosaic.Lib.ValueLayout

@[expose] public section

noncomputable section

namespace Cert.Kernel21Ideal.Step

open Cert.Kernel21Ideal Cert.Kernel21Ideal.Gen Idealize.ShloMosaic Idealize.ShloMosaic.TcCoe Idealize.SL.Sem
open Idealize.ShloMosaic.ValueIdx Cert.Products

variable (m : (ℓ : Loc nD τ sig) → Buf (Elt Ideal) ℓ) (ρ : Dev nD → PrngReg)

/-- An entry times its logistic function. -/
def silu (x : EReal) : EReal := x * Ideal.div 1 (1 + Ideal.exp (-x))

/-- The modulation: the product and the row. -/
def modulation (x : S16x1024.Idx → EReal) (w : S3072x1024.Idx → EReal) (b : S1x3072.Idx → EReal) : S16x3072.Idx → EReal := fun i =>
  nt (M := 16) (N := 3072) (K := 1024) (fun j => silu (x j)) w i + b (ix2 (n0 := 1) 0 (i 1))

/-- What the one point stores. -/
theorem pay1_eq (x : Vec Ideal S16x1024 .f32) (w : Vec Ideal S3072x1024 .bf16) (b : Vec Ideal S1x3072 .f32) :
    k0_pay1 (F := Ideal) x w b = modulation x w b := by
  funext i
  obtain ⟨r, q, rfl⟩ : ∃ (r : Fin 16) (q : Fin 3072), i = ix2 r q := ⟨i 0, i 1, by funext a; fin_cases a <;> rfl⟩
  unfold k0_pay1 modulation
  refine congrArg₂ (fun a b : EReal => a + b) ((matmul_nt _ rfl none _ w (ix2 r q)).trans ?_) (broadcastTo_1b_ab_apply b _ r q)
  refine Finset.sum_congr rfl fun k _ => congrArg₂ (fun a b : EReal => a * b) ?_ rfl
  show x _ * Ideal.div (Ideal.ofBits .f32 0x3F800000#32) (Ideal.ofBits .f32 0x3F800000#32
    + Ideal.exp (Ideal.ofBits .f32 0x00000000#32 - x _)) = _
  rw [Ideal.ofBits_one_f32, Ideal.ofBits_zero_f32, zero_sub]
  rfl

/-- The condition, the matrix and the row. -/
abbrev cond (c : Dev nD) : S16x1024.Idx → EReal := m ((c : Thread nD τ).loc main_arg0)
abbrev mat (c : Dev nD) : S3072x1024.Idx → EReal := m ((c : Thread nD τ).loc main_arg1)
abbrev row (c : Dev nD) : S1x3072.Idx → EReal := m ((c : Thread nD τ).loc main_arg2)

/-- The run: the result is the modulation and the arguments stay. -/
theorem run : θ_run defs (onTc (τ := τ) (main (F := Ideal))) ⟨m, fun _ => 0, ρ⟩ fun r => ∀ c : Dev nD,
      r.2.mem ((c : Thread nD τ).loc main_v0) = modulation (cond m c) (mat m c) (row m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (pay1_eq _ _ _), (h c).2⟩) (Value.run m ρ)

end Cert.Kernel21Ideal.Step

end
-- ==== Proof.Reference21Step.lean ====
/-
  The reference of program "Reference21" computes the modulation of the condition, and the kernel of "Kernel21" the same array.
-/
module

public import proofs.«01_k».proof.Proof.Kernel21Step
public import proofs.«01_k».proof.Proof.Gen.Reference21Ideal.Run
public import proofs.«01_k».proof.Proof.Gen.Reference21Ideal.Read
public import proofs.«01_k».proof.Defs
public import Idealize.ShloMosaic.Lib.Quiescent

@[expose] public section

noncomputable section

namespace Cert.Reference21Ideal.Step

open Cert.Reference21Ideal Cert.Reference21Ideal.Read Idealize.ShloMosaic Idealize.ShloMosaic.TcCoe Idealize.SL.Sem
open Idealize.ShloMosaic.ValueIdx Cert.Products Cert.Kernel21Ideal.Step

/-- The reference's last stage is the modulation. -/
theorem stage_eq (x0 : (⟨S16x1024, .f32⟩ : BufTy).Contents (Elt Ideal)) (x1 : (⟨S3072x1024, .bf16⟩ : BufTy).Contents (Elt Ideal))
    (x2 : (⟨S1x3072, .f32⟩ : BufTy).Contents (Elt Ideal)) : val_main_v5 (F := Ideal) x0 x1 x2 = modulation x0 x1 x2 := by
  funext i
  rw [val_main_v5_apply, val_main_v3_apply, val_main_v4_apply]
  unfold modulation
  refine congrArg₂ (fun a b : EReal => a + b) (Finset.sum_congr rfl fun k _ => congrArg₂ (fun a b : EReal => a * b) ?_ ?_)
    (congrArg x2 (funext fun a => by fin_cases a <;> rfl))
  · have e : lidx_main_v3 i k = ix2 (n0 := 16) (n1 := 1024) (i 0) k := funext fun a => by fin_cases a <;> rfl
    rw [e, val_main_v0_apply, val_main_call0_v5_apply, val_main_call0_v3_apply, val_main_call0_v1_apply, val_main_call0_v0_apply]
    show _ * Ideal.div (Ideal.ofBits .f32 0x3F800000#32) (Ideal.ofBits .f32 0x3F800000#32 + Ideal.exp (-x0 _)) = _
    rw [Ideal.ofBits_one_f32]
    rfl
  · rw [val_main_v2_apply, val_main_v1_apply]
    exact congrArg x1 (funext fun a => by fin_cases a <;> rfl)

/-- The run: the result is the modulation and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = modulation (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1.trans (val_main_v5_eq ..)).trans (stage_eq ..), (h c).2⟩) (Value.run m ρ)

/-- The frame: the arguments stay, and there is no semaphore. -/
theorem frame : Cert.quiescent_Reference21Ideal := fun m ρ _ =>
  (θ_run defs _ _).mono (fun r h => ⟨fun c => (h c).2, Idealize.ShloMosaic.sem_eq_zero_of_no_sems (by decide) r.2⟩) (run m ρ)

end Cert.Reference21Ideal.Step

namespace Cert.Proof

open Idealize.ShloMosaic Idealize.ShloMosaic.TcCoe Idealize.SL.Sem

/-- Kernel and reference leave the same result. -/
theorem algebraic21 : Cert.algebraic_Kernel21Ideal_Reference21Ideal := by
  intro m g m' g' _ hm
  refine ⟨fun c => Cert.Kernel21Ideal.Step.modulation (Cert.Kernel21Ideal.Step.cond m c) (Cert.Kernel21Ideal.Step.mat m c)
    (Cert.Kernel21Ideal.Step.row m c), Cert.Kernel21Ideal.Step.run m g, ?_⟩
  refine (θ_run _ _ _).mono (fun _ h c => ⟨?_, (h c).2⟩) (Cert.Reference21Ideal.Step.run m' g')
  obtain ⟨e0, e1, e2⟩ := hm c
  refine (h c).1.trans ?_
  rw [e0, e1, e2]

end Cert.Proof

end
-- ==== Proof.lean ====
/-
  The products of the training step, the gradient of its input, its gated norm and merge, and its AdamW updates. Each program `KernelN` is one call of the
  step, with the host code that prepares its arguments; `ReferenceN` is the problem's line (or the derivative of it).
  For each: both run without a fault, keep their arguments and leave every semaphore at zero; the idealised kernel is the kernel itself; and over the
  extended reals kernel and reference leave the same arrays.

  Products.lean says what a product is; KernelNProduct.lean reads the kernel's array; ReferenceNProduct.lean reads the
  reference's and joins the two.

  Adam.lean says what an update is, and KernelNStep.lean and ReferenceNStep.lean read the arrays of the
  updates, of the merge (16), of the gated group norm (19), of the modulated norm (20) and of the modulation itself (21).

  NormGrad.lean has the derivative of a normalised row in two forms. Kernel17Point.lean is one point of the kernel that
  computes the gradient of the input, Kernel17Run.lean its run, Kernel17Grad.lean its array, and Reference17Grad.lean joins.
  Kernel18Point.lean, Kernel18Run.lean, Kernel18Grad.lean and Reference18Grad.lean do the same for the gradient of the merge.
-/
module

public import proofs.«01_k».proof.Proof.Gen.Kernel.Frame
public import proofs.«01_k».proof.Proof.ReferenceProduct
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Reference2Product
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Reference3Product
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Reference4Product
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Reference5Product
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Reference6Product
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Reference7Product
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Reference8Product
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Reference9Product
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Reference10Product
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Reference11Step
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Reference12Step
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Reference13Step
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Reference14Product
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Reference15Product
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Reference16Step
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Reference17Grad
public import proofs.«01_k».proof.Proof.Gen.Kernel18.Frame
public import proofs.«01_k».proof.Proof.Reference18Grad
public import proofs.«01_k».proof.Proof.Gen.Kernel19.Frame
public import proofs.«01_k».proof.Proof.Reference19Step
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Reference20Step
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Reference21Step
public import proofs.«01_k».proof.Proof.Gen.Kernel21Ideal.Value
public import proofs.«01_k».proof.Proof.Gen.Reference21Ideal.Run
public import proofs.«01_k».proof.Proof.Gen.Reference21Ideal.Read
public import proofs.«01_k».proof.Defs

@[expose] public section

noncomputable section

namespace Cert.Proof

/-- Everything that is claimed. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   fun m ρ _ => Cert.Kernel.Gen.frame m ρ,
   fun m ρ _ => Cert.KernelIdeal.Gen.frame m ρ,
   Cert.ReferenceIdeal.Product.frame,
   fun m ρ _ => Cert.Kernel2.Gen.frame m ρ,
   fun m ρ _ => Cert.Kernel2Ideal.Gen.frame m ρ,
   Cert.Reference2Ideal.Product.frame,
   fun m ρ _ => Cert.Kernel3.Gen.frame m ρ,
   fun m ρ _ => Cert.Kernel3Ideal.Gen.frame m ρ,
   Cert.Reference3Ideal.Product.frame,
   fun m ρ _ => Cert.Kernel4.Gen.frame m ρ,
   fun m ρ _ => Cert.Kernel4Ideal.Gen.frame m ρ,
   Cert.Reference4Ideal.Product.frame,
   fun m ρ _ => Cert.Kernel5.Gen.frame m ρ,
   fun m ρ _ => Cert.Kernel5Ideal.Gen.frame m ρ,
   Cert.Reference5Ideal.Product.frame,
   fun m ρ _ => Cert.Kernel6.Gen.frame m ρ,
   fun m ρ _ => Cert.Kernel6Ideal.Gen.frame m ρ,
   Cert.Reference6Ideal.Product.frame,
   fun m ρ _ => Cert.Kernel7.Gen.frame m ρ,
   fun m ρ _ => Cert.Kernel7Ideal.Gen.frame m ρ,
   Cert.Reference7Ideal.Product.frame,
   fun m ρ _ => Cert.Kernel8.Gen.frame m ρ,
   fun m ρ _ => Cert.Kernel8Ideal.Gen.frame m ρ,
   Cert.Reference8Ideal.Product.frame,
   fun m ρ _ => Cert.Kernel9.Gen.frame m ρ,
   fun m ρ _ => Cert.Kernel9Ideal.Gen.frame m ρ,
   Cert.Reference9Ideal.Product.frame,
   fun m ρ _ => Cert.Kernel10.Gen.frame m ρ,
   fun m ρ _ => Cert.Kernel10Ideal.Gen.frame m ρ,
   Cert.Reference10Ideal.Product.frame,
   fun m ρ _ => Cert.Kernel11.Gen.frame m ρ,
   fun m ρ _ => Cert.Kernel11Ideal.Gen.frame m ρ,
   Cert.Reference11Ideal.Step.frame,
   fun m ρ _ => Cert.Kernel12.Gen.frame m ρ,
   fun m ρ _ => Cert.Kernel12Ideal.Gen.frame m ρ,
   Cert.Reference12Ideal.Step.frame,
   fun m ρ _ => Cert.Kernel13.Gen.frame m ρ,
   fun m ρ _ => Cert.Kernel13Ideal.Gen.frame m ρ,
   Cert.Reference13Ideal.Step.frame,
   fun m ρ _ => Cert.Kernel14.Gen.frame m ρ,
   fun m ρ _ => Cert.Kernel14Ideal.Gen.frame m ρ,
   Cert.Reference14Ideal.Product.frame,
   fun m ρ _ => Cert.Kernel15.Gen.frame m ρ,
   fun m ρ _ => Cert.Kernel15Ideal.Gen.frame m ρ,
   Cert.Reference15Ideal.Product.frame,
   fun m ρ _ => Cert.Kernel16.Gen.frame m ρ,
   fun m ρ _ => Cert.Kernel16Ideal.Gen.frame m ρ,
   Cert.Reference16Ideal.Step.frame,
   Cert.Kernel17Ideal.Grad.frame_compiled,
   Cert.Kernel17Ideal.Grad.frame,
   Cert.Reference17Ideal.Grad.frame,
   Cert.Kernel18Ideal.Grad.frame_compiled,
   Cert.Kernel18Ideal.Grad.frame,
   Cert.Reference18Ideal.Grad.frame,
   fun m ρ _ => Cert.Kernel19.Gen.frame m ρ,
   fun m ρ _ => Cert.Kernel19Ideal.Gen.frame m ρ,
   Cert.Reference19Ideal.Step.frame,
   fun m ρ _ => Cert.Kernel20.Gen.frame m ρ,
   fun m ρ _ => Cert.Kernel20Ideal.Gen.frame m ρ,
   Cert.Reference20Ideal.Step.frame,
   fun m ρ _ => Cert.Kernel21.Gen.frame m ρ,
   fun m ρ _ => Cert.Kernel21Ideal.Gen.frame m ρ,
   Cert.Reference21Ideal.Step.frame,
   trivial,
   algebraic,
   trivial,
   algebraic2,
   trivial,
   algebraic3,
   trivial,
   algebraic4,
   trivial,
   algebraic5,
   trivial,
   algebraic6,
   trivial,
   algebraic7,
   trivial,
   algebraic8,
   trivial,
   algebraic9,
   trivial,
   algebraic10,
   trivial,
   algebraic11,
   trivial,
   algebraic12,
   trivial,
   algebraic13,
   trivial,
   algebraic14,
   trivial,
   algebraic15,
   trivial,
   algebraic16,
   trivial,
   algebraic17,
   trivial,
   algebraic18,
   trivial,
   algebraic19,
   trivial,
   algebraic20,
   trivial,
   algebraic21⟩

end Cert.Proof

end
